-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_q" .f32 0x3A2AAAAB#32 ((1 / 1536 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x5120 : Shape := ⟨3, ![4, 384, 5120]⟩
abbrev S4x384x40 : Shape := ⟨3, ![4, 384, 40]⟩
abbrev S576x5120 : Shape := ⟨2, ![576, 5120]⟩
abbrev S5x40 : Shape := ⟨2, ![5, 40]⟩
abbrev S512 : Shape := ⟨1, ![512]⟩
abbrev S4x384 : Shape := ⟨2, ![4, 384]⟩
abbrev S4x384x512 : Shape := ⟨3, ![4, 384, 512]⟩
abbrev S4x384x64 : Shape := ⟨3, ![4, 384, 64]⟩
abbrev S1536x5120 : Shape := ⟨2, ![1536, 5120]⟩
abbrev S12x40 : Shape := ⟨2, ![12, 40]⟩
abbrev S1536 : Shape := ⟨1, ![1536]⟩
abbrev S4x384x1536 : Shape := ⟨3, ![4, 384, 1536]⟩
abbrev S1x512 : Shape := ⟨2, ![1, 512]⟩
abbrev S1x1536 : Shape := ⟨2, ![1, 1536]⟩
abbrev S4x3x128 : Shape := ⟨3, ![4, 3, 128]⟩
abbrev S4x3x512 : Shape := ⟨3, ![4, 3, 512]⟩
abbrev S4x3x1536 : Shape := ⟨3, ![4, 3, 1536]⟩
abbrev S4x384x576 : Shape := ⟨3, ![4, 384, 576]⟩
abbrev S4x384x5 : Shape := ⟨3, ![4, 384, 5]⟩
abbrev S4x384x12 : Shape := ⟨3, ![4, 384, 12]⟩
abbrev S1x384x5120 : Shape := ⟨3, ![1, 384, 5120]⟩
abbrev S1x384x40 : Shape := ⟨3, ![1, 384, 40]⟩
abbrev S1x3x128 : Shape := ⟨3, ![1, 3, 128]⟩
abbrev S1x384x512 : Shape := ⟨3, ![1, 384, 512]⟩
abbrev S1x384x64 : Shape := ⟨3, ![1, 384, 64]⟩
abbrev S1x384x1536 : Shape := ⟨3, ![1, 384, 1536]⟩
abbrev S1x3x512 : Shape := ⟨3, ![1, 3, 512]⟩
abbrev S1x3x1536 : Shape := ⟨3, ![1, 3, 1536]⟩
abbrev S1x384x576 : Shape := ⟨3, ![1, 384, 576]⟩
abbrev S1x384x5 : Shape := ⟨3, ![1, 384, 5]⟩
abbrev S1x384x12 : Shape := ⟨3, ![1, 384, 12]⟩
abbrev S2304x5120 : Shape := ⟨2, ![2304, 5120]⟩
abbrev S384x5120 : Shape := ⟨2, ![384, 5120]⟩
abbrev S384x2048 : Shape := ⟨2, ![384, 2048]⟩
abbrev S384x2304 : Shape := ⟨2, ![384, 2304]⟩
abbrev S12x8x512 : Shape := ⟨3, ![12, 8, 512]⟩
abbrev S12x8x1536 : Shape := ⟨3, ![12, 8, 1536]⟩
abbrev S1x1 : Shape := ⟨2, ![1, 1]⟩
abbrev S128x128 : Shape := ⟨2, ![128, 128]⟩
abbrev S64x128 : Shape := ⟨2, ![64, 128]⟩
abbrev S192x5120 : Shape := ⟨2, ![192, 5120]⟩
abbrev S384x256 : Shape := ⟨2, ![384, 256]⟩
abbrev S1x32x40 : Shape := ⟨3, ![1, 32, 40]⟩
abbrev S32x40 : Shape := ⟨2, ![32, 40]⟩
abbrev S32x1 : Shape := ⟨2, ![32, 1]⟩
abbrev S32x128 : Shape := ⟨2, ![32, 128]⟩
abbrev S1x32x128 : Shape := ⟨3, ![1, 32, 128]⟩
abbrev S512x5120 : Shape := ⟨2, ![512, 5120]⟩
abbrev S384x512 : Shape := ⟨2, ![384, 512]⟩
abbrev S1x128 : Shape := ⟨2, ![1, 128]⟩
abbrev S32 : Shape := ⟨1, ![32]⟩
abbrev S4x8x128 : Shape := ⟨3, ![4, 8, 128]⟩
abbrev S8x128 : Shape := ⟨2, ![8, 128]⟩
abbrev S1x8x128 : Shape := ⟨3, ![1, 8, 128]⟩
abbrev S384x1536 : Shape := ⟨2, ![384, 1536]⟩
abbrev S1x1x128 : Shape := ⟨3, ![1, 1, 128]⟩
abbrev S1x64 : Shape := ⟨2, ![1, 64]⟩
abbrev S32x64 : Shape := ⟨2, ![32, 64]⟩
abbrev S1x32x64 : Shape := ⟨3, ![1, 32, 64]⟩
abbrev S32x4 : Shape := ⟨2, ![32, 4]⟩
abbrev S1x32x4 : Shape := ⟨3, ![1, 32, 4]⟩
abbrev S1x32x1 : Shape := ⟨3, ![1, 32, 1]⟩
abbrev S32x12 : Shape := ⟨2, ![32, 12]⟩
abbrev S1x32x12 : Shape := ⟨3, ![1, 32, 12]⟩
abbrev S4x8x512 : Shape := ⟨3, ![4, 8, 512]⟩
abbrev S8x512 : Shape := ⟨2, ![8, 512]⟩
abbrev S1x1x512 : Shape := ⟨3, ![1, 1, 512]⟩
abbrev S4x8x1536 : Shape := ⟨3, ![4, 8, 1536]⟩
abbrev S8x1536 : Shape := ⟨2, ![8, 1536]⟩
abbrev S1x1x1536 : Shape := ⟨3, ![1, 1, 1536]⟩
abbrev S2304x512 : Shape := ⟨2, ![2304, 512]⟩

abbrev nBuf : Space → Nat
  | .hbm => 22
  | .vmem => 36
  | .smem => 2
  | _ => 0

abbrev bufTy : (tb : Table) → Fin (tcTables nBuf tb) → BufTy
  | .hbm, ⟨0, _⟩ => ⟨S4x384x5120, .fp8e4m3⟩
  | .hbm, ⟨1, _⟩ => ⟨S4x384x40, .f32⟩
  | .hbm, ⟨2, _⟩ => ⟨S576x5120, .fp8e4m3⟩
  | .hbm, ⟨3, _⟩ => ⟨S5x40, .f32⟩
  | .hbm, ⟨4, _⟩ => ⟨S512, .f32⟩
  | .hbm, ⟨5, _⟩ => ⟨S4x384, .i32⟩
  | .hbm, ⟨6, _⟩ => ⟨S4x384x512, .bf16⟩
  | .hbm, ⟨7, _⟩ => ⟨S4x384x64, .bf16⟩
  | .hbm, ⟨8, _⟩ => ⟨S1536x5120, .fp8e4m3⟩
  | .hbm, ⟨9, _⟩ => ⟨S12x40, .f32⟩
  | .hbm, ⟨10, _⟩ => ⟨S1536, .f32⟩
  | .hbm, ⟨11, _⟩ => ⟨S4x384x1536, .bf16⟩
  | .hbm, ⟨12, _⟩ => ⟨S1x512, .f32⟩
  | .hbm, ⟨13, _⟩ => ⟨S1x1536, .f32⟩
  | .hbm, ⟨14, _⟩ => ⟨S4x3x128, .i32⟩
  | .hbm, ⟨15, _⟩ => ⟨S4x384x5120, .bf16⟩
  | .hbm, ⟨16, _⟩ => ⟨S4x3x512, .f32⟩
  | .hbm, ⟨17, _⟩ => ⟨S4x3x1536, .f32⟩
  | .hbm, ⟨18, _⟩ => ⟨S4x384x576, .fp8e5m2⟩
  | .hbm, ⟨19, _⟩ => ⟨S4x384x5, .f32⟩
  | .hbm, ⟨20, _⟩ => ⟨S4x384x1536, .fp8e5m2⟩
  | .hbm, ⟨21, _⟩ => ⟨S4x384x12, .f32⟩
  | .local _ .vmem, ⟨0, _⟩ => ⟨S1x384x5120, .fp8e4m3⟩
  | .local _ .vmem, ⟨1, _⟩ => ⟨S1x384x5120, .fp8e4m3⟩
  | .local _ .vmem, ⟨2, _⟩ => ⟨S1x384x40, .f32⟩
  | .local _ .vmem, ⟨3, _⟩ => ⟨S1x384x40, .f32⟩
  | .local _ .vmem, ⟨4, _⟩ => ⟨S576x5120, .fp8e4m3⟩
  | .local _ .vmem, ⟨5, _⟩ => ⟨S1536x5120, .fp8e4m3⟩
  | .local _ .vmem, ⟨6, _⟩ => ⟨S1x512, .f32⟩
  | .local _ .vmem, ⟨7, _⟩ => ⟨S1x1536, .f32⟩
  | .local _ .vmem, ⟨8, _⟩ => ⟨S1x3x128, .i32⟩
  | .local _ .vmem, ⟨9, _⟩ => ⟨S1x3x128, .i32⟩
  | .local _ .vmem, ⟨10, _⟩ => ⟨S1x384x512, .bf16⟩
  | .local _ .vmem, ⟨11, _⟩ => ⟨S1x384x512, .bf16⟩
  | .local _ .vmem, ⟨12, _⟩ => ⟨S1x384x64, .bf16⟩
  | .local _ .vmem, ⟨13, _⟩ => ⟨S1x384x64, .bf16⟩
  | .local _ .vmem, ⟨14, _⟩ => ⟨S1x384x1536, .bf16⟩
  | .local _ .vmem, ⟨15, _⟩ => ⟨S1x384x1536, .bf16⟩
  | .local _ .vmem, ⟨16, _⟩ => ⟨S1x384x5120, .bf16⟩
  | .local _ .vmem, ⟨17, _⟩ => ⟨S1x384x5120, .bf16⟩
  | .local _ .vmem, ⟨18, _⟩ => ⟨S1x3x512, .f32⟩
  | .local _ .vmem, ⟨19, _⟩ => ⟨S1x3x512, .f32⟩
  | .local _ .vmem, ⟨20, _⟩ => ⟨S1x3x1536, .f32⟩
  | .local _ .vmem, ⟨21, _⟩ => ⟨S1x3x1536, .f32⟩
  | .local _ .vmem, ⟨22, _⟩ => ⟨S1x384x576, .fp8e5m2⟩
  | .local _ .vmem, ⟨23, _⟩ => ⟨S1x384x576, .fp8e5m2⟩
  | .local _ .vmem, ⟨24, _⟩ => ⟨S1x384x5, .f32⟩
  | .local _ .vmem, ⟨25, _⟩ => ⟨S1x384x5, .f32⟩
  | .local _ .vmem, ⟨26, _⟩ => ⟨S1x384x1536, .fp8e5m2⟩
  | .local _ .vmem, ⟨27, _⟩ => ⟨S1x384x1536, .fp8e5m2⟩
  | .local _ .vmem, ⟨28, _⟩ => ⟨S1x384x12, .f32⟩
  | .local _ .vmem, ⟨29, _⟩ => ⟨S1x384x12, .f32⟩
  | .local _ .vmem, ⟨30, _⟩ => ⟨S2304x5120, .bf16⟩
  | .local _ .vmem, ⟨31, _⟩ => ⟨S384x5120, .bf16⟩
  | .local _ .vmem, ⟨32, _⟩ => ⟨S384x2048, .bf16⟩
  | .local _ .vmem, ⟨33, _⟩ => ⟨S384x2304, .bf16⟩
  | .local _ .vmem, ⟨34, _⟩ => ⟨S12x8x512, .f32⟩
  | .local _ .vmem, ⟨35, _⟩ => ⟨S12x8x1536, .f32⟩
  | .local _ .smem, ⟨0, _⟩ => ⟨S5x40, .f32⟩
  | .local _ .smem, ⟨1, _⟩ => ⟨S12x40, .f32⟩
  | _, _ => ⟨S4x384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_55 : BitVec 32 := 0#32
  let c4_i32_56 : BitVec 32 := 4#32
  let v49 : BitVec 32 := Scalar.addi c0_i32_55 c4_i32_56
  let c1_i32_57 : BitVec 32 := 1#32
  ⟨c0_i32_55, v49, c1_i32_57⟩
def k0_mult1 (k0_t1 : Fin k0_t1_loop.trips) : BitVec 32 :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  v421
def k0_off1 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v423 : Index := Scalar.indexCast v420
  let c0_236 : Index := 0#32
  ![v423.toNat, 0]
def k0_off2 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v427 : Index := Scalar.indexCast v422
  let c0_237 : Index := 0#32
  ![v427.toNat, 0]
def k0_off3 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v431 : Index := Scalar.indexCast v422
  let c0_238 : Index := 0#32
  ![v431.toNat, 0]
def k0_off4 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v435 : Index := Scalar.indexCast v420
  let c1_239 : Index := 1#32
  ![v435.toNat, 1]
def k0_off5 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v439 : Index := Scalar.indexCast v422
  let c128_240 : Index := 128#32
  ![v439.toNat, 128]
def k0_off6 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v443 : Index := Scalar.indexCast v422
  let c128_241 : Index := 128#32
  ![v443.toNat, 128]
def k0_off7 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v447 : Index := Scalar.indexCast v420
  let c2_242 : Index := 2#32
  ![v447.toNat, 2]
def k0_off8 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v451 : Index := Scalar.indexCast v422
  let c256_243 : Index := 256#32
  ![v451.toNat, 256]
def k0_off9 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v455 : Index := Scalar.indexCast v422
  let c256_244 : Index := 256#32
  ![v455.toNat, 256]
def k0_off10 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v459 : Index := Scalar.indexCast v420
  let c3_245 : Index := 3#32
  ![v459.toNat, 3]
def k0_off11 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v463 : Index := Scalar.indexCast v422
  let c384_246 : Index := 384#32
  ![v463.toNat, 384]
def k0_off12 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v467 : Index := Scalar.indexCast v422
  let c384_247 : Index := 384#32
  ![v467.toNat, 384]
def k0_off13 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v471 : Index := Scalar.indexCast v420
  let c4_248 : Index := 4#32
  ![v471.toNat, 4]
def k0_off14 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v475 : Index := Scalar.indexCast v422
  let c512_249 : Index := 512#32
  ![v475.toNat, 512]
def k0_off15 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v479 : Index := Scalar.indexCast v422
  let c512_250 : Index := 512#32
  ![v479.toNat, 512]
def k0_off16 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v483 : Index := Scalar.indexCast v420
  let c5_251 : Index := 5#32
  ![v483.toNat, 5]
def k0_off17 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v487 : Index := Scalar.indexCast v422
  let c640_252 : Index := 640#32
  ![v487.toNat, 640]
def k0_off18 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v491 : Index := Scalar.indexCast v422
  let c640_253 : Index := 640#32
  ![v491.toNat, 640]
def k0_off19 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v495 : Index := Scalar.indexCast v420
  let c6_254 : Index := 6#32
  ![v495.toNat, 6]
def k0_off20 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v499 : Index := Scalar.indexCast v422
  let c768_255 : Index := 768#32
  ![v499.toNat, 768]
def k0_off21 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v503 : Index := Scalar.indexCast v422
  let c768_256 : Index := 768#32
  ![v503.toNat, 768]
def k0_off22 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v507 : Index := Scalar.indexCast v420
  let c7_257 : Index := 7#32
  ![v507.toNat, 7]
def k0_off23 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v511 : Index := Scalar.indexCast v422
  let c896_258 : Index := 896#32
  ![v511.toNat, 896]
def k0_off24 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v515 : Index := Scalar.indexCast v422
  let c896_259 : Index := 896#32
  ![v515.toNat, 896]
def k0_off25 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v519 : Index := Scalar.indexCast v420
  let c8_260 : Index := 8#32
  ![v519.toNat, 8]
def k0_off26 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v523 : Index := Scalar.indexCast v422
  let c1024_261 : Index := 1024#32
  ![v523.toNat, 1024]
def k0_off27 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v527 : Index := Scalar.indexCast v422
  let c1024_262 : Index := 1024#32
  ![v527.toNat, 1024]
def k0_off28 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v531 : Index := Scalar.indexCast v420
  let c9_263 : Index := 9#32
  ![v531.toNat, 9]
def k0_off29 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v535 : Index := Scalar.indexCast v422
  let c1152_264 : Index := 1152#32
  ![v535.toNat, 1152]
def k0_off30 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v539 : Index := Scalar.indexCast v422
  let c1152_265 : Index := 1152#32
  ![v539.toNat, 1152]
def k0_off31 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v543 : Index := Scalar.indexCast v420
  let c10_266 : Index := 10#32
  ![v543.toNat, 10]
def k0_off32 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v547 : Index := Scalar.indexCast v422
  let c1280_267 : Index := 1280#32
  ![v547.toNat, 1280]
def k0_off33 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v551 : Index := Scalar.indexCast v422
  let c1280_268 : Index := 1280#32
  ![v551.toNat, 1280]
def k0_off34 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v555 : Index := Scalar.indexCast v420
  let c11_269 : Index := 11#32
  ![v555.toNat, 11]
def k0_off35 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v559 : Index := Scalar.indexCast v422
  let c1408_270 : Index := 1408#32
  ![v559.toNat, 1408]
def k0_off36 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v563 : Index := Scalar.indexCast v422
  let c1408_271 : Index := 1408#32
  ![v563.toNat, 1408]
def k0_off37 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v567 : Index := Scalar.indexCast v420
  let c12_272 : Index := 12#32
  ![v567.toNat, 12]
def k0_off38 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v571 : Index := Scalar.indexCast v422
  let c1536_273 : Index := 1536#32
  ![v571.toNat, 1536]
def k0_off39 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v575 : Index := Scalar.indexCast v422
  let c1536_274 : Index := 1536#32
  ![v575.toNat, 1536]
def k0_off40 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v579 : Index := Scalar.indexCast v420
  let c13_275 : Index := 13#32
  ![v579.toNat, 13]
def k0_off41 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v583 : Index := Scalar.indexCast v422
  let c1664_276 : Index := 1664#32
  ![v583.toNat, 1664]
def k0_off42 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v587 : Index := Scalar.indexCast v422
  let c1664_277 : Index := 1664#32
  ![v587.toNat, 1664]
def k0_off43 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v591 : Index := Scalar.indexCast v420
  let c14_278 : Index := 14#32
  ![v591.toNat, 14]
def k0_off44 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v595 : Index := Scalar.indexCast v422
  let c1792_279 : Index := 1792#32
  ![v595.toNat, 1792]
def k0_off45 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v599 : Index := Scalar.indexCast v422
  let c1792_280 : Index := 1792#32
  ![v599.toNat, 1792]
def k0_off46 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v603 : Index := Scalar.indexCast v420
  let c15_281 : Index := 15#32
  ![v603.toNat, 15]
def k0_off47 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v607 : Index := Scalar.indexCast v422
  let c1920_282 : Index := 1920#32
  ![v607.toNat, 1920]
def k0_off48 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v611 : Index := Scalar.indexCast v422
  let c1920_283 : Index := 1920#32
  ![v611.toNat, 1920]
def k0_off49 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v615 : Index := Scalar.indexCast v420
  let c16_284 : Index := 16#32
  ![v615.toNat, 16]
def k0_off50 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v619 : Index := Scalar.indexCast v422
  let c2048_285 : Index := 2048#32
  ![v619.toNat, 2048]
def k0_off51 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v623 : Index := Scalar.indexCast v422
  let c2048_286 : Index := 2048#32
  ![v623.toNat, 2048]
def k0_off52 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v627 : Index := Scalar.indexCast v420
  let c17_287 : Index := 17#32
  ![v627.toNat, 17]
def k0_off53 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v631 : Index := Scalar.indexCast v422
  let c2176_288 : Index := 2176#32
  ![v631.toNat, 2176]
def k0_off54 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v635 : Index := Scalar.indexCast v422
  let c2176_289 : Index := 2176#32
  ![v635.toNat, 2176]
def k0_off55 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v639 : Index := Scalar.indexCast v420
  let c18_290 : Index := 18#32
  ![v639.toNat, 18]
def k0_off56 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v643 : Index := Scalar.indexCast v422
  let c2304_291 : Index := 2304#32
  ![v643.toNat, 2304]
def k0_off57 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v647 : Index := Scalar.indexCast v422
  let c2304_292 : Index := 2304#32
  ![v647.toNat, 2304]
def k0_off58 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v651 : Index := Scalar.indexCast v420
  let c19_293 : Index := 19#32
  ![v651.toNat, 19]
def k0_off59 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v655 : Index := Scalar.indexCast v422
  let c2432_294 : Index := 2432#32
  ![v655.toNat, 2432]
def k0_off60 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v659 : Index := Scalar.indexCast v422
  let c2432_295 : Index := 2432#32
  ![v659.toNat, 2432]
def k0_off61 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v663 : Index := Scalar.indexCast v420
  let c20_296 : Index := 20#32
  ![v663.toNat, 20]
def k0_off62 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v667 : Index := Scalar.indexCast v422
  let c2560_297 : Index := 2560#32
  ![v667.toNat, 2560]
def k0_off63 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v671 : Index := Scalar.indexCast v422
  let c2560_298 : Index := 2560#32
  ![v671.toNat, 2560]
def k0_off64 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v675 : Index := Scalar.indexCast v420
  let c21_299 : Index := 21#32
  ![v675.toNat, 21]
def k0_off65 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v679 : Index := Scalar.indexCast v422
  let c2688_300 : Index := 2688#32
  ![v679.toNat, 2688]
def k0_off66 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v683 : Index := Scalar.indexCast v422
  let c2688_301 : Index := 2688#32
  ![v683.toNat, 2688]
def k0_off67 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v687 : Index := Scalar.indexCast v420
  let c22_302 : Index := 22#32
  ![v687.toNat, 22]
def k0_off68 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v691 : Index := Scalar.indexCast v422
  let c2816_303 : Index := 2816#32
  ![v691.toNat, 2816]
def k0_off69 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v695 : Index := Scalar.indexCast v422
  let c2816_304 : Index := 2816#32
  ![v695.toNat, 2816]
def k0_off70 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v699 : Index := Scalar.indexCast v420
  let c23_305 : Index := 23#32
  ![v699.toNat, 23]
def k0_off71 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v703 : Index := Scalar.indexCast v422
  let c2944_306 : Index := 2944#32
  ![v703.toNat, 2944]
def k0_off72 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v707 : Index := Scalar.indexCast v422
  let c2944_307 : Index := 2944#32
  ![v707.toNat, 2944]
def k0_off73 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v711 : Index := Scalar.indexCast v420
  let c24_308 : Index := 24#32
  ![v711.toNat, 24]
def k0_off74 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v715 : Index := Scalar.indexCast v422
  let c3072_309 : Index := 3072#32
  ![v715.toNat, 3072]
def k0_off75 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v719 : Index := Scalar.indexCast v422
  let c3072_310 : Index := 3072#32
  ![v719.toNat, 3072]
def k0_off76 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v723 : Index := Scalar.indexCast v420
  let c25_311 : Index := 25#32
  ![v723.toNat, 25]
def k0_off77 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v727 : Index := Scalar.indexCast v422
  let c3200_312 : Index := 3200#32
  ![v727.toNat, 3200]
def k0_off78 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v731 : Index := Scalar.indexCast v422
  let c3200_313 : Index := 3200#32
  ![v731.toNat, 3200]
def k0_off79 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v735 : Index := Scalar.indexCast v420
  let c26_314 : Index := 26#32
  ![v735.toNat, 26]
def k0_off80 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v739 : Index := Scalar.indexCast v422
  let c3328_315 : Index := 3328#32
  ![v739.toNat, 3328]
def k0_off81 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v743 : Index := Scalar.indexCast v422
  let c3328_316 : Index := 3328#32
  ![v743.toNat, 3328]
def k0_off82 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v747 : Index := Scalar.indexCast v420
  let c27_317 : Index := 27#32
  ![v747.toNat, 27]
def k0_off83 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v751 : Index := Scalar.indexCast v422
  let c3456_318 : Index := 3456#32
  ![v751.toNat, 3456]
def k0_off84 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v755 : Index := Scalar.indexCast v422
  let c3456_319 : Index := 3456#32
  ![v755.toNat, 3456]
def k0_off85 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v759 : Index := Scalar.indexCast v420
  let c28_320 : Index := 28#32
  ![v759.toNat, 28]
def k0_off86 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v763 : Index := Scalar.indexCast v422
  let c3584_321 : Index := 3584#32
  ![v763.toNat, 3584]
def k0_off87 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v767 : Index := Scalar.indexCast v422
  let c3584_322 : Index := 3584#32
  ![v767.toNat, 3584]
def k0_off88 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v771 : Index := Scalar.indexCast v420
  let c29_323 : Index := 29#32
  ![v771.toNat, 29]
def k0_off89 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v775 : Index := Scalar.indexCast v422
  let c3712_324 : Index := 3712#32
  ![v775.toNat, 3712]
def k0_off90 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v779 : Index := Scalar.indexCast v422
  let c3712_325 : Index := 3712#32
  ![v779.toNat, 3712]
def k0_off91 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v783 : Index := Scalar.indexCast v420
  let c30_326 : Index := 30#32
  ![v783.toNat, 30]
def k0_off92 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v787 : Index := Scalar.indexCast v422
  let c3840_327 : Index := 3840#32
  ![v787.toNat, 3840]
def k0_off93 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v791 : Index := Scalar.indexCast v422
  let c3840_328 : Index := 3840#32
  ![v791.toNat, 3840]
def k0_off94 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v795 : Index := Scalar.indexCast v420
  let c31_329 : Index := 31#32
  ![v795.toNat, 31]
def k0_off95 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v799 : Index := Scalar.indexCast v422
  let c3968_330 : Index := 3968#32
  ![v799.toNat, 3968]
def k0_off96 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v803 : Index := Scalar.indexCast v422
  let c3968_331 : Index := 3968#32
  ![v803.toNat, 3968]
def k0_off97 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v807 : Index := Scalar.indexCast v420
  let c32_332 : Index := 32#32
  ![v807.toNat, 32]
def k0_off98 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v811 : Index := Scalar.indexCast v422
  let c4096_333 : Index := 4096#32
  ![v811.toNat, 4096]
def k0_off99 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v815 : Index := Scalar.indexCast v422
  let c4096_334 : Index := 4096#32
  ![v815.toNat, 4096]
def k0_off100 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v819 : Index := Scalar.indexCast v420
  let c33_335 : Index := 33#32
  ![v819.toNat, 33]
def k0_off101 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v823 : Index := Scalar.indexCast v422
  let c4224_336 : Index := 4224#32
  ![v823.toNat, 4224]
def k0_off102 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v827 : Index := Scalar.indexCast v422
  let c4224_337 : Index := 4224#32
  ![v827.toNat, 4224]
def k0_off103 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v831 : Index := Scalar.indexCast v420
  let c34_338 : Index := 34#32
  ![v831.toNat, 34]
def k0_off104 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v835 : Index := Scalar.indexCast v422
  let c4352_339 : Index := 4352#32
  ![v835.toNat, 4352]
def k0_off105 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v839 : Index := Scalar.indexCast v422
  let c4352_340 : Index := 4352#32
  ![v839.toNat, 4352]
def k0_off106 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v843 : Index := Scalar.indexCast v420
  let c35_341 : Index := 35#32
  ![v843.toNat, 35]
def k0_off107 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v847 : Index := Scalar.indexCast v422
  let c4480_342 : Index := 4480#32
  ![v847.toNat, 4480]
def k0_off108 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v851 : Index := Scalar.indexCast v422
  let c4480_343 : Index := 4480#32
  ![v851.toNat, 4480]
def k0_off109 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v855 : Index := Scalar.indexCast v420
  let c36_344 : Index := 36#32
  ![v855.toNat, 36]
def k0_off110 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v859 : Index := Scalar.indexCast v422
  let c4608_345 : Index := 4608#32
  ![v859.toNat, 4608]
def k0_off111 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v863 : Index := Scalar.indexCast v422
  let c4608_346 : Index := 4608#32
  ![v863.toNat, 4608]
def k0_off112 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v867 : Index := Scalar.indexCast v420
  let c37_347 : Index := 37#32
  ![v867.toNat, 37]
def k0_off113 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v871 : Index := Scalar.indexCast v422
  let c4736_348 : Index := 4736#32
  ![v871.toNat, 4736]
def k0_off114 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v875 : Index := Scalar.indexCast v422
  let c4736_349 : Index := 4736#32
  ![v875.toNat, 4736]
def k0_off115 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v879 : Index := Scalar.indexCast v420
  let c38_350 : Index := 38#32
  ![v879.toNat, 38]
def k0_off116 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v883 : Index := Scalar.indexCast v422
  let c4864_351 : Index := 4864#32
  ![v883.toNat, 4864]
def k0_off117 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v887 : Index := Scalar.indexCast v422
  let c4864_352 : Index := 4864#32
  ![v887.toNat, 4864]
def k0_off118 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let v891 : Index := Scalar.indexCast v420
  let c39_353 : Index := 39#32
  ![v891.toNat, 39]
def k0_off119 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v895 : Index := Scalar.indexCast v422
  let c4992_354 : Index := 4992#32
  ![v895.toNat, 4992]
def k0_off120 (k0_t1 : Fin k0_t1_loop.trips) : Fin 2 → Nat :=
  let c0_i32_235 : BitVec 32 := 0#32
  let c0_i32_55 : BitVec 32 := 0#32
  let c1_i32_57 : BitVec 32 := 1#32
  let arg26 : BitVec 32 := Scf.iv c0_i32_55 c1_i32_57 k0_t1
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v899 : Index := Scalar.indexCast v422
  let c4992_355 : Index := 4992#32
  ![v899.toNat, 4992]
@[reducible] def k0_t2_loop : Scf.Loop 32 :=
  let c0_i32_59 : BitVec 32 := 0#32
  let c12_i32_60 : BitVec 32 := 12#32
  let v50 : BitVec 32 := Scalar.addi c0_i32_59 c12_i32_60
  let c1_i32_61 : BitVec 32 := 1#32
  ⟨c0_i32_59, v50, c1_i32_61⟩
def k0_mult2 (k0_t2 : Fin k0_t2_loop.trips) : BitVec 32 :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  v421
def k0_mult3 (k0_t2 : Fin k0_t2_loop.trips) : BitVec 32 :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  v423
def k0_off121 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v425 : Index := Scalar.indexCast v420
  let c0_236 : Index := 0#32
  ![v425.toNat, 0]
def k0_off122 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v429 : Index := Scalar.indexCast v422
  let c0_237 : Index := 0#32
  ![v429.toNat, 0]
def k0_off123 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v433 : Index := Scalar.indexCast v424
  let c0_238 : Index := 0#32
  ![v433.toNat, 0]
def k0_off124 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v437 : Index := Scalar.indexCast v420
  let c1_239 : Index := 1#32
  ![v437.toNat, 1]
def k0_off125 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v441 : Index := Scalar.indexCast v422
  let c128_240 : Index := 128#32
  ![v441.toNat, 128]
def k0_off126 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v445 : Index := Scalar.indexCast v424
  let c128_241 : Index := 128#32
  ![v445.toNat, 128]
def k0_off127 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v449 : Index := Scalar.indexCast v420
  let c2_242 : Index := 2#32
  ![v449.toNat, 2]
def k0_off128 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v453 : Index := Scalar.indexCast v422
  let c256_243 : Index := 256#32
  ![v453.toNat, 256]
def k0_off129 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v457 : Index := Scalar.indexCast v424
  let c256_244 : Index := 256#32
  ![v457.toNat, 256]
def k0_off130 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v461 : Index := Scalar.indexCast v420
  let c3_245 : Index := 3#32
  ![v461.toNat, 3]
def k0_off131 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v465 : Index := Scalar.indexCast v422
  let c384_246 : Index := 384#32
  ![v465.toNat, 384]
def k0_off132 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v469 : Index := Scalar.indexCast v424
  let c384_247 : Index := 384#32
  ![v469.toNat, 384]
def k0_off133 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v473 : Index := Scalar.indexCast v420
  let c4_248 : Index := 4#32
  ![v473.toNat, 4]
def k0_off134 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v477 : Index := Scalar.indexCast v422
  let c512_249 : Index := 512#32
  ![v477.toNat, 512]
def k0_off135 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v481 : Index := Scalar.indexCast v424
  let c512_250 : Index := 512#32
  ![v481.toNat, 512]
def k0_off136 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v485 : Index := Scalar.indexCast v420
  let c5_251 : Index := 5#32
  ![v485.toNat, 5]
def k0_off137 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v489 : Index := Scalar.indexCast v422
  let c640_252 : Index := 640#32
  ![v489.toNat, 640]
def k0_off138 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v493 : Index := Scalar.indexCast v424
  let c640_253 : Index := 640#32
  ![v493.toNat, 640]
def k0_off139 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v497 : Index := Scalar.indexCast v420
  let c6_254 : Index := 6#32
  ![v497.toNat, 6]
def k0_off140 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v501 : Index := Scalar.indexCast v422
  let c768_255 : Index := 768#32
  ![v501.toNat, 768]
def k0_off141 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v505 : Index := Scalar.indexCast v424
  let c768_256 : Index := 768#32
  ![v505.toNat, 768]
def k0_off142 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v509 : Index := Scalar.indexCast v420
  let c7_257 : Index := 7#32
  ![v509.toNat, 7]
def k0_off143 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v513 : Index := Scalar.indexCast v422
  let c896_258 : Index := 896#32
  ![v513.toNat, 896]
def k0_off144 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v517 : Index := Scalar.indexCast v424
  let c896_259 : Index := 896#32
  ![v517.toNat, 896]
def k0_off145 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v521 : Index := Scalar.indexCast v420
  let c8_260 : Index := 8#32
  ![v521.toNat, 8]
def k0_off146 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v525 : Index := Scalar.indexCast v422
  let c1024_261 : Index := 1024#32
  ![v525.toNat, 1024]
def k0_off147 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v529 : Index := Scalar.indexCast v424
  let c1024_262 : Index := 1024#32
  ![v529.toNat, 1024]
def k0_off148 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v533 : Index := Scalar.indexCast v420
  let c9_263 : Index := 9#32
  ![v533.toNat, 9]
def k0_off149 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v537 : Index := Scalar.indexCast v422
  let c1152_264 : Index := 1152#32
  ![v537.toNat, 1152]
def k0_off150 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v541 : Index := Scalar.indexCast v424
  let c1152_265 : Index := 1152#32
  ![v541.toNat, 1152]
def k0_off151 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v545 : Index := Scalar.indexCast v420
  let c10_266 : Index := 10#32
  ![v545.toNat, 10]
def k0_off152 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v549 : Index := Scalar.indexCast v422
  let c1280_267 : Index := 1280#32
  ![v549.toNat, 1280]
def k0_off153 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v553 : Index := Scalar.indexCast v424
  let c1280_268 : Index := 1280#32
  ![v553.toNat, 1280]
def k0_off154 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v557 : Index := Scalar.indexCast v420
  let c11_269 : Index := 11#32
  ![v557.toNat, 11]
def k0_off155 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v561 : Index := Scalar.indexCast v422
  let c1408_270 : Index := 1408#32
  ![v561.toNat, 1408]
def k0_off156 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v565 : Index := Scalar.indexCast v424
  let c1408_271 : Index := 1408#32
  ![v565.toNat, 1408]
def k0_off157 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v569 : Index := Scalar.indexCast v420
  let c12_272 : Index := 12#32
  ![v569.toNat, 12]
def k0_off158 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v573 : Index := Scalar.indexCast v422
  let c1536_273 : Index := 1536#32
  ![v573.toNat, 1536]
def k0_off159 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v577 : Index := Scalar.indexCast v424
  let c1536_274 : Index := 1536#32
  ![v577.toNat, 1536]
def k0_off160 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v581 : Index := Scalar.indexCast v420
  let c13_275 : Index := 13#32
  ![v581.toNat, 13]
def k0_off161 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v585 : Index := Scalar.indexCast v422
  let c1664_276 : Index := 1664#32
  ![v585.toNat, 1664]
def k0_off162 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v589 : Index := Scalar.indexCast v424
  let c1664_277 : Index := 1664#32
  ![v589.toNat, 1664]
def k0_off163 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v593 : Index := Scalar.indexCast v420
  let c14_278 : Index := 14#32
  ![v593.toNat, 14]
def k0_off164 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v597 : Index := Scalar.indexCast v422
  let c1792_279 : Index := 1792#32
  ![v597.toNat, 1792]
def k0_off165 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v601 : Index := Scalar.indexCast v424
  let c1792_280 : Index := 1792#32
  ![v601.toNat, 1792]
def k0_off166 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v605 : Index := Scalar.indexCast v420
  let c15_281 : Index := 15#32
  ![v605.toNat, 15]
def k0_off167 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v609 : Index := Scalar.indexCast v422
  let c1920_282 : Index := 1920#32
  ![v609.toNat, 1920]
def k0_off168 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v613 : Index := Scalar.indexCast v424
  let c1920_283 : Index := 1920#32
  ![v613.toNat, 1920]
def k0_off169 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v617 : Index := Scalar.indexCast v420
  let c16_284 : Index := 16#32
  ![v617.toNat, 16]
def k0_off170 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v621 : Index := Scalar.indexCast v422
  let c2048_285 : Index := 2048#32
  ![v621.toNat, 2048]
def k0_off171 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v625 : Index := Scalar.indexCast v424
  let c2048_286 : Index := 2048#32
  ![v625.toNat, 2048]
def k0_off172 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v629 : Index := Scalar.indexCast v420
  let c17_287 : Index := 17#32
  ![v629.toNat, 17]
def k0_off173 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v633 : Index := Scalar.indexCast v422
  let c2176_288 : Index := 2176#32
  ![v633.toNat, 2176]
def k0_off174 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v637 : Index := Scalar.indexCast v424
  let c2176_289 : Index := 2176#32
  ![v637.toNat, 2176]
def k0_off175 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v641 : Index := Scalar.indexCast v420
  let c18_290 : Index := 18#32
  ![v641.toNat, 18]
def k0_off176 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v645 : Index := Scalar.indexCast v422
  let c2304_291 : Index := 2304#32
  ![v645.toNat, 2304]
def k0_off177 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v649 : Index := Scalar.indexCast v424
  let c2304_292 : Index := 2304#32
  ![v649.toNat, 2304]
def k0_off178 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v653 : Index := Scalar.indexCast v420
  let c19_293 : Index := 19#32
  ![v653.toNat, 19]
def k0_off179 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v657 : Index := Scalar.indexCast v422
  let c2432_294 : Index := 2432#32
  ![v657.toNat, 2432]
def k0_off180 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v661 : Index := Scalar.indexCast v424
  let c2432_295 : Index := 2432#32
  ![v661.toNat, 2432]
def k0_off181 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v665 : Index := Scalar.indexCast v420
  let c20_296 : Index := 20#32
  ![v665.toNat, 20]
def k0_off182 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v669 : Index := Scalar.indexCast v422
  let c2560_297 : Index := 2560#32
  ![v669.toNat, 2560]
def k0_off183 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v673 : Index := Scalar.indexCast v424
  let c2560_298 : Index := 2560#32
  ![v673.toNat, 2560]
def k0_off184 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v677 : Index := Scalar.indexCast v420
  let c21_299 : Index := 21#32
  ![v677.toNat, 21]
def k0_off185 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v681 : Index := Scalar.indexCast v422
  let c2688_300 : Index := 2688#32
  ![v681.toNat, 2688]
def k0_off186 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v685 : Index := Scalar.indexCast v424
  let c2688_301 : Index := 2688#32
  ![v685.toNat, 2688]
def k0_off187 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v689 : Index := Scalar.indexCast v420
  let c22_302 : Index := 22#32
  ![v689.toNat, 22]
def k0_off188 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v693 : Index := Scalar.indexCast v422
  let c2816_303 : Index := 2816#32
  ![v693.toNat, 2816]
def k0_off189 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v697 : Index := Scalar.indexCast v424
  let c2816_304 : Index := 2816#32
  ![v697.toNat, 2816]
def k0_off190 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v701 : Index := Scalar.indexCast v420
  let c23_305 : Index := 23#32
  ![v701.toNat, 23]
def k0_off191 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v705 : Index := Scalar.indexCast v422
  let c2944_306 : Index := 2944#32
  ![v705.toNat, 2944]
def k0_off192 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v709 : Index := Scalar.indexCast v424
  let c2944_307 : Index := 2944#32
  ![v709.toNat, 2944]
def k0_off193 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v713 : Index := Scalar.indexCast v420
  let c24_308 : Index := 24#32
  ![v713.toNat, 24]
def k0_off194 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v717 : Index := Scalar.indexCast v422
  let c3072_309 : Index := 3072#32
  ![v717.toNat, 3072]
def k0_off195 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v721 : Index := Scalar.indexCast v424
  let c3072_310 : Index := 3072#32
  ![v721.toNat, 3072]
def k0_off196 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v725 : Index := Scalar.indexCast v420
  let c25_311 : Index := 25#32
  ![v725.toNat, 25]
def k0_off197 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v729 : Index := Scalar.indexCast v422
  let c3200_312 : Index := 3200#32
  ![v729.toNat, 3200]
def k0_off198 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v733 : Index := Scalar.indexCast v424
  let c3200_313 : Index := 3200#32
  ![v733.toNat, 3200]
def k0_off199 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v737 : Index := Scalar.indexCast v420
  let c26_314 : Index := 26#32
  ![v737.toNat, 26]
def k0_off200 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v741 : Index := Scalar.indexCast v422
  let c3328_315 : Index := 3328#32
  ![v741.toNat, 3328]
def k0_off201 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v745 : Index := Scalar.indexCast v424
  let c3328_316 : Index := 3328#32
  ![v745.toNat, 3328]
def k0_off202 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v749 : Index := Scalar.indexCast v420
  let c27_317 : Index := 27#32
  ![v749.toNat, 27]
def k0_off203 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v753 : Index := Scalar.indexCast v422
  let c3456_318 : Index := 3456#32
  ![v753.toNat, 3456]
def k0_off204 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v757 : Index := Scalar.indexCast v424
  let c3456_319 : Index := 3456#32
  ![v757.toNat, 3456]
def k0_off205 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v761 : Index := Scalar.indexCast v420
  let c28_320 : Index := 28#32
  ![v761.toNat, 28]
def k0_off206 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v765 : Index := Scalar.indexCast v422
  let c3584_321 : Index := 3584#32
  ![v765.toNat, 3584]
def k0_off207 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v769 : Index := Scalar.indexCast v424
  let c3584_322 : Index := 3584#32
  ![v769.toNat, 3584]
def k0_off208 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v773 : Index := Scalar.indexCast v420
  let c29_323 : Index := 29#32
  ![v773.toNat, 29]
def k0_off209 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v777 : Index := Scalar.indexCast v422
  let c3712_324 : Index := 3712#32
  ![v777.toNat, 3712]
def k0_off210 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v781 : Index := Scalar.indexCast v424
  let c3712_325 : Index := 3712#32
  ![v781.toNat, 3712]
def k0_off211 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v785 : Index := Scalar.indexCast v420
  let c30_326 : Index := 30#32
  ![v785.toNat, 30]
def k0_off212 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v789 : Index := Scalar.indexCast v422
  let c3840_327 : Index := 3840#32
  ![v789.toNat, 3840]
def k0_off213 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v793 : Index := Scalar.indexCast v424
  let c3840_328 : Index := 3840#32
  ![v793.toNat, 3840]
def k0_off214 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v797 : Index := Scalar.indexCast v420
  let c31_329 : Index := 31#32
  ![v797.toNat, 31]
def k0_off215 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v801 : Index := Scalar.indexCast v422
  let c3968_330 : Index := 3968#32
  ![v801.toNat, 3968]
def k0_off216 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v805 : Index := Scalar.indexCast v424
  let c3968_331 : Index := 3968#32
  ![v805.toNat, 3968]
def k0_off217 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v809 : Index := Scalar.indexCast v420
  let c32_332 : Index := 32#32
  ![v809.toNat, 32]
def k0_off218 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v813 : Index := Scalar.indexCast v422
  let c4096_333 : Index := 4096#32
  ![v813.toNat, 4096]
def k0_off219 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v817 : Index := Scalar.indexCast v424
  let c4096_334 : Index := 4096#32
  ![v817.toNat, 4096]
def k0_off220 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v821 : Index := Scalar.indexCast v420
  let c33_335 : Index := 33#32
  ![v821.toNat, 33]
def k0_off221 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v825 : Index := Scalar.indexCast v422
  let c4224_336 : Index := 4224#32
  ![v825.toNat, 4224]
def k0_off222 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v829 : Index := Scalar.indexCast v424
  let c4224_337 : Index := 4224#32
  ![v829.toNat, 4224]
def k0_off223 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v833 : Index := Scalar.indexCast v420
  let c34_338 : Index := 34#32
  ![v833.toNat, 34]
def k0_off224 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v837 : Index := Scalar.indexCast v422
  let c4352_339 : Index := 4352#32
  ![v837.toNat, 4352]
def k0_off225 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v841 : Index := Scalar.indexCast v424
  let c4352_340 : Index := 4352#32
  ![v841.toNat, 4352]
def k0_off226 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v845 : Index := Scalar.indexCast v420
  let c35_341 : Index := 35#32
  ![v845.toNat, 35]
def k0_off227 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v849 : Index := Scalar.indexCast v422
  let c4480_342 : Index := 4480#32
  ![v849.toNat, 4480]
def k0_off228 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v853 : Index := Scalar.indexCast v424
  let c4480_343 : Index := 4480#32
  ![v853.toNat, 4480]
def k0_off229 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v857 : Index := Scalar.indexCast v420
  let c36_344 : Index := 36#32
  ![v857.toNat, 36]
def k0_off230 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v861 : Index := Scalar.indexCast v422
  let c4608_345 : Index := 4608#32
  ![v861.toNat, 4608]
def k0_off231 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v865 : Index := Scalar.indexCast v424
  let c4608_346 : Index := 4608#32
  ![v865.toNat, 4608]
def k0_off232 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v869 : Index := Scalar.indexCast v420
  let c37_347 : Index := 37#32
  ![v869.toNat, 37]
def k0_off233 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v873 : Index := Scalar.indexCast v422
  let c4736_348 : Index := 4736#32
  ![v873.toNat, 4736]
def k0_off234 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v877 : Index := Scalar.indexCast v424
  let c4736_349 : Index := 4736#32
  ![v877.toNat, 4736]
def k0_off235 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v881 : Index := Scalar.indexCast v420
  let c38_350 : Index := 38#32
  ![v881.toNat, 38]
def k0_off236 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v885 : Index := Scalar.indexCast v422
  let c4864_351 : Index := 4864#32
  ![v885.toNat, 4864]
def k0_off237 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v889 : Index := Scalar.indexCast v424
  let c4864_352 : Index := 4864#32
  ![v889.toNat, 4864]
def k0_off238 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let v893 : Index := Scalar.indexCast v420
  let c39_353 : Index := 39#32
  ![v893.toNat, 39]
def k0_off239 (k0_t2 : Fin k0_t2_loop.trips) : Fin 2 → Nat :=
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v897 : Index := Scalar.indexCast v422
  let c4992_354 : Index := 4992#32
  ![v897.toNat, 4992]
def k0_off240 (k0_t2 : Fin k0_t2_loop.trips) : Fin 2 → Nat :=
  let c512_i32 : BitVec 32 := 512#32
  let c0_i32_235 : BitVec 32 := 0#32
  let c0_i32_59 : BitVec 32 := 0#32
  let c1_i32_61 : BitVec 32 := 1#32
  let arg26 : BitVec 32 := Scf.iv c0_i32_59 c1_i32_61 k0_t2
  let c1_i32_234 : BitVec 32 := 1#32
  let v419 : BitVec 32 := Scalar.muli arg26 c1_i32_234
  let v420 : BitVec 32 := Scalar.addi c0_i32_235 v419
  let c128_i32 : BitVec 32 := 128#32
  let v421 : BitVec 32 := Scalar.muli v420 c128_i32
  let v422 : BitVec 32 := v421
  let v423 : BitVec 32 := Scalar.addi c512_i32 v422
  let v424 : BitVec 32 := v423
  let v901 : Index := Scalar.indexCast v424
  let c4992_355 : Index := 4992#32
  ![v901.toNat, 4992]
@[reducible] def k0_t3_loop : Scf.Loop 32 :=
  let c0_i32_1 : BitVec 32 := 0#32
  let c12_i32 : BitVec 32 := 12#32
  let v3 : BitVec 32 := Scalar.addi c0_i32_1 c12_i32
  let c1_i32 : BitVec 32 := 1#32
  ⟨c0_i32_1, v3, c1_i32⟩
def k0_mult4 (k0_t3 : Fin k0_t3_loop.trips) : BitVec 32 :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  v51
def k0_off241 (k0_t3 : Fin k0_t3_loop.trips) : Fin 3 → Nat :=
  let c0_57 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v53 : Index := Scalar.indexCast v52
  let c0_58 : Index := 0#32
  ![0, v53.toNat, 0]
def k0_off242 (k0_t3 : Fin k0_t3_loop.trips) : Fin 3 → Nat :=
  let c0_59 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v60 : Index := Scalar.indexCast v52
  let c0_60 : Index := 0#32
  ![0, v60.toNat, 0]
def k0_off243 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v65 : Index := Scalar.indexCast v52
  let c0_61 : Index := 0#32
  ![v65.toNat, 0]
def k0_off244 (k0_t3 : Fin k0_t3_loop.trips) : Fin 3 → Nat :=
  let c0_62 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v73 : Index := Scalar.indexCast v52
  let c128 : Index := 128#32
  ![0, v73.toNat, 128]
def k0_off245 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v78 : Index := Scalar.indexCast v52
  let c128_63 : Index := 128#32
  ![v78.toNat, 128]
def k0_off246 (k0_t3 : Fin k0_t3_loop.trips) : Fin 3 → Nat :=
  let c0_64 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v86 : Index := Scalar.indexCast v52
  let c256 : Index := 256#32
  ![0, v86.toNat, 256]
def k0_off247 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v91 : Index := Scalar.indexCast v52
  let c256_65 : Index := 256#32
  ![v91.toNat, 256]
def k0_off248 (k0_t3 : Fin k0_t3_loop.trips) : Fin 3 → Nat :=
  let c0_66 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v99 : Index := Scalar.indexCast v52
  let c384 : Index := 384#32
  ![0, v99.toNat, 384]
def k0_off249 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v104 : Index := Scalar.indexCast v52
  let c384_67 : Index := 384#32
  ![v104.toNat, 384]
def k0_off250 (k0_t3 : Fin k0_t3_loop.trips) : Fin 3 → Nat :=
  let c0_68 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v112 : Index := Scalar.indexCast v52
  let c512 : Index := 512#32
  ![0, v112.toNat, 512]
def k0_off251 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v117 : Index := Scalar.indexCast v52
  let c512_69 : Index := 512#32
  ![v117.toNat, 512]
def k0_off252 (k0_t3 : Fin k0_t3_loop.trips) : Fin 3 → Nat :=
  let c0_70 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v125 : Index := Scalar.indexCast v52
  let c640 : Index := 640#32
  ![0, v125.toNat, 640]
def k0_off253 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v130 : Index := Scalar.indexCast v52
  let c640_71 : Index := 640#32
  ![v130.toNat, 640]
def k0_off254 (k0_t3 : Fin k0_t3_loop.trips) : Fin 3 → Nat :=
  let c0_72 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v138 : Index := Scalar.indexCast v52
  let c768 : Index := 768#32
  ![0, v138.toNat, 768]
def k0_off255 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v143 : Index := Scalar.indexCast v52
  let c768_73 : Index := 768#32
  ![v143.toNat, 768]
def k0_off256 (k0_t3 : Fin k0_t3_loop.trips) : Fin 3 → Nat :=
  let c0_74 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v151 : Index := Scalar.indexCast v52
  let c896 : Index := 896#32
  ![0, v151.toNat, 896]
def k0_off257 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v156 : Index := Scalar.indexCast v52
  let c896_75 : Index := 896#32
  ![v156.toNat, 896]
def k0_off258 (k0_t3 : Fin k0_t3_loop.trips) : Fin 3 → Nat :=
  let c0_76 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v164 : Index := Scalar.indexCast v52
  let c1024 : Index := 1024#32
  ![0, v164.toNat, 1024]
def k0_off259 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v169 : Index := Scalar.indexCast v52
  let c1024_77 : Index := 1024#32
  ![v169.toNat, 1024]
def k0_off260 (k0_t3 : Fin k0_t3_loop.trips) : Fin 3 → Nat :=
  let c0_78 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v177 : Index := Scalar.indexCast v52
  let c1152 : Index := 1152#32
  ![0, v177.toNat, 1152]
def k0_off261 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v182 : Index := Scalar.indexCast v52
  let c1152_79 : Index := 1152#32
  ![v182.toNat, 1152]
def k0_off262 (k0_t3 : Fin k0_t3_loop.trips) : Fin 3 → Nat :=
  let c0_80 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v190 : Index := Scalar.indexCast v52
  let c1280 : Index := 1280#32
  ![0, v190.toNat, 1280]
def k0_off263 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v195 : Index := Scalar.indexCast v52
  let c1280_81 : Index := 1280#32
  ![v195.toNat, 1280]
def k0_off264 (k0_t3 : Fin k0_t3_loop.trips) : Fin 3 → Nat :=
  let c0_82 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v203 : Index := Scalar.indexCast v52
  let c1408 : Index := 1408#32
  ![0, v203.toNat, 1408]
def k0_off265 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v208 : Index := Scalar.indexCast v52
  let c1408_83 : Index := 1408#32
  ![v208.toNat, 1408]
def k0_off266 (k0_t3 : Fin k0_t3_loop.trips) : Fin 3 → Nat :=
  let c0_84 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v216 : Index := Scalar.indexCast v52
  let c1536 : Index := 1536#32
  ![0, v216.toNat, 1536]
def k0_off267 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v221 : Index := Scalar.indexCast v52
  let c1536_85 : Index := 1536#32
  ![v221.toNat, 1536]
def k0_off268 (k0_t3 : Fin k0_t3_loop.trips) : Fin 3 → Nat :=
  let c0_86 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v229 : Index := Scalar.indexCast v52
  let c1664 : Index := 1664#32
  ![0, v229.toNat, 1664]
def k0_off269 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v234 : Index := Scalar.indexCast v52
  let c1664_87 : Index := 1664#32
  ![v234.toNat, 1664]
def k0_off270 (k0_t3 : Fin k0_t3_loop.trips) : Fin 3 → Nat :=
  let c0_88 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v242 : Index := Scalar.indexCast v52
  let c1792 : Index := 1792#32
  ![0, v242.toNat, 1792]
def k0_off271 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v247 : Index := Scalar.indexCast v52
  let c1792_89 : Index := 1792#32
  ![v247.toNat, 1792]
def k0_off272 (k0_t3 : Fin k0_t3_loop.trips) : Fin 3 → Nat :=
  let c0_90 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v255 : Index := Scalar.indexCast v52
  let c1920 : Index := 1920#32
  ![0, v255.toNat, 1920]
def k0_off273 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v260 : Index := Scalar.indexCast v52
  let c1920_91 : Index := 1920#32
  ![v260.toNat, 1920]
def k0_off274 (k0_t3 : Fin k0_t3_loop.trips) : Fin 3 → Nat :=
  let c0_92 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v268 : Index := Scalar.indexCast v52
  let c2048 : Index := 2048#32
  ![0, v268.toNat, 2048]
def k0_off275 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v273 : Index := Scalar.indexCast v52
  let c2048_93 : Index := 2048#32
  ![v273.toNat, 2048]
def k0_off276 (k0_t3 : Fin k0_t3_loop.trips) : Fin 3 → Nat :=
  let c0_94 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v281 : Index := Scalar.indexCast v52
  let c2176 : Index := 2176#32
  ![0, v281.toNat, 2176]
def k0_off277 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v286 : Index := Scalar.indexCast v52
  let c2176_95 : Index := 2176#32
  ![v286.toNat, 2176]
def k0_off278 (k0_t3 : Fin k0_t3_loop.trips) : Fin 3 → Nat :=
  let c0_96 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v294 : Index := Scalar.indexCast v52
  let c2304 : Index := 2304#32
  ![0, v294.toNat, 2304]
def k0_off279 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v299 : Index := Scalar.indexCast v52
  let c2304_97 : Index := 2304#32
  ![v299.toNat, 2304]
def k0_off280 (k0_t3 : Fin k0_t3_loop.trips) : Fin 3 → Nat :=
  let c0_98 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v307 : Index := Scalar.indexCast v52
  let c2432 : Index := 2432#32
  ![0, v307.toNat, 2432]
def k0_off281 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v312 : Index := Scalar.indexCast v52
  let c2432_99 : Index := 2432#32
  ![v312.toNat, 2432]
def k0_off282 (k0_t3 : Fin k0_t3_loop.trips) : Fin 3 → Nat :=
  let c0_100 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v320 : Index := Scalar.indexCast v52
  let c2560 : Index := 2560#32
  ![0, v320.toNat, 2560]
def k0_off283 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v325 : Index := Scalar.indexCast v52
  let c2560_101 : Index := 2560#32
  ![v325.toNat, 2560]
def k0_off284 (k0_t3 : Fin k0_t3_loop.trips) : Fin 3 → Nat :=
  let c0_102 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v333 : Index := Scalar.indexCast v52
  let c2688 : Index := 2688#32
  ![0, v333.toNat, 2688]
def k0_off285 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v338 : Index := Scalar.indexCast v52
  let c2688_103 : Index := 2688#32
  ![v338.toNat, 2688]
def k0_off286 (k0_t3 : Fin k0_t3_loop.trips) : Fin 3 → Nat :=
  let c0_104 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v346 : Index := Scalar.indexCast v52
  let c2816 : Index := 2816#32
  ![0, v346.toNat, 2816]
def k0_off287 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v351 : Index := Scalar.indexCast v52
  let c2816_105 : Index := 2816#32
  ![v351.toNat, 2816]
def k0_off288 (k0_t3 : Fin k0_t3_loop.trips) : Fin 3 → Nat :=
  let c0_106 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v359 : Index := Scalar.indexCast v52
  let c2944 : Index := 2944#32
  ![0, v359.toNat, 2944]
def k0_off289 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v364 : Index := Scalar.indexCast v52
  let c2944_107 : Index := 2944#32
  ![v364.toNat, 2944]
def k0_off290 (k0_t3 : Fin k0_t3_loop.trips) : Fin 3 → Nat :=
  let c0_108 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v372 : Index := Scalar.indexCast v52
  let c3072 : Index := 3072#32
  ![0, v372.toNat, 3072]
def k0_off291 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v377 : Index := Scalar.indexCast v52
  let c3072_109 : Index := 3072#32
  ![v377.toNat, 3072]
def k0_off292 (k0_t3 : Fin k0_t3_loop.trips) : Fin 3 → Nat :=
  let c0_110 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v385 : Index := Scalar.indexCast v52
  let c3200 : Index := 3200#32
  ![0, v385.toNat, 3200]
def k0_off293 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v390 : Index := Scalar.indexCast v52
  let c3200_111 : Index := 3200#32
  ![v390.toNat, 3200]
def k0_off294 (k0_t3 : Fin k0_t3_loop.trips) : Fin 3 → Nat :=
  let c0_112 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v398 : Index := Scalar.indexCast v52
  let c3328 : Index := 3328#32
  ![0, v398.toNat, 3328]
def k0_off295 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v403 : Index := Scalar.indexCast v52
  let c3328_113 : Index := 3328#32
  ![v403.toNat, 3328]
def k0_off296 (k0_t3 : Fin k0_t3_loop.trips) : Fin 3 → Nat :=
  let c0_114 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v411 : Index := Scalar.indexCast v52
  let c3456 : Index := 3456#32
  ![0, v411.toNat, 3456]
def k0_off297 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v416 : Index := Scalar.indexCast v52
  let c3456_115 : Index := 3456#32
  ![v416.toNat, 3456]
def k0_off298 (k0_t3 : Fin k0_t3_loop.trips) : Fin 3 → Nat :=
  let c0_116 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v424 : Index := Scalar.indexCast v52
  let c3584 : Index := 3584#32
  ![0, v424.toNat, 3584]
def k0_off299 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v429 : Index := Scalar.indexCast v52
  let c3584_117 : Index := 3584#32
  ![v429.toNat, 3584]
def k0_off300 (k0_t3 : Fin k0_t3_loop.trips) : Fin 3 → Nat :=
  let c0_118 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v437 : Index := Scalar.indexCast v52
  let c3712 : Index := 3712#32
  ![0, v437.toNat, 3712]
def k0_off301 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v442 : Index := Scalar.indexCast v52
  let c3712_119 : Index := 3712#32
  ![v442.toNat, 3712]
def k0_off302 (k0_t3 : Fin k0_t3_loop.trips) : Fin 3 → Nat :=
  let c0_120 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v450 : Index := Scalar.indexCast v52
  let c3840 : Index := 3840#32
  ![0, v450.toNat, 3840]
def k0_off303 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v455 : Index := Scalar.indexCast v52
  let c3840_121 : Index := 3840#32
  ![v455.toNat, 3840]
def k0_off304 (k0_t3 : Fin k0_t3_loop.trips) : Fin 3 → Nat :=
  let c0_122 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v463 : Index := Scalar.indexCast v52
  let c3968 : Index := 3968#32
  ![0, v463.toNat, 3968]
def k0_off305 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v468 : Index := Scalar.indexCast v52
  let c3968_123 : Index := 3968#32
  ![v468.toNat, 3968]
def k0_off306 (k0_t3 : Fin k0_t3_loop.trips) : Fin 3 → Nat :=
  let c0_124 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v476 : Index := Scalar.indexCast v52
  let c4096 : Index := 4096#32
  ![0, v476.toNat, 4096]
def k0_off307 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v481 : Index := Scalar.indexCast v52
  let c4096_125 : Index := 4096#32
  ![v481.toNat, 4096]
def k0_off308 (k0_t3 : Fin k0_t3_loop.trips) : Fin 3 → Nat :=
  let c0_126 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v489 : Index := Scalar.indexCast v52
  let c4224 : Index := 4224#32
  ![0, v489.toNat, 4224]
def k0_off309 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v494 : Index := Scalar.indexCast v52
  let c4224_127 : Index := 4224#32
  ![v494.toNat, 4224]
def k0_off310 (k0_t3 : Fin k0_t3_loop.trips) : Fin 3 → Nat :=
  let c0_128 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v502 : Index := Scalar.indexCast v52
  let c4352 : Index := 4352#32
  ![0, v502.toNat, 4352]
def k0_off311 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v507 : Index := Scalar.indexCast v52
  let c4352_129 : Index := 4352#32
  ![v507.toNat, 4352]
def k0_off312 (k0_t3 : Fin k0_t3_loop.trips) : Fin 3 → Nat :=
  let c0_130 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v515 : Index := Scalar.indexCast v52
  let c4480 : Index := 4480#32
  ![0, v515.toNat, 4480]
def k0_off313 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v520 : Index := Scalar.indexCast v52
  let c4480_131 : Index := 4480#32
  ![v520.toNat, 4480]
def k0_off314 (k0_t3 : Fin k0_t3_loop.trips) : Fin 3 → Nat :=
  let c0_132 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v528 : Index := Scalar.indexCast v52
  let c4608 : Index := 4608#32
  ![0, v528.toNat, 4608]
def k0_off315 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v533 : Index := Scalar.indexCast v52
  let c4608_133 : Index := 4608#32
  ![v533.toNat, 4608]
def k0_off316 (k0_t3 : Fin k0_t3_loop.trips) : Fin 3 → Nat :=
  let c0_134 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v541 : Index := Scalar.indexCast v52
  let c4736 : Index := 4736#32
  ![0, v541.toNat, 4736]
def k0_off317 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v546 : Index := Scalar.indexCast v52
  let c4736_135 : Index := 4736#32
  ![v546.toNat, 4736]
def k0_off318 (k0_t3 : Fin k0_t3_loop.trips) : Fin 3 → Nat :=
  let c0_136 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v554 : Index := Scalar.indexCast v52
  let c4864 : Index := 4864#32
  ![0, v554.toNat, 4864]
def k0_off319 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v559 : Index := Scalar.indexCast v52
  let c4864_137 : Index := 4864#32
  ![v559.toNat, 4864]
def k0_off320 (k0_t3 : Fin k0_t3_loop.trips) : Fin 3 → Nat :=
  let c0_138 : Index := 0#32
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v567 : Index := Scalar.indexCast v52
  let c4992 : Index := 4992#32
  ![0, v567.toNat, 4992]
def k0_off321 (k0_t3 : Fin k0_t3_loop.trips) : Fin 2 → Nat :=
  let c0_i32_56 : BitVec 32 := 0#32
  let c0_i32_1 : BitVec 32 := 0#32
  let c1_i32 : BitVec 32 := 1#32
  let arg26 : BitVec 32 := Scf.iv c0_i32_1 c1_i32 k0_t3
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v572 : Index := Scalar.indexCast v52
  let c4992_139 : Index := 4992#32
  ![v572.toNat, 4992]
@[reducible] def k0_t4_loop : Scf.Loop 32 :=
  let c0_i32_3 : BitVec 32 := 0#32
  let c4_i32 : BitVec 32 := 4#32
  let v4 : BitVec 32 := Scalar.addi c0_i32_3 c4_i32
  let c1_i32_4 : BitVec 32 := 1#32
  ⟨c0_i32_3, v4, c1_i32_4⟩
def k0_mult5 (k0_t4 : Fin k0_t4_loop.trips) : BitVec 32 :=
  let c0_i32_56 : BitVec 32 := 0#32
  let c0_i32_3 : BitVec 32 := 0#32
  let c1_i32_4 : BitVec 32 := 1#32
  let arg26 : BitVec 32 := Scf.iv c0_i32_3 c1_i32_4 k0_t4
  let c1_i32_55 : BitVec 32 := 1#32
  let v49 : BitVec 32 := Scalar.muli arg26 c1_i32_55
  let v50 : BitVec 32 := Scalar.addi c0_i32_56 v49
  let c512_i32 : BitVec 32 := 512#32
  let v51 : BitVec 32 := Scalar.muli v50 c512_i32
  v51
def k0_off322 (k0_t4 : Fin k0_t4_loop.trips) : Fin 2 → Nat :=
  let c0_i32_56 : BitVec 32 := 0#32
  let c0_i32_3 : BitVec 32 := 0#32
  let c1_i32_4 : BitVec 32 := 1#32
  let arg26 : BitVec 32 := Scf.iv c0_i32_3 c1_i32_4 k0_t4
  let c1_i32_55 : BitVec 32 := 1#32
  let v49 : BitVec 32 := Scalar.muli arg26 c1_i32_55
  let v50 : BitVec 32 := Scalar.addi c0_i32_56 v49
  let c512_i32 : BitVec 32 := 512#32
  let v51 : BitVec 32 := Scalar.muli v50 c512_i32
  let v52 : BitVec 32 := v51
  let v54 : Index := Scalar.indexCast v52
  let c0_59 : Index := 0#32
  ![v54.toNat, 0]
def k0_off323 (k0_t4 : Fin k0_t4_loop.trips) : Fin 2 → Nat :=
  let c0_61 : Index := 0#32
  let c0_i32_56 : BitVec 32 := 0#32
  let c0_i32_3 : BitVec 32 := 0#32
  let c1_i32_4 : BitVec 32 := 1#32
  let arg26 : BitVec 32 := Scf.iv c0_i32_3 c1_i32_4 k0_t4
  let c1_i32_55 : BitVec 32 := 1#32
  let v49 : BitVec 32 := Scalar.muli arg26 c1_i32_55
  let v50 : BitVec 32 := Scalar.addi c0_i32_56 v49
  let c512_i32 : BitVec 32 := 512#32
  let v51 : BitVec 32 := Scalar.muli v50 c512_i32
  let v52 : BitVec 32 := v51
  let v58 : Index := Scalar.indexCast v52
  ![0, v58.toNat]
@[reducible] def k0_t5_loop : Scf.Loop 32 :=
  let c0_i32_6 : BitVec 32 := 0#32
  let c12_i32_7 : BitVec 32 := 12#32
  let v5 : BitVec 32 := Scalar.addi c0_i32_6 c12_i32_7
  let c1_i32_8 : BitVec 32 := 1#32
  ⟨c0_i32_6, v5, c1_i32_8⟩
def k0_mult6 (k0_t5 : Fin k0_t5_loop.trips) : BitVec 32 :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  v51
def k0_off324 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v55 : Index := Scalar.indexCast v52
  let c0_59 : Index := 0#32
  ![v55.toNat, 0]
def k0_off325 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v60 : Index := Scalar.indexCast v52
  let c0_63 : Index := 0#32
  ![v60.toNat, 0]
def k0_off326 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v71 : Index := Scalar.indexCast v52
  let c128 : Index := 128#32
  ![v71.toNat, 128]
def k0_off327 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v76 : Index := Scalar.indexCast v52
  let c128_69 : Index := 128#32
  ![v76.toNat, 128]
def k0_off328 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v87 : Index := Scalar.indexCast v52
  let c256 : Index := 256#32
  ![v87.toNat, 256]
def k0_off329 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v92 : Index := Scalar.indexCast v52
  let c256_75 : Index := 256#32
  ![v92.toNat, 256]
def k0_off330 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v103 : Index := Scalar.indexCast v52
  let c384 : Index := 384#32
  ![v103.toNat, 384]
def k0_off331 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v108 : Index := Scalar.indexCast v52
  let c384_81 : Index := 384#32
  ![v108.toNat, 384]
def k0_off332 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_99 : BitVec 32 := 0#32
  let v154 : BitVec 1 := Scalar.cmpi .sgt v52 c0_i32_99
  let v155 : BitVec 32 := Scalar.extui v154
  let c0_i32_100 : BitVec 32 := 0#32
  let v156 : BitVec 1 := Scalar.cmpi .slt v52 c0_i32_100
  let v157 : BitVec 32 := Scalar.extui v156
  let v158 : BitVec 32 := Scalar.subi v155 v157
  let c32_i32_98 : BitVec 32 := 32#32
  let c0_i32_101 : BitVec 32 := 0#32
  let v159 : BitVec 1 := Scalar.cmpi .sgt c32_i32_98 c0_i32_101
  let v160 : BitVec 32 := Scalar.extui v159
  let c0_i32_102 : BitVec 32 := 0#32
  let v161 : BitVec 1 := Scalar.cmpi .slt c32_i32_98 c0_i32_102
  let v162 : BitVec 32 := Scalar.extui v161
  let v163 : BitVec 32 := Scalar.subi v160 v162
  let v164 : BitVec 1 := Scalar.cmpi .ne v158 v163
  let v165 : BitVec 32 := Scalar.remsi v52 c32_i32_98
  let c0_i32_103 : BitVec 32 := 0#32
  let v166 : BitVec 1 := Scalar.cmpi .ne v165 c0_i32_103
  let v167 : BitVec 1 := Scalar.andi v164 v166
  let v153 : BitVec 32 := Scalar.divsi v52 c32_i32_98
  let c1_i32_104 : BitVec 32 := 1#32
  let v168 : BitVec 32 := Scalar.subi v153 c1_i32_104
  let v169 : BitVec 32 := Scalar.select v167 v168 v153
  let v170 : Index := Scalar.indexCast v169
  let c0_105 : Index := 0#32
  let c0_106 : Index := 0#32
  ![v170.toNat, 0, 0]
def k0_off333 (k0_t5 : Fin k0_t5_loop.trips) : Fin 3 → Nat :=
  let c0_114 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v246 : Index := Scalar.indexCast v52
  let c0_115 : Index := 0#32
  ![0, v246.toNat, 0]
def k0_off334 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v250 : Index := Scalar.indexCast v52
  let c0_116 : Index := 0#32
  ![v250.toNat, 0]
def k0_off335 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_127 : BitVec 32 := 0#32
  let v273 : BitVec 1 := Scalar.cmpi .sgt v52 c0_i32_127
  let v274 : BitVec 32 := Scalar.extui v273
  let c0_i32_128 : BitVec 32 := 0#32
  let v275 : BitVec 1 := Scalar.cmpi .slt v52 c0_i32_128
  let v276 : BitVec 32 := Scalar.extui v275
  let v277 : BitVec 32 := Scalar.subi v274 v276
  let c32_i32_126 : BitVec 32 := 32#32
  let c0_i32_129 : BitVec 32 := 0#32
  let v278 : BitVec 1 := Scalar.cmpi .sgt c32_i32_126 c0_i32_129
  let v279 : BitVec 32 := Scalar.extui v278
  let c0_i32_130 : BitVec 32 := 0#32
  let v280 : BitVec 1 := Scalar.cmpi .slt c32_i32_126 c0_i32_130
  let v281 : BitVec 32 := Scalar.extui v280
  let v282 : BitVec 32 := Scalar.subi v279 v281
  let v283 : BitVec 1 := Scalar.cmpi .ne v277 v282
  let v284 : BitVec 32 := Scalar.remsi v52 c32_i32_126
  let c0_i32_131 : BitVec 32 := 0#32
  let v285 : BitVec 1 := Scalar.cmpi .ne v284 c0_i32_131
  let v286 : BitVec 1 := Scalar.andi v283 v285
  let v272 : BitVec 32 := Scalar.divsi v52 c32_i32_126
  let c1_i32_132 : BitVec 32 := 1#32
  let v287 : BitVec 32 := Scalar.subi v272 c1_i32_132
  let v288 : BitVec 32 := Scalar.select v286 v287 v272
  let v289 : Index := Scalar.indexCast v288
  let c0_133 : Index := 0#32
  let c128_134 : Index := 128#32
  ![v289.toNat, 0, 128]
def k0_off336 (k0_t5 : Fin k0_t5_loop.trips) : Fin 3 → Nat :=
  let c0_152 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v365 : Index := Scalar.indexCast v52
  let c128_153 : Index := 128#32
  ![0, v365.toNat, 128]
def k0_off337 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v369 : Index := Scalar.indexCast v52
  let c128_154 : Index := 128#32
  ![v369.toNat, 128]
def k0_off338 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_165 : BitVec 32 := 0#32
  let v392 : BitVec 1 := Scalar.cmpi .sgt v52 c0_i32_165
  let v393 : BitVec 32 := Scalar.extui v392
  let c0_i32_166 : BitVec 32 := 0#32
  let v394 : BitVec 1 := Scalar.cmpi .slt v52 c0_i32_166
  let v395 : BitVec 32 := Scalar.extui v394
  let v396 : BitVec 32 := Scalar.subi v393 v395
  let c32_i32_164 : BitVec 32 := 32#32
  let c0_i32_167 : BitVec 32 := 0#32
  let v397 : BitVec 1 := Scalar.cmpi .sgt c32_i32_164 c0_i32_167
  let v398 : BitVec 32 := Scalar.extui v397
  let c0_i32_168 : BitVec 32 := 0#32
  let v399 : BitVec 1 := Scalar.cmpi .slt c32_i32_164 c0_i32_168
  let v400 : BitVec 32 := Scalar.extui v399
  let v401 : BitVec 32 := Scalar.subi v398 v400
  let v402 : BitVec 1 := Scalar.cmpi .ne v396 v401
  let v403 : BitVec 32 := Scalar.remsi v52 c32_i32_164
  let c0_i32_169 : BitVec 32 := 0#32
  let v404 : BitVec 1 := Scalar.cmpi .ne v403 c0_i32_169
  let v405 : BitVec 1 := Scalar.andi v402 v404
  let v391 : BitVec 32 := Scalar.divsi v52 c32_i32_164
  let c1_i32_170 : BitVec 32 := 1#32
  let v406 : BitVec 32 := Scalar.subi v391 c1_i32_170
  let v407 : BitVec 32 := Scalar.select v405 v406 v391
  let v408 : Index := Scalar.indexCast v407
  let c0_171 : Index := 0#32
  let c256_172 : Index := 256#32
  ![v408.toNat, 0, 256]
def k0_off339 (k0_t5 : Fin k0_t5_loop.trips) : Fin 3 → Nat :=
  let c0_190 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v484 : Index := Scalar.indexCast v52
  let c256_191 : Index := 256#32
  ![0, v484.toNat, 256]
def k0_off340 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v488 : Index := Scalar.indexCast v52
  let c256_192 : Index := 256#32
  ![v488.toNat, 256]
def k0_off341 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_202 : BitVec 32 := 0#32
  let v511 : BitVec 1 := Scalar.cmpi .sgt v52 c0_i32_202
  let v512 : BitVec 32 := Scalar.extui v511
  let c0_i32_203 : BitVec 32 := 0#32
  let v513 : BitVec 1 := Scalar.cmpi .slt v52 c0_i32_203
  let v514 : BitVec 32 := Scalar.extui v513
  let v515 : BitVec 32 := Scalar.subi v512 v514
  let c32_i32_201 : BitVec 32 := 32#32
  let c0_i32_204 : BitVec 32 := 0#32
  let v516 : BitVec 1 := Scalar.cmpi .sgt c32_i32_201 c0_i32_204
  let v517 : BitVec 32 := Scalar.extui v516
  let c0_i32_205 : BitVec 32 := 0#32
  let v518 : BitVec 1 := Scalar.cmpi .slt c32_i32_201 c0_i32_205
  let v519 : BitVec 32 := Scalar.extui v518
  let v520 : BitVec 32 := Scalar.subi v517 v519
  let v521 : BitVec 1 := Scalar.cmpi .ne v515 v520
  let v522 : BitVec 32 := Scalar.remsi v52 c32_i32_201
  let c0_i32_206 : BitVec 32 := 0#32
  let v523 : BitVec 1 := Scalar.cmpi .ne v522 c0_i32_206
  let v524 : BitVec 1 := Scalar.andi v521 v523
  let v510 : BitVec 32 := Scalar.divsi v52 c32_i32_201
  let c1_i32_207 : BitVec 32 := 1#32
  let v525 : BitVec 32 := Scalar.subi v510 c1_i32_207
  let v526 : BitVec 32 := Scalar.select v524 v525 v510
  let v527 : Index := Scalar.indexCast v526
  let c0_208 : Index := 0#32
  let c384_209 : Index := 384#32
  ![v527.toNat, 0, 384]
def k0_off342 (k0_t5 : Fin k0_t5_loop.trips) : Fin 3 → Nat :=
  let c0_227 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v603 : Index := Scalar.indexCast v52
  let c384_228 : Index := 384#32
  ![0, v603.toNat, 384]
def k0_off343 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v607 : Index := Scalar.indexCast v52
  let c384_229 : Index := 384#32
  ![v607.toNat, 384]
def k0_off344 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v616 : Index := Scalar.indexCast v52
  let c512 : Index := 512#32
  ![v616.toNat, 512]
def k0_off345 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v621 : Index := Scalar.indexCast v52
  let c0_235 : Index := 0#32
  ![v621.toNat, 0]
def k0_off346 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v632 : Index := Scalar.indexCast v52
  let c640 : Index := 640#32
  ![v632.toNat, 640]
def k0_off347 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v637 : Index := Scalar.indexCast v52
  let c128_241 : Index := 128#32
  ![v637.toNat, 128]
def k0_off348 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v648 : Index := Scalar.indexCast v52
  let c768 : Index := 768#32
  ![v648.toNat, 768]
def k0_off349 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v653 : Index := Scalar.indexCast v52
  let c256_247 : Index := 256#32
  ![v653.toNat, 256]
def k0_off350 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v664 : Index := Scalar.indexCast v52
  let c896 : Index := 896#32
  ![v664.toNat, 896]
def k0_off351 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v669 : Index := Scalar.indexCast v52
  let c384_253 : Index := 384#32
  ![v669.toNat, 384]
def k0_off352 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v680 : Index := Scalar.indexCast v52
  let c1024 : Index := 1024#32
  ![v680.toNat, 1024]
def k0_off353 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v685 : Index := Scalar.indexCast v52
  let c512_259 : Index := 512#32
  ![v685.toNat, 512]
def k0_off354 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v696 : Index := Scalar.indexCast v52
  let c1152 : Index := 1152#32
  ![v696.toNat, 1152]
def k0_off355 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v701 : Index := Scalar.indexCast v52
  let c640_265 : Index := 640#32
  ![v701.toNat, 640]
def k0_off356 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v712 : Index := Scalar.indexCast v52
  let c1280 : Index := 1280#32
  ![v712.toNat, 1280]
def k0_off357 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v717 : Index := Scalar.indexCast v52
  let c768_271 : Index := 768#32
  ![v717.toNat, 768]
def k0_off358 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v728 : Index := Scalar.indexCast v52
  let c1408 : Index := 1408#32
  ![v728.toNat, 1408]
def k0_off359 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v733 : Index := Scalar.indexCast v52
  let c896_277 : Index := 896#32
  ![v733.toNat, 896]
def k0_off360 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v744 : Index := Scalar.indexCast v52
  let c1536 : Index := 1536#32
  ![v744.toNat, 1536]
def k0_off361 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v749 : Index := Scalar.indexCast v52
  let c1024_283 : Index := 1024#32
  ![v749.toNat, 1024]
def k0_off362 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v760 : Index := Scalar.indexCast v52
  let c1664 : Index := 1664#32
  ![v760.toNat, 1664]
def k0_off363 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v765 : Index := Scalar.indexCast v52
  let c1152_289 : Index := 1152#32
  ![v765.toNat, 1152]
def k0_off364 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v776 : Index := Scalar.indexCast v52
  let c1792 : Index := 1792#32
  ![v776.toNat, 1792]
def k0_off365 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v781 : Index := Scalar.indexCast v52
  let c1280_295 : Index := 1280#32
  ![v781.toNat, 1280]
def k0_off366 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v792 : Index := Scalar.indexCast v52
  let c1920 : Index := 1920#32
  ![v792.toNat, 1920]
def k0_off367 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v797 : Index := Scalar.indexCast v52
  let c1408_301 : Index := 1408#32
  ![v797.toNat, 1408]
def k0_off368 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_319 : BitVec 32 := 0#32
  let v843 : BitVec 1 := Scalar.cmpi .sgt v52 c0_i32_319
  let v844 : BitVec 32 := Scalar.extui v843
  let c0_i32_320 : BitVec 32 := 0#32
  let v845 : BitVec 1 := Scalar.cmpi .slt v52 c0_i32_320
  let v846 : BitVec 32 := Scalar.extui v845
  let v847 : BitVec 32 := Scalar.subi v844 v846
  let c32_i32_318 : BitVec 32 := 32#32
  let c0_i32_321 : BitVec 32 := 0#32
  let v848 : BitVec 1 := Scalar.cmpi .sgt c32_i32_318 c0_i32_321
  let v849 : BitVec 32 := Scalar.extui v848
  let c0_i32_322 : BitVec 32 := 0#32
  let v850 : BitVec 1 := Scalar.cmpi .slt c32_i32_318 c0_i32_322
  let v851 : BitVec 32 := Scalar.extui v850
  let v852 : BitVec 32 := Scalar.subi v849 v851
  let v853 : BitVec 1 := Scalar.cmpi .ne v847 v852
  let v854 : BitVec 32 := Scalar.remsi v52 c32_i32_318
  let c0_i32_323 : BitVec 32 := 0#32
  let v855 : BitVec 1 := Scalar.cmpi .ne v854 c0_i32_323
  let v856 : BitVec 1 := Scalar.andi v853 v855
  let v842 : BitVec 32 := Scalar.divsi v52 c32_i32_318
  let c1_i32_324 : BitVec 32 := 1#32
  let v857 : BitVec 32 := Scalar.subi v842 c1_i32_324
  let v858 : BitVec 32 := Scalar.select v856 v857 v842
  let v859 : Index := Scalar.indexCast v858
  let c0_325 : Index := 0#32
  let c0_326 : Index := 0#32
  ![v859.toNat, 0, 0]
def k0_off369 (k0_t5 : Fin k0_t5_loop.trips) : Fin 3 → Nat :=
  let c0_344 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v935 : Index := Scalar.indexCast v52
  let c0_345 : Index := 0#32
  ![0, v935.toNat, 0]
def k0_off370 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v939 : Index := Scalar.indexCast v52
  let c512_346 : Index := 512#32
  ![v939.toNat, 512]
def k0_off371 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_357 : BitVec 32 := 0#32
  let v962 : BitVec 1 := Scalar.cmpi .sgt v52 c0_i32_357
  let v963 : BitVec 32 := Scalar.extui v962
  let c0_i32_358 : BitVec 32 := 0#32
  let v964 : BitVec 1 := Scalar.cmpi .slt v52 c0_i32_358
  let v965 : BitVec 32 := Scalar.extui v964
  let v966 : BitVec 32 := Scalar.subi v963 v965
  let c32_i32_356 : BitVec 32 := 32#32
  let c0_i32_359 : BitVec 32 := 0#32
  let v967 : BitVec 1 := Scalar.cmpi .sgt c32_i32_356 c0_i32_359
  let v968 : BitVec 32 := Scalar.extui v967
  let c0_i32_360 : BitVec 32 := 0#32
  let v969 : BitVec 1 := Scalar.cmpi .slt c32_i32_356 c0_i32_360
  let v970 : BitVec 32 := Scalar.extui v969
  let v971 : BitVec 32 := Scalar.subi v968 v970
  let v972 : BitVec 1 := Scalar.cmpi .ne v966 v971
  let v973 : BitVec 32 := Scalar.remsi v52 c32_i32_356
  let c0_i32_361 : BitVec 32 := 0#32
  let v974 : BitVec 1 := Scalar.cmpi .ne v973 c0_i32_361
  let v975 : BitVec 1 := Scalar.andi v972 v974
  let v961 : BitVec 32 := Scalar.divsi v52 c32_i32_356
  let c1_i32_362 : BitVec 32 := 1#32
  let v976 : BitVec 32 := Scalar.subi v961 c1_i32_362
  let v977 : BitVec 32 := Scalar.select v975 v976 v961
  let v978 : Index := Scalar.indexCast v977
  let c0_363 : Index := 0#32
  let c128_364 : Index := 128#32
  ![v978.toNat, 0, 128]
def k0_off372 (k0_t5 : Fin k0_t5_loop.trips) : Fin 3 → Nat :=
  let c0_382 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1054 : Index := Scalar.indexCast v52
  let c128_383 : Index := 128#32
  ![0, v1054.toNat, 128]
def k0_off373 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1058 : Index := Scalar.indexCast v52
  let c640_384 : Index := 640#32
  ![v1058.toNat, 640]
def k0_off374 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_395 : BitVec 32 := 0#32
  let v1081 : BitVec 1 := Scalar.cmpi .sgt v52 c0_i32_395
  let v1082 : BitVec 32 := Scalar.extui v1081
  let c0_i32_396 : BitVec 32 := 0#32
  let v1083 : BitVec 1 := Scalar.cmpi .slt v52 c0_i32_396
  let v1084 : BitVec 32 := Scalar.extui v1083
  let v1085 : BitVec 32 := Scalar.subi v1082 v1084
  let c32_i32_394 : BitVec 32 := 32#32
  let c0_i32_397 : BitVec 32 := 0#32
  let v1086 : BitVec 1 := Scalar.cmpi .sgt c32_i32_394 c0_i32_397
  let v1087 : BitVec 32 := Scalar.extui v1086
  let c0_i32_398 : BitVec 32 := 0#32
  let v1088 : BitVec 1 := Scalar.cmpi .slt c32_i32_394 c0_i32_398
  let v1089 : BitVec 32 := Scalar.extui v1088
  let v1090 : BitVec 32 := Scalar.subi v1087 v1089
  let v1091 : BitVec 1 := Scalar.cmpi .ne v1085 v1090
  let v1092 : BitVec 32 := Scalar.remsi v52 c32_i32_394
  let c0_i32_399 : BitVec 32 := 0#32
  let v1093 : BitVec 1 := Scalar.cmpi .ne v1092 c0_i32_399
  let v1094 : BitVec 1 := Scalar.andi v1091 v1093
  let v1080 : BitVec 32 := Scalar.divsi v52 c32_i32_394
  let c1_i32_400 : BitVec 32 := 1#32
  let v1095 : BitVec 32 := Scalar.subi v1080 c1_i32_400
  let v1096 : BitVec 32 := Scalar.select v1094 v1095 v1080
  let v1097 : Index := Scalar.indexCast v1096
  let c0_401 : Index := 0#32
  let c256_402 : Index := 256#32
  ![v1097.toNat, 0, 256]
def k0_off375 (k0_t5 : Fin k0_t5_loop.trips) : Fin 3 → Nat :=
  let c0_420 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1173 : Index := Scalar.indexCast v52
  let c256_421 : Index := 256#32
  ![0, v1173.toNat, 256]
def k0_off376 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1177 : Index := Scalar.indexCast v52
  let c768_422 : Index := 768#32
  ![v1177.toNat, 768]
def k0_off377 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_433 : BitVec 32 := 0#32
  let v1200 : BitVec 1 := Scalar.cmpi .sgt v52 c0_i32_433
  let v1201 : BitVec 32 := Scalar.extui v1200
  let c0_i32_434 : BitVec 32 := 0#32
  let v1202 : BitVec 1 := Scalar.cmpi .slt v52 c0_i32_434
  let v1203 : BitVec 32 := Scalar.extui v1202
  let v1204 : BitVec 32 := Scalar.subi v1201 v1203
  let c32_i32_432 : BitVec 32 := 32#32
  let c0_i32_435 : BitVec 32 := 0#32
  let v1205 : BitVec 1 := Scalar.cmpi .sgt c32_i32_432 c0_i32_435
  let v1206 : BitVec 32 := Scalar.extui v1205
  let c0_i32_436 : BitVec 32 := 0#32
  let v1207 : BitVec 1 := Scalar.cmpi .slt c32_i32_432 c0_i32_436
  let v1208 : BitVec 32 := Scalar.extui v1207
  let v1209 : BitVec 32 := Scalar.subi v1206 v1208
  let v1210 : BitVec 1 := Scalar.cmpi .ne v1204 v1209
  let v1211 : BitVec 32 := Scalar.remsi v52 c32_i32_432
  let c0_i32_437 : BitVec 32 := 0#32
  let v1212 : BitVec 1 := Scalar.cmpi .ne v1211 c0_i32_437
  let v1213 : BitVec 1 := Scalar.andi v1210 v1212
  let v1199 : BitVec 32 := Scalar.divsi v52 c32_i32_432
  let c1_i32_438 : BitVec 32 := 1#32
  let v1214 : BitVec 32 := Scalar.subi v1199 c1_i32_438
  let v1215 : BitVec 32 := Scalar.select v1213 v1214 v1199
  let v1216 : Index := Scalar.indexCast v1215
  let c0_439 : Index := 0#32
  let c384_440 : Index := 384#32
  ![v1216.toNat, 0, 384]
def k0_off378 (k0_t5 : Fin k0_t5_loop.trips) : Fin 3 → Nat :=
  let c0_458 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1292 : Index := Scalar.indexCast v52
  let c384_459 : Index := 384#32
  ![0, v1292.toNat, 384]
def k0_off379 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1296 : Index := Scalar.indexCast v52
  let c896_460 : Index := 896#32
  ![v1296.toNat, 896]
def k0_off380 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_471 : BitVec 32 := 0#32
  let v1319 : BitVec 1 := Scalar.cmpi .sgt v52 c0_i32_471
  let v1320 : BitVec 32 := Scalar.extui v1319
  let c0_i32_472 : BitVec 32 := 0#32
  let v1321 : BitVec 1 := Scalar.cmpi .slt v52 c0_i32_472
  let v1322 : BitVec 32 := Scalar.extui v1321
  let v1323 : BitVec 32 := Scalar.subi v1320 v1322
  let c32_i32_470 : BitVec 32 := 32#32
  let c0_i32_473 : BitVec 32 := 0#32
  let v1324 : BitVec 1 := Scalar.cmpi .sgt c32_i32_470 c0_i32_473
  let v1325 : BitVec 32 := Scalar.extui v1324
  let c0_i32_474 : BitVec 32 := 0#32
  let v1326 : BitVec 1 := Scalar.cmpi .slt c32_i32_470 c0_i32_474
  let v1327 : BitVec 32 := Scalar.extui v1326
  let v1328 : BitVec 32 := Scalar.subi v1325 v1327
  let v1329 : BitVec 1 := Scalar.cmpi .ne v1323 v1328
  let v1330 : BitVec 32 := Scalar.remsi v52 c32_i32_470
  let c0_i32_475 : BitVec 32 := 0#32
  let v1331 : BitVec 1 := Scalar.cmpi .ne v1330 c0_i32_475
  let v1332 : BitVec 1 := Scalar.andi v1329 v1331
  let v1318 : BitVec 32 := Scalar.divsi v52 c32_i32_470
  let c1_i32_476 : BitVec 32 := 1#32
  let v1333 : BitVec 32 := Scalar.subi v1318 c1_i32_476
  let v1334 : BitVec 32 := Scalar.select v1332 v1333 v1318
  let v1335 : Index := Scalar.indexCast v1334
  let c0_477 : Index := 0#32
  let c512_478 : Index := 512#32
  ![v1335.toNat, 0, 512]
def k0_off381 (k0_t5 : Fin k0_t5_loop.trips) : Fin 3 → Nat :=
  let c0_496 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1411 : Index := Scalar.indexCast v52
  let c512_497 : Index := 512#32
  ![0, v1411.toNat, 512]
def k0_off382 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1415 : Index := Scalar.indexCast v52
  let c1024_498 : Index := 1024#32
  ![v1415.toNat, 1024]
def k0_off383 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_509 : BitVec 32 := 0#32
  let v1438 : BitVec 1 := Scalar.cmpi .sgt v52 c0_i32_509
  let v1439 : BitVec 32 := Scalar.extui v1438
  let c0_i32_510 : BitVec 32 := 0#32
  let v1440 : BitVec 1 := Scalar.cmpi .slt v52 c0_i32_510
  let v1441 : BitVec 32 := Scalar.extui v1440
  let v1442 : BitVec 32 := Scalar.subi v1439 v1441
  let c32_i32_508 : BitVec 32 := 32#32
  let c0_i32_511 : BitVec 32 := 0#32
  let v1443 : BitVec 1 := Scalar.cmpi .sgt c32_i32_508 c0_i32_511
  let v1444 : BitVec 32 := Scalar.extui v1443
  let c0_i32_512 : BitVec 32 := 0#32
  let v1445 : BitVec 1 := Scalar.cmpi .slt c32_i32_508 c0_i32_512
  let v1446 : BitVec 32 := Scalar.extui v1445
  let v1447 : BitVec 32 := Scalar.subi v1444 v1446
  let v1448 : BitVec 1 := Scalar.cmpi .ne v1442 v1447
  let v1449 : BitVec 32 := Scalar.remsi v52 c32_i32_508
  let c0_i32_513 : BitVec 32 := 0#32
  let v1450 : BitVec 1 := Scalar.cmpi .ne v1449 c0_i32_513
  let v1451 : BitVec 1 := Scalar.andi v1448 v1450
  let v1437 : BitVec 32 := Scalar.divsi v52 c32_i32_508
  let c1_i32_514 : BitVec 32 := 1#32
  let v1452 : BitVec 32 := Scalar.subi v1437 c1_i32_514
  let v1453 : BitVec 32 := Scalar.select v1451 v1452 v1437
  let v1454 : Index := Scalar.indexCast v1453
  let c0_515 : Index := 0#32
  let c640_516 : Index := 640#32
  ![v1454.toNat, 0, 640]
def k0_off384 (k0_t5 : Fin k0_t5_loop.trips) : Fin 3 → Nat :=
  let c0_534 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1530 : Index := Scalar.indexCast v52
  let c640_535 : Index := 640#32
  ![0, v1530.toNat, 640]
def k0_off385 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1534 : Index := Scalar.indexCast v52
  let c1152_536 : Index := 1152#32
  ![v1534.toNat, 1152]
def k0_off386 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_546 : BitVec 32 := 0#32
  let v1557 : BitVec 1 := Scalar.cmpi .sgt v52 c0_i32_546
  let v1558 : BitVec 32 := Scalar.extui v1557
  let c0_i32_547 : BitVec 32 := 0#32
  let v1559 : BitVec 1 := Scalar.cmpi .slt v52 c0_i32_547
  let v1560 : BitVec 32 := Scalar.extui v1559
  let v1561 : BitVec 32 := Scalar.subi v1558 v1560
  let c32_i32_545 : BitVec 32 := 32#32
  let c0_i32_548 : BitVec 32 := 0#32
  let v1562 : BitVec 1 := Scalar.cmpi .sgt c32_i32_545 c0_i32_548
  let v1563 : BitVec 32 := Scalar.extui v1562
  let c0_i32_549 : BitVec 32 := 0#32
  let v1564 : BitVec 1 := Scalar.cmpi .slt c32_i32_545 c0_i32_549
  let v1565 : BitVec 32 := Scalar.extui v1564
  let v1566 : BitVec 32 := Scalar.subi v1563 v1565
  let v1567 : BitVec 1 := Scalar.cmpi .ne v1561 v1566
  let v1568 : BitVec 32 := Scalar.remsi v52 c32_i32_545
  let c0_i32_550 : BitVec 32 := 0#32
  let v1569 : BitVec 1 := Scalar.cmpi .ne v1568 c0_i32_550
  let v1570 : BitVec 1 := Scalar.andi v1567 v1569
  let v1556 : BitVec 32 := Scalar.divsi v52 c32_i32_545
  let c1_i32_551 : BitVec 32 := 1#32
  let v1571 : BitVec 32 := Scalar.subi v1556 c1_i32_551
  let v1572 : BitVec 32 := Scalar.select v1570 v1571 v1556
  let v1573 : Index := Scalar.indexCast v1572
  let c0_552 : Index := 0#32
  let c768_553 : Index := 768#32
  ![v1573.toNat, 0, 768]
def k0_off387 (k0_t5 : Fin k0_t5_loop.trips) : Fin 3 → Nat :=
  let c0_571 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1649 : Index := Scalar.indexCast v52
  let c768_572 : Index := 768#32
  ![0, v1649.toNat, 768]
def k0_off388 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1653 : Index := Scalar.indexCast v52
  let c1280_573 : Index := 1280#32
  ![v1653.toNat, 1280]
def k0_off389 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_583 : BitVec 32 := 0#32
  let v1676 : BitVec 1 := Scalar.cmpi .sgt v52 c0_i32_583
  let v1677 : BitVec 32 := Scalar.extui v1676
  let c0_i32_584 : BitVec 32 := 0#32
  let v1678 : BitVec 1 := Scalar.cmpi .slt v52 c0_i32_584
  let v1679 : BitVec 32 := Scalar.extui v1678
  let v1680 : BitVec 32 := Scalar.subi v1677 v1679
  let c32_i32_582 : BitVec 32 := 32#32
  let c0_i32_585 : BitVec 32 := 0#32
  let v1681 : BitVec 1 := Scalar.cmpi .sgt c32_i32_582 c0_i32_585
  let v1682 : BitVec 32 := Scalar.extui v1681
  let c0_i32_586 : BitVec 32 := 0#32
  let v1683 : BitVec 1 := Scalar.cmpi .slt c32_i32_582 c0_i32_586
  let v1684 : BitVec 32 := Scalar.extui v1683
  let v1685 : BitVec 32 := Scalar.subi v1682 v1684
  let v1686 : BitVec 1 := Scalar.cmpi .ne v1680 v1685
  let v1687 : BitVec 32 := Scalar.remsi v52 c32_i32_582
  let c0_i32_587 : BitVec 32 := 0#32
  let v1688 : BitVec 1 := Scalar.cmpi .ne v1687 c0_i32_587
  let v1689 : BitVec 1 := Scalar.andi v1686 v1688
  let v1675 : BitVec 32 := Scalar.divsi v52 c32_i32_582
  let c1_i32_588 : BitVec 32 := 1#32
  let v1690 : BitVec 32 := Scalar.subi v1675 c1_i32_588
  let v1691 : BitVec 32 := Scalar.select v1689 v1690 v1675
  let v1692 : Index := Scalar.indexCast v1691
  let c0_589 : Index := 0#32
  let c896_590 : Index := 896#32
  ![v1692.toNat, 0, 896]
def k0_off390 (k0_t5 : Fin k0_t5_loop.trips) : Fin 3 → Nat :=
  let c0_608 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1768 : Index := Scalar.indexCast v52
  let c896_609 : Index := 896#32
  ![0, v1768.toNat, 896]
def k0_off391 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1772 : Index := Scalar.indexCast v52
  let c1408_610 : Index := 1408#32
  ![v1772.toNat, 1408]
def k0_off392 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_620 : BitVec 32 := 0#32
  let v1795 : BitVec 1 := Scalar.cmpi .sgt v52 c0_i32_620
  let v1796 : BitVec 32 := Scalar.extui v1795
  let c0_i32_621 : BitVec 32 := 0#32
  let v1797 : BitVec 1 := Scalar.cmpi .slt v52 c0_i32_621
  let v1798 : BitVec 32 := Scalar.extui v1797
  let v1799 : BitVec 32 := Scalar.subi v1796 v1798
  let c32_i32_619 : BitVec 32 := 32#32
  let c0_i32_622 : BitVec 32 := 0#32
  let v1800 : BitVec 1 := Scalar.cmpi .sgt c32_i32_619 c0_i32_622
  let v1801 : BitVec 32 := Scalar.extui v1800
  let c0_i32_623 : BitVec 32 := 0#32
  let v1802 : BitVec 1 := Scalar.cmpi .slt c32_i32_619 c0_i32_623
  let v1803 : BitVec 32 := Scalar.extui v1802
  let v1804 : BitVec 32 := Scalar.subi v1801 v1803
  let v1805 : BitVec 1 := Scalar.cmpi .ne v1799 v1804
  let v1806 : BitVec 32 := Scalar.remsi v52 c32_i32_619
  let c0_i32_624 : BitVec 32 := 0#32
  let v1807 : BitVec 1 := Scalar.cmpi .ne v1806 c0_i32_624
  let v1808 : BitVec 1 := Scalar.andi v1805 v1807
  let v1794 : BitVec 32 := Scalar.divsi v52 c32_i32_619
  let c1_i32_625 : BitVec 32 := 1#32
  let v1809 : BitVec 32 := Scalar.subi v1794 c1_i32_625
  let v1810 : BitVec 32 := Scalar.select v1808 v1809 v1794
  let v1811 : Index := Scalar.indexCast v1810
  let c0_626 : Index := 0#32
  let c1024_627 : Index := 1024#32
  ![v1811.toNat, 0, 1024]
def k0_off393 (k0_t5 : Fin k0_t5_loop.trips) : Fin 3 → Nat :=
  let c0_645 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1887 : Index := Scalar.indexCast v52
  let c1024_646 : Index := 1024#32
  ![0, v1887.toNat, 1024]
def k0_off394 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v1891 : Index := Scalar.indexCast v52
  let c1536_647 : Index := 1536#32
  ![v1891.toNat, 1536]
def k0_off395 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_657 : BitVec 32 := 0#32
  let v1914 : BitVec 1 := Scalar.cmpi .sgt v52 c0_i32_657
  let v1915 : BitVec 32 := Scalar.extui v1914
  let c0_i32_658 : BitVec 32 := 0#32
  let v1916 : BitVec 1 := Scalar.cmpi .slt v52 c0_i32_658
  let v1917 : BitVec 32 := Scalar.extui v1916
  let v1918 : BitVec 32 := Scalar.subi v1915 v1917
  let c32_i32_656 : BitVec 32 := 32#32
  let c0_i32_659 : BitVec 32 := 0#32
  let v1919 : BitVec 1 := Scalar.cmpi .sgt c32_i32_656 c0_i32_659
  let v1920 : BitVec 32 := Scalar.extui v1919
  let c0_i32_660 : BitVec 32 := 0#32
  let v1921 : BitVec 1 := Scalar.cmpi .slt c32_i32_656 c0_i32_660
  let v1922 : BitVec 32 := Scalar.extui v1921
  let v1923 : BitVec 32 := Scalar.subi v1920 v1922
  let v1924 : BitVec 1 := Scalar.cmpi .ne v1918 v1923
  let v1925 : BitVec 32 := Scalar.remsi v52 c32_i32_656
  let c0_i32_661 : BitVec 32 := 0#32
  let v1926 : BitVec 1 := Scalar.cmpi .ne v1925 c0_i32_661
  let v1927 : BitVec 1 := Scalar.andi v1924 v1926
  let v1913 : BitVec 32 := Scalar.divsi v52 c32_i32_656
  let c1_i32_662 : BitVec 32 := 1#32
  let v1928 : BitVec 32 := Scalar.subi v1913 c1_i32_662
  let v1929 : BitVec 32 := Scalar.select v1927 v1928 v1913
  let v1930 : Index := Scalar.indexCast v1929
  let c0_663 : Index := 0#32
  let c1152_664 : Index := 1152#32
  ![v1930.toNat, 0, 1152]
def k0_off396 (k0_t5 : Fin k0_t5_loop.trips) : Fin 3 → Nat :=
  let c0_682 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2006 : Index := Scalar.indexCast v52
  let c1152_683 : Index := 1152#32
  ![0, v2006.toNat, 1152]
def k0_off397 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2010 : Index := Scalar.indexCast v52
  let c1664_684 : Index := 1664#32
  ![v2010.toNat, 1664]
def k0_off398 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_694 : BitVec 32 := 0#32
  let v2033 : BitVec 1 := Scalar.cmpi .sgt v52 c0_i32_694
  let v2034 : BitVec 32 := Scalar.extui v2033
  let c0_i32_695 : BitVec 32 := 0#32
  let v2035 : BitVec 1 := Scalar.cmpi .slt v52 c0_i32_695
  let v2036 : BitVec 32 := Scalar.extui v2035
  let v2037 : BitVec 32 := Scalar.subi v2034 v2036
  let c32_i32_693 : BitVec 32 := 32#32
  let c0_i32_696 : BitVec 32 := 0#32
  let v2038 : BitVec 1 := Scalar.cmpi .sgt c32_i32_693 c0_i32_696
  let v2039 : BitVec 32 := Scalar.extui v2038
  let c0_i32_697 : BitVec 32 := 0#32
  let v2040 : BitVec 1 := Scalar.cmpi .slt c32_i32_693 c0_i32_697
  let v2041 : BitVec 32 := Scalar.extui v2040
  let v2042 : BitVec 32 := Scalar.subi v2039 v2041
  let v2043 : BitVec 1 := Scalar.cmpi .ne v2037 v2042
  let v2044 : BitVec 32 := Scalar.remsi v52 c32_i32_693
  let c0_i32_698 : BitVec 32 := 0#32
  let v2045 : BitVec 1 := Scalar.cmpi .ne v2044 c0_i32_698
  let v2046 : BitVec 1 := Scalar.andi v2043 v2045
  let v2032 : BitVec 32 := Scalar.divsi v52 c32_i32_693
  let c1_i32_699 : BitVec 32 := 1#32
  let v2047 : BitVec 32 := Scalar.subi v2032 c1_i32_699
  let v2048 : BitVec 32 := Scalar.select v2046 v2047 v2032
  let v2049 : Index := Scalar.indexCast v2048
  let c0_700 : Index := 0#32
  let c1280_701 : Index := 1280#32
  ![v2049.toNat, 0, 1280]
def k0_off399 (k0_t5 : Fin k0_t5_loop.trips) : Fin 3 → Nat :=
  let c0_719 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2125 : Index := Scalar.indexCast v52
  let c1280_720 : Index := 1280#32
  ![0, v2125.toNat, 1280]
def k0_off400 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2129 : Index := Scalar.indexCast v52
  let c1792_721 : Index := 1792#32
  ![v2129.toNat, 1792]
def k0_off401 (k0_t5 : Fin k0_t5_loop.trips) : Fin 3 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_732 : BitVec 32 := 0#32
  let v2152 : BitVec 1 := Scalar.cmpi .sgt v52 c0_i32_732
  let v2153 : BitVec 32 := Scalar.extui v2152
  let c0_i32_733 : BitVec 32 := 0#32
  let v2154 : BitVec 1 := Scalar.cmpi .slt v52 c0_i32_733
  let v2155 : BitVec 32 := Scalar.extui v2154
  let v2156 : BitVec 32 := Scalar.subi v2153 v2155
  let c32_i32_731 : BitVec 32 := 32#32
  let c0_i32_734 : BitVec 32 := 0#32
  let v2157 : BitVec 1 := Scalar.cmpi .sgt c32_i32_731 c0_i32_734
  let v2158 : BitVec 32 := Scalar.extui v2157
  let c0_i32_735 : BitVec 32 := 0#32
  let v2159 : BitVec 1 := Scalar.cmpi .slt c32_i32_731 c0_i32_735
  let v2160 : BitVec 32 := Scalar.extui v2159
  let v2161 : BitVec 32 := Scalar.subi v2158 v2160
  let v2162 : BitVec 1 := Scalar.cmpi .ne v2156 v2161
  let v2163 : BitVec 32 := Scalar.remsi v52 c32_i32_731
  let c0_i32_736 : BitVec 32 := 0#32
  let v2164 : BitVec 1 := Scalar.cmpi .ne v2163 c0_i32_736
  let v2165 : BitVec 1 := Scalar.andi v2162 v2164
  let v2151 : BitVec 32 := Scalar.divsi v52 c32_i32_731
  let c1_i32_737 : BitVec 32 := 1#32
  let v2166 : BitVec 32 := Scalar.subi v2151 c1_i32_737
  let v2167 : BitVec 32 := Scalar.select v2165 v2166 v2151
  let v2168 : Index := Scalar.indexCast v2167
  let c0_738 : Index := 0#32
  let c1408_739 : Index := 1408#32
  ![v2168.toNat, 0, 1408]
def k0_off402 (k0_t5 : Fin k0_t5_loop.trips) : Fin 3 → Nat :=
  let c0_757 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2244 : Index := Scalar.indexCast v52
  let c1408_758 : Index := 1408#32
  ![0, v2244.toNat, 1408]
def k0_off403 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2248 : Index := Scalar.indexCast v52
  let c1920_759 : Index := 1920#32
  ![v2248.toNat, 1920]
def k0_off404 (k0_t5 : Fin k0_t5_loop.trips) : Fin 3 → Nat :=
  let c0_766 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let c0_i32_760 : BitVec 32 := 0#32
  let v2258 : BitVec 1 := Scalar.cmpi .sgt v52 c0_i32_760
  let v2259 : BitVec 32 := Scalar.extui v2258
  let c0_i32_761 : BitVec 32 := 0#32
  let v2260 : BitVec 1 := Scalar.cmpi .slt v52 c0_i32_761
  let v2261 : BitVec 32 := Scalar.extui v2260
  let v2262 : BitVec 32 := Scalar.subi v2259 v2261
  let c128_i32 : BitVec 32 := 128#32
  let c0_i32_762 : BitVec 32 := 0#32
  let v2263 : BitVec 1 := Scalar.cmpi .sgt c128_i32 c0_i32_762
  let v2264 : BitVec 32 := Scalar.extui v2263
  let c0_i32_763 : BitVec 32 := 0#32
  let v2265 : BitVec 1 := Scalar.cmpi .slt c128_i32 c0_i32_763
  let v2266 : BitVec 32 := Scalar.extui v2265
  let v2267 : BitVec 32 := Scalar.subi v2264 v2266
  let v2268 : BitVec 1 := Scalar.cmpi .ne v2262 v2267
  let v2269 : BitVec 32 := Scalar.remsi v52 c128_i32
  let c0_i32_764 : BitVec 32 := 0#32
  let v2270 : BitVec 1 := Scalar.cmpi .ne v2269 c0_i32_764
  let v2271 : BitVec 1 := Scalar.andi v2268 v2270
  let v2257 : BitVec 32 := Scalar.divsi v52 c128_i32
  let c1_i32_765 : BitVec 32 := 1#32
  let v2272 : BitVec 32 := Scalar.subi v2257 c1_i32_765
  let v2273 : BitVec 32 := Scalar.select v2271 v2272 v2257
  let v2274 : Index := Scalar.indexCast v2273
  let c0_767 : Index := 0#32
  ![0, v2274.toNat, 0]
def k0_off405 (k0_t5 : Fin k0_t5_loop.trips) : Fin 3 → Nat :=
  let c0_854 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2496 : Index := Scalar.indexCast v52
  let c0_855 : Index := 0#32
  ![0, v2496.toNat, 0]
def k0_off406 (k0_t5 : Fin k0_t5_loop.trips) : Fin 3 → Nat :=
  let c0_879 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2588 : Index := Scalar.indexCast v52
  let c512_880 : Index := 512#32
  ![0, v2588.toNat, 512]
def k0_off407 (k0_t5 : Fin k0_t5_loop.trips) : Fin 2 → Nat :=
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2592 : Index := Scalar.indexCast v52
  let c2048 : Index := 2048#32
  ![v2592.toNat, 2048]
def k0_off408 (k0_t5 : Fin k0_t5_loop.trips) : Fin 3 → Nat :=
  let c0_881 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2597 : Index := Scalar.indexCast v52
  let c0_882 : Index := 0#32
  ![0, v2597.toNat, 0]
def k0_off409 (k0_t5 : Fin k0_t5_loop.trips) : Fin 3 → Nat :=
  let c0_883 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2602 : Index := Scalar.indexCast v52
  let c4_884 : Index := 4#32
  ![0, v2602.toNat, 4]
def k0_off410 (k0_t5 : Fin k0_t5_loop.trips) : Fin 3 → Nat :=
  let c0_885 : Index := 0#32
  let c0_i32_56 : BitVec 32 := 0#32
  let c0_i32_6 : BitVec 32 := 0#32
  let c1_i32_8 : BitVec 32 := 1#32
  let arg26 : BitVec 32 := Scf.iv c0_i32_6 c1_i32_8 k0_t5
  let c1_i32_55 : BitVec 32 := 1#32
  let v49 : BitVec 32 := Scalar.muli arg26 c1_i32_55
  let v50 : BitVec 32 := Scalar.addi c0_i32_56 v49
  let c32_i32 : BitVec 32 := 32#32
  let v51 : BitVec 32 := Scalar.muli v50 c32_i32
  let v52 : BitVec 32 := v51
  let v2607 : Index := Scalar.indexCast v52
  let c0_886 : Index := 0#32
  ![0, v2607.toNat, 0]
@[reducible] def k0_t6_loop : Scf.Loop 32 :=
  let c0_i32_52 : BitVec 32 := 0#32
  let c10_i32 : BitVec 32 := 10#32
  let v48 : BitVec 32 := Scalar.addi c0_i32_52 c10_i32
  let c1_i32_53 : BitVec 32 := 1#32
  ⟨c0_i32_52, v48, c1_i32_53⟩
def k0_mult7 (k0_t6 : Fin k0_t6_loop.trips) : BitVec 32 :=
  let c0_i32_56 : BitVec 32 := 0#32
  let c0_i32_52 : BitVec 32 := 0#32
  let c1_i32_53 : BitVec 32 := 1#32
  let arg26 : BitVec 32 := Scf.iv c0_i32_52 c1_i32_53 k0_t6
  let c1_i32_55 : BitVec 32 := 1#32
  let v49 : BitVec 32 := Scalar.muli arg26 c1_i32_55
  let v50 : BitVec 32 := Scalar.addi c0_i32_56 v49
  let c512_i32 : BitVec 32 := 512#32
  let v51 : BitVec 32 := Scalar.muli v50 c512_i32
  v51
def k0_off411 (k0_t6 : Fin k0_t6_loop.trips) : Fin 2 → Nat :=
  let c0_59 : Index := 0#32
  let c0_i32_56 : BitVec 32 := 0#32
  let c0_i32_52 : BitVec 32 := 0#32
  let c1_i32_53 : BitVec 32 := 1#32
  let arg26 : BitVec 32 := Scf.iv c0_i32_52 c1_i32_53 k0_t6
  let c1_i32_55 : BitVec 32 := 1#32
  let v49 : BitVec 32 := Scalar.muli arg26 c1_i32_55
  let v50 : BitVec 32 := Scalar.addi c0_i32_56 v49
  let c512_i32 : BitVec 32 := 512#32
  let v51 : BitVec 32 := Scalar.muli v50 c512_i32
  let v52 : BitVec 32 := v51
  let v54 : Index := Scalar.indexCast v52
  ![0, v54.toNat]
def k0_off412 (k0_t6 : Fin k0_t6_loop.trips) : Fin 3 → Nat :=
  let c0_61 : Index := 0#32
  let c0_62 : Index := 0#32
  let c0_i32_56 : BitVec 32 := 0#32
  let c0_i32_52 : BitVec 32 := 0#32
  let c1_i32_53 : BitVec 32 := 1#32
  let arg26 : BitVec 32 := Scf.iv c0_i32_52 c1_i32_53 k0_t6
  let c1_i32_55 : BitVec 32 := 1#32
  let v49 : BitVec 32 := Scalar.muli arg26 c1_i32_55
  let v50 : BitVec 32 := Scalar.addi c0_i32_56 v49
  let c512_i32 : BitVec 32 := 512#32
  let v51 : BitVec 32 := Scalar.muli v50 c512_i32
  let v52 : BitVec 32 := v51
  let v58 : Index := Scalar.indexCast v52
  ![0, 0, v58.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S576x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S5x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S12x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x3x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x384x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x384x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x384x5120 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x3x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x384x576 .fp8e5m2 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x384x5 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x384x1536 .fp8e5m2 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x384x12 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "inv_q" => some ((1 / 1536 : ℝ) : EReal)
  | _ => none
-- ==== ReferenceIdeal.lean ====
abbrev S4x384x5120 : Shape := ⟨3, ![4, 384, 5120]⟩
abbrev S4x384x40 : Shape := ⟨3, ![4, 384, 40]⟩
abbrev S576x5120 : Shape := ⟨2, ![576, 5120]⟩
abbrev S5x40 : Shape := ⟨2, ![5, 40]⟩
abbrev S512 : Shape := ⟨1, ![512]⟩
abbrev S4x384 : Shape := ⟨2, ![4, 384]⟩
abbrev S4x384x512 : Shape := ⟨3, ![4, 384, 512]⟩
abbrev S4x384x64 : Shape := ⟨3, ![4, 384, 64]⟩
abbrev S1536x5120 : Shape := ⟨2, ![1536, 5120]⟩
abbrev S12x40 : Shape := ⟨2, ![12, 40]⟩
abbrev S1536 : Shape := ⟨1, ![1536]⟩
abbrev S4x384x1536 : Shape := ⟨3, ![4, 384, 1536]⟩
abbrev S4x3x512 : Shape := ⟨3, ![4, 3, 512]⟩
abbrev S4x3x1536 : Shape := ⟨3, ![4, 3, 1536]⟩
abbrev S4x384x576 : Shape := ⟨3, ![4, 384, 576]⟩
abbrev S4x384x5 : Shape := ⟨3, ![4, 384, 5]⟩
abbrev S4x384x12 : Shape := ⟨3, ![4, 384, 12]⟩
abbrev S512x5120 : Shape := ⟨2, ![512, 5120]⟩
abbrev S4x128x40x128 : Shape := ⟨4, ![4, 128, 40, 128]⟩
abbrev S4x40 : Shape := ⟨2, ![4, 40]⟩
abbrev S4x1x40x1 : Shape := ⟨4, ![4, 1, 40, 1]⟩
abbrev S64x5120 : Shape := ⟨2, ![64, 5120]⟩
abbrev S1x64x40x128 : Shape := ⟨4, ![1, 64, 40, 128]⟩
abbrev S1x40 : Shape := ⟨2, ![1, 40]⟩
abbrev S1x1x40x1 : Shape := ⟨4, ![1, 1, 40, 1]⟩
abbrev S12x128x40x128 : Shape := ⟨4, ![12, 128, 40, 128]⟩
abbrev S12x1x40x1 : Shape := ⟨4, ![12, 1, 40, 1]⟩
abbrev S4x384x40x128 : Shape := ⟨4, ![4, 384, 40, 128]⟩
abbrev S4x384x40x1 : Shape := ⟨4, ![4, 384, 40, 1]⟩
abbrev S1536x512 : Shape := ⟨2, ![1536, 512]⟩
abbrev S1536x1536 : Shape := ⟨2, ![1536, 1536]⟩
abbrev S4x384x1 : Shape := ⟨3, ![4, 384, 1]⟩
abbrev S4x3x128x512 : Shape := ⟨4, ![4, 3, 128, 512]⟩
abbrev S1x1x512 : Shape := ⟨3, ![1, 1, 512]⟩
abbrev S4x3x128x1536 : Shape := ⟨4, ![4, 3, 128, 1536]⟩
abbrev S1x1x1536 : Shape := ⟨3, ![1, 1, 1536]⟩
abbrev S1x1x32 : Shape := ⟨3, ![1, 1, 32]⟩
abbrev S4x384x32 : Shape := ⟨3, ![4, 384, 32]⟩
abbrev S4x384x32x2 : Shape := ⟨4, ![4, 384, 32, 2]⟩
abbrev S4x384x32x1 : Shape := ⟨4, ![4, 384, 32, 1]⟩
abbrev S4x384x4x128 : Shape := ⟨4, ![4, 384, 4, 128]⟩
abbrev S4x384x4 : Shape := ⟨3, ![4, 384, 4]⟩
abbrev S1x1x1x255 : Shape := ⟨4, ![1, 1, 1, 255]⟩
abbrev S4x384x4x1 : Shape := ⟨4, ![4, 384, 4, 1]⟩
abbrev S4x384x4x255 : Shape := ⟨4, ![4, 384, 4, 255]⟩
abbrev S4x384x1x64 : Shape := ⟨4, ![4, 384, 1, 64]⟩
abbrev S4x384x1x1 : Shape := ⟨4, ![4, 384, 1, 1]⟩
abbrev S4x384x1x255 : Shape := ⟨4, ![4, 384, 1, 255]⟩
abbrev S4x384x12x128 : Shape := ⟨4, ![4, 384, 12, 128]⟩
abbrev S4x384x12x1 : Shape := ⟨4, ![4, 384, 12, 1]⟩
abbrev S4x384x12x255 : Shape := ⟨4, ![4, 384, 12, 255]⟩
abbrev S1536x64 : Shape := ⟨2, ![1536, 64]⟩

abbrev nBuf : Space → Nat
  | .hbm => 19
  | .vmem => 19
  | .smem => 0
  | _ => 0

abbrev bufTy : (tb : Table) → Fin (tcTables nBuf tb) → BufTy
  | .hbm, ⟨0, _⟩ => ⟨S4x384x5120, .fp8e4m3⟩
  | .hbm, ⟨1, _⟩ => ⟨S4x384x40, .f32⟩
  | .hbm, ⟨2, _⟩ => ⟨S576x5120, .fp8e4m3⟩
  | .hbm, ⟨3, _⟩ => ⟨S5x40, .f32⟩
  | .hbm, ⟨4, _⟩ => ⟨S512, .f32⟩
  | .hbm, ⟨5, _⟩ => ⟨S4x384, .i32⟩
  | .hbm, ⟨6, _⟩ => ⟨S4x384x512, .bf16⟩
  | .hbm, ⟨7, _⟩ => ⟨S4x384x64, .bf16⟩
  | .hbm, ⟨8, _⟩ => ⟨S1536x5120, .fp8e4m3⟩
  | .hbm, ⟨9, _⟩ => ⟨S12x40, .f32⟩
  | .hbm, ⟨10, _⟩ => ⟨S1536, .f32⟩
  | .hbm, ⟨11, _⟩ => ⟨S4x384x1536, .bf16⟩
  | .hbm, ⟨12, _⟩ => ⟨S4x384x5120, .bf16⟩
  | .hbm, ⟨13, _⟩ => ⟨S4x3x512, .f32⟩
  | .hbm, ⟨14, _⟩ => ⟨S4x3x1536, .f32⟩
  | .hbm, ⟨15, _⟩ => ⟨S4x384x576, .fp8e5m2⟩
  | .hbm, ⟨16, _⟩ => ⟨S4x384x5, .f32⟩
  | .hbm, ⟨17, _⟩ => ⟨S4x384x1536, .fp8e5m2⟩
  | .hbm, ⟨18, _⟩ => ⟨S4x384x12, .f32⟩
  | .local _ .vmem, ⟨0, _⟩ => ⟨S4x384x5120, .fp8e4m3⟩
  | .local _ .vmem, ⟨1, _⟩ => ⟨S4x384x40, .f32⟩
  | .local _ .vmem, ⟨2, _⟩ => ⟨S576x5120, .fp8e4m3⟩
  | .local _ .vmem, ⟨3, _⟩ => ⟨S5x40, .f32⟩
  | .local _ .vmem, ⟨4, _⟩ => ⟨S512, .f32⟩
  | .local _ .vmem, ⟨5, _⟩ => ⟨S4x384, .i32⟩
  | .local _ .vmem, ⟨6, _⟩ => ⟨S4x384x512, .bf16⟩
  | .local _ .vmem, ⟨7, _⟩ => ⟨S4x384x64, .bf16⟩
  | .local _ .vmem, ⟨8, _⟩ => ⟨S1536x5120, .fp8e4m3⟩
  | .local _ .vmem, ⟨9, _⟩ => ⟨S12x40, .f32⟩
  | .local _ .vmem, ⟨10, _⟩ => ⟨S1536, .f32⟩
  | .local _ .vmem, ⟨11, _⟩ => ⟨S4x384x1536, .bf16⟩
  | .local _ .vmem, ⟨12, _⟩ => ⟨S4x384x5120, .bf16⟩
  | .local _ .vmem, ⟨13, _⟩ => ⟨S4x3x512, .f32⟩
  | .local _ .vmem, ⟨14, _⟩ => ⟨S4x3x1536, .f32⟩
  | .local _ .vmem, ⟨15, _⟩ => ⟨S4x384x576, .fp8e5m2⟩
  | .local _ .vmem, ⟨16, _⟩ => ⟨S4x384x5, .f32⟩
  | .local _ .vmem, ⟨17, _⟩ => ⟨S4x384x1536, .fp8e5m2⟩
  | .local _ .vmem, ⟨18, _⟩ => ⟨S4x384x12, .f32⟩
  | _, _ => ⟨S4x384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S4x384x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x384x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x384x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x384x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x384x5120 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x3x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x384x576 .fp8e5m2 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x384x5 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x384x1536 .fp8e5m2 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x384x12 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.BlockView.lean ====
/- A block held whole, read through the view that drops its leading unit axis: the same elements of the same buffer. -/
module

public import proofs.«01_k».proof.Proof.Gen.Kernel.Loops
public import proofs.«01_k».proof.Proof.Gen.Kernel.Frame

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- An equality of assertions, as an entailment. -/
theorem ent_of_eq {P Q : sProp 𝕄} (e : P = Q) : P ⊢ Q := e ▸ .rfl

/-- The rows of a block, as the body's view of them: `arg10` without its leading axis of one. -/
abbrev rows10 (arg10 : Memref sig .tc .vmem S1x384x512 .bf16) : Memref sig .tc .vmem S384x512 .bf16 :=
  (arg10.slice (Rect.unit (s := S1x384x512) ![0, 0, 0] S1x384x512.size inb_S1x384x512_S1x384x512_0_0_0) (fun _ => rfl)).squeeze S384x512 squeezes_S1x384x512_S384x512

/-- The same for `arg12`. -/
abbrev rows12 (arg12 : Memref sig .tc .vmem S1x384x1536 .bf16) : Memref sig .tc .vmem S384x1536 .bf16 :=
  (arg12.slice (Rect.unit (s := S1x384x1536) ![0, 0, 0] S1x384x1536.size inb_S1x384x1536_S1x384x1536_0_0_0) (fun _ => rfl)).squeeze S384x1536 squeezes_S1x384x1536_S384x1536

/-- A slice of a block's full extent, reshaped, has the block's elements. -/
theorem blk_set {sig : RefSig} {κ : Kind} {sp : Space} {s s' : Shape} {e : EltTy} (m : Memref sig κ sp s e) (off : Fin s.rank → ℕ)
    (inb : ∀ a, off a + s.size a ≤ s.size a) (hs) (hq : s.Squeezes s') :
    ((m.slice (Rect.unit off s.size inb) hs).squeeze s' hq).view.set = m.view.set := by
  refine (View.set_reshape _ _).trans ((View.set_slice _ _).trans ?_)
  have h : (Rect.unit off s.size inb).set = Finset.univ := Finset.eq_univ_of_forall fun x =>
    Rect.mem_set_unit.mpr fun a => by have := inb a; have := (x a).isLt; omega
  rw [h]; rfl

theorem rows10_set (m : Memref sig .tc .vmem S1x384x512 .bf16) : (rows10 m).view.set = m.view.set := blk_set m _ _ _ _
theorem rows12_set (m : Memref sig .tc .vmem S1x384x1536 .bf16) : (rows12 m).view.set = m.view.set := blk_set m _ _ _ _

/-- The block held whole is its view held whole. -/
theorem rows10_held (c : Dev nD) (m : Memref sig .tc .vmem S1x384x512 .bf16) (f : BufTy.Contents (Elt F) m.view.ty) :
    (m.view.loc (c : Thread nD τ) ↦[m.view.set]{fullShare} f : sProp 𝕄)
      = ((rows10 m).view.loc (c : Thread nD τ) ↦[(rows10 m).view.set]{fullShare} f : sProp 𝕄) := by
  rw [rows10_set]

/-- The block held whole is its view held whole. -/
theorem rows12_held (c : Dev nD) (m : Memref sig .tc .vmem S1x384x1536 .bf16) (f : BufTy.Contents (Elt F) m.view.ty) :
    (m.view.loc (c : Thread nD τ) ↦[m.view.set]{fullShare} f : sProp 𝕄)
      = ((rows12 m).view.loc (c : Thread nD τ) ↦[(rows12 m).view.set]{fullShare} f : sProp 𝕄) := by
  rw [rows12_set]

end Cert.Kernel.Hand

end
-- ==== Proof.FrameRun.lean ====
/- The body run once, in each of its two cases, with every buffer it writes forgotten. -/
module

public import proofs.«01_k».proof.Proof.BlockView

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- What the body is run over and gives back: the twelve inputs at their contents, the seven outputs and six scratch buffers
    at some contents. -/
def held (c : Dev nD) (arg1 : Memref sig .tc .vmem S1x384x5120 .fp8e4m3) (arg2 : Memref sig .tc .vmem S1x384x40 .f32) (arg3 : Memref sig .tc .vmem S576x5120 .fp8e4m3) (arg4 : Memref sig .tc .vmem S1536x5120 .fp8e4m3) (arg5 : Memref sig .tc .smem S5x40 .f32) (arg6 : Memref sig .tc .smem S12x40 .f32) (arg7 : Memref sig .tc .vmem S1x512 .f32) (arg8 : Memref sig .tc .vmem S1x1536 .f32) (arg9 : Memref sig .tc .vmem S1x3x128 .i32) (arg10 : Memref sig .tc .vmem S1x384x512 .bf16) (arg11 : Memref sig .tc .vmem S1x384x64 .bf16) (arg12 : Memref sig .tc .vmem S1x384x1536 .bf16) (arg13 : Memref sig .tc .vmem S1x384x5120 .bf16) (arg14 : Memref sig .tc .vmem S1x3x512 .f32) (arg15 : Memref sig .tc .vmem S1x3x1536 .f32) (arg16 : Memref sig .tc .vmem S1x384x576 .fp8e5m2) (arg17 : Memref sig .tc .vmem S1x384x5 .f32) (arg18 : Memref sig .tc .vmem S1x384x1536 .fp8e5m2) (arg19 : Memref sig .tc .vmem S1x384x12 .f32) (arg20 : Memref sig .tc .vmem S2304x5120 .bf16) (arg21 : Memref sig .tc .vmem S384x5120 .bf16) (arg22 : Memref sig .tc .vmem S384x2048 .bf16) (arg23 : Memref sig .tc .vmem S384x2304 .bf16) (arg24 : Memref sig .tc .vmem S12x8x512 .f32) (arg25 : Memref sig .tc .vmem S12x8x1536 .f32)
    (x0 : Vec F S1x384x5120 .fp8e4m3) (x1 : Vec F S1x384x40 .f32) (x2 : Vec F S576x5120 .fp8e4m3) (x3 : Vec F S1536x5120 .fp8e4m3) (x4 : Vec F S5x40 .f32) (x5 : Vec F S12x40 .f32) (x6 : Vec F S1x512 .f32) (x7 : Vec F S1x1536 .f32) (x8 : Vec F S1x3x128 .i32) (x9 : Vec F S1x384x512 .bf16) (x10 : Vec F S1x384x64 .bf16) (x11 : Vec F S1x384x1536 .bf16) : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ (∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d)
    ∗ (∃ d, owns (c : Thread nD τ) arg22 fullShare d)
    ∗ (∃ d, owns (c : Thread nD τ) arg23 fullShare d)
    ∗ (∃ d, owns (c : Thread nD τ) arg24 fullShare d)
    ∗ (∃ d, owns (c : Thread nD τ) arg25 fullShare d))

/-- The condition of the body's one `scf.if`, from the grid coordinates. -/
abbrev cond0_0 (i : grid0.Coords) : Prop := k0_cond1 i = 1#1

variable (c : Dev nD) (i : grid0.Coords)
  (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)
  (x0 : Vec F S1x384x5120 .fp8e4m3) (x1 : Vec F S1x384x40 .f32) (x2 : Vec F S576x5120 .fp8e4m3) (x3 : Vec F S1536x5120 .fp8e4m3) (x4 : Vec F S5x40 .f32) (x5 : Vec F S12x40 .f32) (x6 : Vec F S1x512 .f32) (x7 : Vec F S1x1536 .f32) (x8 : Vec F S1x3x128 .i32) (x9 : Vec F S1x384x512 .bf16) (x10 : Vec F S1x384x64 .bf16) (x11 : Vec F S1x384x1536 .bf16)

set_option maxHeartbeats 4000000 in
/-- At the first grid point: on whole staging memrefs, the inputs' at their contents and everything else at anything, the body
    runs to the continuation, which gets the inputs back as they were and the rest at some contents. -/
theorem runA (hc0 : cond0_0 i) (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 ∗ (held c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 -∗ K ⟨⟩))
      ⊢ wp frame (wpE (defs₀ (F := F)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_mla_bwd_eq_skeleton]; unfold cc0_mla_bwd_skel
  simp only [k0_part103_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part104_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  ihave H9 := (ent_of_eq (rows10_held c arg10 _)) $$ H9
  ihave H11 := (ent_of_eq (rows12_held c arg12 _)) $$ H11
  sl_exec (disch := first | sl_exact hc0)
  sl_step
  ihave H9 := (ent_of_eq (rows10_held c arg10 _).symm) $$ H9
  ihave H11 := (ent_of_eq (rows12_held c arg12 _).symm) $$ H11
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

set_option maxHeartbeats 4000000 in
/-- The same at every later point. -/
theorem runB (hc0 : ¬ cond0_0 i) (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 ∗ (held c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 -∗ K ⟨⟩))
      ⊢ wp frame (wpE (defs₀ (F := F)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_mla_bwd_eq_skeleton]; unfold cc0_mla_bwd_skel
  simp only [k0_part103_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part104_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  ihave H9 := (ent_of_eq (rows10_held c arg10 _)) $$ H9
  ihave H11 := (ent_of_eq (rows12_held c arg12 _)) $$ H11
  sl_exec (disch := first | sl_exact hc0)
  sl_step
  ihave H9 := (ent_of_eq (rows10_held c arg10 _).symm) $$ H9
  ihave H11 := (ent_of_eq (rows12_held c arg12 _).symm) $$ H11
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

end Cert.Kernel.Hand

end
-- ==== Proof.FrameGeom.lean ====
/- The grid's points and the memrefs the body is called with: which points the body's condition holds at, and the scratch as the launch hands it over. -/
module

public import proofs.«01_k».proof.Proof.FrameRun

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- Each window's current staging memref at point `t`, spelled as the pipeline passes it (`bodyAt0`), and its wholeness. -/
abbrev ms0_0 (t : Fin cfg0.N) : Memref sig .tc .vmem S1x384x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x384x40 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S576x5120 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x5120 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S5x40 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S12x40 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x384x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x384x64 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x384x1536 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x384x5120 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x3x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x3x1536 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x384x576 .fp8e5m2 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x384x5 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x384x1536 .fp8e5m2 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x384x12 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S2304x5120 .bf16 := Memref.whole cc0_scratch0
abbrev scM0_1 : Memref sig .tc .vmem S384x5120 .bf16 := Memref.whole cc0_scratch1
abbrev scM0_2 : Memref sig .tc .vmem S384x2048 .bf16 := Memref.whole cc0_scratch2
abbrev scM0_3 : Memref sig .tc .vmem S384x2304 .bf16 := Memref.whole cc0_scratch3
abbrev scM0_4 : Memref sig .tc .vmem S12x8x512 .f32 := Memref.whole cc0_scratch4
abbrev scM0_5 : Memref sig .tc .vmem S12x8x1536 .f32 := Memref.whole cc0_scratch5
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.Frame.lean ====
/- The frame: every run of the program ends with its argument arrays as they were and every counter at zero. -/
module

public import proofs.«01_k».proof.Proof.FrameGeom
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim from a run that forgets the outputs: each argument array is a staged input or an array no window stages. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 4 rfl).trans ((hA c 4).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 9 rfl).trans ((hA c 9).trans (V_main_arg6 m c)),
      (Pipeline.RDat.FramePost.arr_in h c 10 rfl).trans ((hA c 10).trans (V_main_arg7 m c)),
      (Pipeline.RDat.FramePost.arr_in h c 3 rfl).trans ((hA c 3).trans (V_main_arg8 m c)),
      (Pipeline.RDat.FramePost.arr_in h c 5 rfl).trans ((hA c 5).trans (V_main_arg9 m c)),
      ((h c).2 main_arg10 (Pipeline.mem_restRefs_of main_arg10 (by decide) (by decide))).trans (V_main_arg10 m c),
      (Pipeline.RDat.FramePost.arr_in h c 11 rfl).trans ((hA c 11).trans (V_main_arg11 m c))⟩) h

/-- The output windows this certificate FORGETS (12, 13, 14, 15, 16, 17, 18): nothing reads what the kernel leaves in them, so nothing
    of it is named (Lib/Pipeline/Dat.lean `Dat.toRForget`). -/
def forgets0 : Fin 19 → Bool := fun w => w.val == 12 || w.val == 13 || w.val == 14 || w.val == 15 || w.val == 16 || w.val == 17 || w.val == 18

/-- The proof data of the one pipeline on core `c`: each input's buffer at its block after the body, the outputs forgotten, and
    between points every scratch buffer at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-! Each input's staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 19200000 in
/-- The body at any point: the inputs' memrefs hold their blocks, the point's case is decided, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = Pipeline.ΦA spec0 c from rfl, show (dats m 0 c).Φ t.castSucc = Pipeline.ΦA spec0 c from rfl, PhiA0_eq]
  by_cases h0 : t.val % 4 = 0
  · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (runA c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) Set.univ _)
    unfold held
    isplitl [H0 H1 H2 H3 H4 H5 H6 H7 H8 H9 H10 H11 H12 H13 H14 H15 H16 H17 H18 HS0 HS1 HS2 HS3 HS4 HS5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      isplitl [HS1]; · iexact HS1
      isplitl [HS2]; · iexact HS2
      isplitl [HS3]; · iexact HS3
      isplitl [HS4]; · iexact HS4
      iexact HS5
    iintro ⟨H0, H1, H2, H3, H4, H5, H6, H7, H8, H9, H10, H11, H12, H13, H14, H15, H16, H17, H18, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (runB c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun h => h0 ((hcond0_0 t).mp h)) Set.univ _)
    unfold held
    isplitl [H0 H1 H2 H3 H4 H5 H6 H7 H8 H9 H10 H11 H12 H13 H14 H15 H16 H17 H18 HS0 HS1 HS2 HS3 HS4 HS5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      isplitl [HS1]; · iexact HS1
      isplitl [HS2]; · iexact HS2
      isplitl [HS3]; · iexact HS3
      isplitl [HS4]; · iexact HS4
      iexact HS5
    iintro ⟨H0, H1, H2, H3, H4, H5, H6, H7, H8, H9, H10, H11, H12, H13, H14, H15, H16, H17, H18, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 12, 13, 14, 15, 16, 17, 18) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Hand

end
-- ==== Proof.IdealBlockView.lean ====
/- A block held whole, read through the view that drops its leading unit axis: the same elements of the same buffer. -/
module

public import proofs.«01_k».proof.Proof.Gen.KernelIdeal.Loops
public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- An equality of assertions, as an entailment. -/
theorem ent_of_eq {P Q : sProp 𝕄} (e : P = Q) : P ⊢ Q := e ▸ .rfl

/-- The rows of a block, as the body's view of them: `arg10` without its leading axis of one. -/
abbrev rows10 (arg10 : Memref sig .tc .vmem S1x384x512 .bf16) : Memref sig .tc .vmem S384x512 .bf16 :=
  (arg10.slice (Rect.unit (s := S1x384x512) ![0, 0, 0] S1x384x512.size inb_S1x384x512_S1x384x512_0_0_0) (fun _ => rfl)).squeeze S384x512 squeezes_S1x384x512_S384x512

/-- The same for `arg12`. -/
abbrev rows12 (arg12 : Memref sig .tc .vmem S1x384x1536 .bf16) : Memref sig .tc .vmem S384x1536 .bf16 :=
  (arg12.slice (Rect.unit (s := S1x384x1536) ![0, 0, 0] S1x384x1536.size inb_S1x384x1536_S1x384x1536_0_0_0) (fun _ => rfl)).squeeze S384x1536 squeezes_S1x384x1536_S384x1536

/-- A slice of a block's full extent, reshaped, has the block's elements. -/
theorem blk_set {sig : RefSig} {κ : Kind} {sp : Space} {s s' : Shape} {e : EltTy} (m : Memref sig κ sp s e) (off : Fin s.rank → ℕ)
    (inb : ∀ a, off a + s.size a ≤ s.size a) (hs) (hq : s.Squeezes s') :
    ((m.slice (Rect.unit off s.size inb) hs).squeeze s' hq).view.set = m.view.set := by
  refine (View.set_reshape _ _).trans ((View.set_slice _ _).trans ?_)
  have h : (Rect.unit off s.size inb).set = Finset.univ := Finset.eq_univ_of_forall fun x =>
    Rect.mem_set_unit.mpr fun a => by have := inb a; have := (x a).isLt; omega
  rw [h]; rfl

theorem rows10_set (m : Memref sig .tc .vmem S1x384x512 .bf16) : (rows10 m).view.set = m.view.set := blk_set m _ _ _ _
theorem rows12_set (m : Memref sig .tc .vmem S1x384x1536 .bf16) : (rows12 m).view.set = m.view.set := blk_set m _ _ _ _

/-- The block held whole is its view held whole. -/
theorem rows10_held (c : Dev nD) (m : Memref sig .tc .vmem S1x384x512 .bf16) (f : BufTy.Contents (Elt F) m.view.ty) :
    (m.view.loc (c : Thread nD τ) ↦[m.view.set]{fullShare} f : sProp 𝕄)
      = ((rows10 m).view.loc (c : Thread nD τ) ↦[(rows10 m).view.set]{fullShare} f : sProp 𝕄) := by
  rw [rows10_set]

/-- The block held whole is its view held whole. -/
theorem rows12_held (c : Dev nD) (m : Memref sig .tc .vmem S1x384x1536 .bf16) (f : BufTy.Contents (Elt F) m.view.ty) :
    (m.view.loc (c : Thread nD τ) ↦[m.view.set]{fullShare} f : sProp 𝕄)
      = ((rows12 m).view.loc (c : Thread nD τ) ↦[(rows12 m).view.set]{fullShare} f : sProp 𝕄) := by
  rw [rows12_set]

end Cert.KernelIdeal.Hand

end
-- ==== Proof.IdealFrameRun.lean ====
/- The body run once, in each of its two cases, with every buffer it writes forgotten. -/
module

public import proofs.«01_k».proof.Proof.IdealBlockView

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What the body is run over and gives back: the twelve inputs at their contents, the seven outputs and six scratch buffers
    at some contents. -/
def held (c : Dev nD) (arg1 : Memref sig .tc .vmem S1x384x5120 .fp8e4m3) (arg2 : Memref sig .tc .vmem S1x384x40 .f32) (arg3 : Memref sig .tc .vmem S576x5120 .fp8e4m3) (arg4 : Memref sig .tc .vmem S1536x5120 .fp8e4m3) (arg5 : Memref sig .tc .smem S5x40 .f32) (arg6 : Memref sig .tc .smem S12x40 .f32) (arg7 : Memref sig .tc .vmem S1x512 .f32) (arg8 : Memref sig .tc .vmem S1x1536 .f32) (arg9 : Memref sig .tc .vmem S1x3x128 .i32) (arg10 : Memref sig .tc .vmem S1x384x512 .bf16) (arg11 : Memref sig .tc .vmem S1x384x64 .bf16) (arg12 : Memref sig .tc .vmem S1x384x1536 .bf16) (arg13 : Memref sig .tc .vmem S1x384x5120 .bf16) (arg14 : Memref sig .tc .vmem S1x3x512 .f32) (arg15 : Memref sig .tc .vmem S1x3x1536 .f32) (arg16 : Memref sig .tc .vmem S1x384x576 .fp8e5m2) (arg17 : Memref sig .tc .vmem S1x384x5 .f32) (arg18 : Memref sig .tc .vmem S1x384x1536 .fp8e5m2) (arg19 : Memref sig .tc .vmem S1x384x12 .f32) (arg20 : Memref sig .tc .vmem S2304x5120 .bf16) (arg21 : Memref sig .tc .vmem S384x5120 .bf16) (arg22 : Memref sig .tc .vmem S384x2048 .bf16) (arg23 : Memref sig .tc .vmem S384x2304 .bf16) (arg24 : Memref sig .tc .vmem S12x8x512 .f32) (arg25 : Memref sig .tc .vmem S12x8x1536 .f32)
    (x0 : Vec F S1x384x5120 .fp8e4m3) (x1 : Vec F S1x384x40 .f32) (x2 : Vec F S576x5120 .fp8e4m3) (x3 : Vec F S1536x5120 .fp8e4m3) (x4 : Vec F S5x40 .f32) (x5 : Vec F S12x40 .f32) (x6 : Vec F S1x512 .f32) (x7 : Vec F S1x1536 .f32) (x8 : Vec F S1x3x128 .i32) (x9 : Vec F S1x384x512 .bf16) (x10 : Vec F S1x384x64 .bf16) (x11 : Vec F S1x384x1536 .bf16) : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ (∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d)
    ∗ (∃ d, owns (c : Thread nD τ) arg22 fullShare d)
    ∗ (∃ d, owns (c : Thread nD τ) arg23 fullShare d)
    ∗ (∃ d, owns (c : Thread nD τ) arg24 fullShare d)
    ∗ (∃ d, owns (c : Thread nD τ) arg25 fullShare d))

/-- The condition of the body's one `scf.if`, from the grid coordinates. -/
abbrev cond0_0 (i : grid0.Coords) : Prop := k0_cond1 i = 1#1

variable (c : Dev nD) (i : grid0.Coords)
  (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)
  (x0 : Vec F S1x384x5120 .fp8e4m3) (x1 : Vec F S1x384x40 .f32) (x2 : Vec F S576x5120 .fp8e4m3) (x3 : Vec F S1536x5120 .fp8e4m3) (x4 : Vec F S5x40 .f32) (x5 : Vec F S12x40 .f32) (x6 : Vec F S1x512 .f32) (x7 : Vec F S1x1536 .f32) (x8 : Vec F S1x3x128 .i32) (x9 : Vec F S1x384x512 .bf16) (x10 : Vec F S1x384x64 .bf16) (x11 : Vec F S1x384x1536 .bf16)

set_option maxHeartbeats 4000000 in
/-- At the first grid point: on whole staging memrefs, the inputs' at their contents and everything else at anything, the body
    runs to the continuation, which gets the inputs back as they were and the rest at some contents. -/
theorem runA (hc0 : cond0_0 i) (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 ∗ (held c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 -∗ K ⟨⟩))
      ⊢ wp frame (wpE (defs₀ (F := F)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_mla_bwd_eq_skeleton]; unfold cc0_mla_bwd_skel
  simp only [k0_part103_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part104_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  ihave H9 := (ent_of_eq (rows10_held c arg10 _)) $$ H9
  ihave H11 := (ent_of_eq (rows12_held c arg12 _)) $$ H11
  sl_exec (disch := first | sl_exact hc0)
  sl_step
  ihave H9 := (ent_of_eq (rows10_held c arg10 _).symm) $$ H9
  ihave H11 := (ent_of_eq (rows12_held c arg12 _).symm) $$ H11
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

set_option maxHeartbeats 4000000 in
/-- The same at every later point. -/
theorem runB (hc0 : ¬ cond0_0 i) (E : Set ℕ) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 ∗ (held c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 -∗ K ⟨⟩))
      ⊢ wp frame (wpE (defs₀ (F := F)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_mla_bwd_eq_skeleton]; unfold cc0_mla_bwd_skel
  simp only [k0_part103_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part104_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  ihave H9 := (ent_of_eq (rows10_held c arg10 _)) $$ H9
  ihave H11 := (ent_of_eq (rows12_held c arg12 _)) $$ H11
  sl_exec (disch := first | sl_exact hc0)
  sl_step
  ihave H9 := (ent_of_eq (rows10_held c arg10 _).symm) $$ H9
  ihave H11 := (ent_of_eq (rows12_held c arg12 _).symm) $$ H11
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

end Cert.KernelIdeal.Hand

end
-- ==== Proof.IdealFrameGeom.lean ====
/- The grid's points and the memrefs the body is called with: which points the body's condition holds at, and the scratch as the launch hands it over. -/
module

public import proofs.«01_k».proof.Proof.IdealFrameRun

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, k0_cond1, e0]
    word_cmp
   : ∀ t : Fin grid0.N, cond0_0 (grid0.coords t) ↔ t.val % 4 = 0)

/-- Each window's current staging memref at point `t`, spelled as the pipeline passes it (`bodyAt0`), and its wholeness. -/
abbrev ms0_0 (t : Fin cfg0.N) : Memref sig .tc .vmem S1x384x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x384x40 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S576x5120 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x5120 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S5x40 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S12x40 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1536 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x3x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x384x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x384x64 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x384x1536 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x384x5120 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x3x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x3x1536 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x384x576 .fp8e5m2 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x384x5 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x384x1536 .fp8e5m2 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x384x12 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S2304x5120 .bf16 := Memref.whole cc0_scratch0
abbrev scM0_1 : Memref sig .tc .vmem S384x5120 .bf16 := Memref.whole cc0_scratch1
abbrev scM0_2 : Memref sig .tc .vmem S384x2048 .bf16 := Memref.whole cc0_scratch2
abbrev scM0_3 : Memref sig .tc .vmem S384x2304 .bf16 := Memref.whole cc0_scratch3
abbrev scM0_4 : Memref sig .tc .vmem S12x8x512 .f32 := Memref.whole cc0_scratch4
abbrev scM0_5 : Memref sig .tc .vmem S12x8x1536 .f32 := Memref.whole cc0_scratch5
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.IdealFrame.lean ====
/- The frame: every run of the program ends with its argument arrays as they were and every counter at zero. -/
module

public import proofs.«01_k».proof.Proof.IdealFrameGeom
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The frame claim from a run that forgets the outputs: each argument array is a staged input or an array no window stages. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 4 rfl).trans ((hA c 4).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 9 rfl).trans ((hA c 9).trans (V_main_arg6 m c)),
      (Pipeline.RDat.FramePost.arr_in h c 10 rfl).trans ((hA c 10).trans (V_main_arg7 m c)),
      (Pipeline.RDat.FramePost.arr_in h c 3 rfl).trans ((hA c 3).trans (V_main_arg8 m c)),
      (Pipeline.RDat.FramePost.arr_in h c 5 rfl).trans ((hA c 5).trans (V_main_arg9 m c)),
      ((h c).2 main_arg10 (Pipeline.mem_restRefs_of main_arg10 (by decide) (by decide))).trans (V_main_arg10 m c),
      (Pipeline.RDat.FramePost.arr_in h c 11 rfl).trans ((hA c 11).trans (V_main_arg11 m c))⟩) h

/-- The output windows this certificate FORGETS (12, 13, 14, 15, 16, 17, 18): nothing reads what the kernel leaves in them, so nothing
    of it is named (Lib/Pipeline/Dat.lean `Dat.toRForget`). -/
def forgets0 : Fin 19 → Bool := fun w => w.val == 12 || w.val == 13 || w.val == 14 || w.val == 15 || w.val == 16 || w.val == 17 || w.val == 18

/-- The proof data of the one pipeline on core `c`: each input's buffer at its block after the body, the outputs forgotten, and
    between points every scratch buffer at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-! Each input's staging buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 19200000 in
/-- The body at any point: the inputs' memrefs hold their blocks, the point's case is decided, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = Pipeline.ΦA spec0 c from rfl, show (dats m 0 c).Φ t.castSucc = Pipeline.ΦA spec0 c from rfl, PhiA0_eq]
  by_cases h0 : t.val % 4 = 0
  · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (runA c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) Set.univ _)
    unfold held
    isplitl [H0 H1 H2 H3 H4 H5 H6 H7 H8 H9 H10 H11 H12 H13 H14 H15 H16 H17 H18 HS0 HS1 HS2 HS3 HS4 HS5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      isplitl [HS1]; · iexact HS1
      isplitl [HS2]; · iexact HS2
      isplitl [HS3]; · iexact HS3
      isplitl [HS4]; · iexact HS4
      iexact HS5
    iintro ⟨H0, H1, H2, H3, H4, H5, H6, H7, H8, H9, H10, H11, H12, H13, H14, H15, H16, H17, H18, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (runB c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun h => h0 ((hcond0_0 t).mp h)) Set.univ _)
    unfold held
    isplitl [H0 H1 H2 H3 H4 H5 H6 H7 H8 H9 H10 H11 H12 H13 H14 H15 H16 H17 H18 HS0 HS1 HS2 HS3 HS4 HS5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [HS0]; · iexact HS0
      isplitl [HS1]; · iexact HS1
      isplitl [HS2]; · iexact HS2
      isplitl [HS3]; · iexact HS3
      isplitl [HS4]; · iexact HS4
      iexact HS5
    iintro ⟨H0, H1, H2, H3, H4, H5, H6, H7, H8, H9, H10, H11, H12, H13, H14, H15, H16, H17, H18, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 12, 13, 14, 15, 16, 17, 18) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Hand

end
-- ==== Proof.IdealSearch.lean ====
/- The scale search: the largest power of two not above a number, found by comparing exponents from the top bit down, is the
   same as counting the powers of two not above it. -/
module

public import Idealize.ShloMosaic.PureOps.Ideal

@[expose] public section

noncomputable section

namespace Cert.KernelIdeal.Hand

open Idealize.ShloMosaic

/-- The word of the float whose exponent field is `k` and whose fraction is zero. -/
def expWord (k : ℕ) : BitVec 32 := BitVec.ofNat 32 (k * 8388608)

/-- Its value: zero, a power of two, or infinity. -/
def theta (k : ℕ) : EReal := Ideal.ofBits .f32 (expWord k)

/-- One step of the search: take the trial unless it is above `a`. -/
def stepB (a : EReal) (prev c : BitVec 32) : BitVec 32 := if a < Ideal.ofBits .f32 (prev + c) then prev else prev + c

/-- The search, from the exponent's top bit down. -/
def searchB (a : EReal) : BitVec 32 :=
  stepB a (stepB a (stepB a (stepB a (stepB a (stepB a (stepB a (stepB a 0#32 0x40000000#32) 0x20000000#32) 0x10000000#32)
    0x8000000#32) 0x4000000#32) 0x2000000#32) 0x1000000#32) 0x800000#32

/-- How many of the powers of two of exponent fields 1 … 255 are not above `a`. -/
def countB (a : EReal) : ℕ := (Finset.univ.filter fun k : Fin 255 => theta (k.val + 1) ≤ a).card

theorem expWord_add {j k : ℕ} : expWord j + expWord k = expWord (j + k) := by
  simp only [expWord, add_mul, BitVec.ofNat_add]

theorem expWord_fields : ∀ k : Fin 256, ((expWord k.val).extractLsb' 31 1 == 1#1) = false
    ∧ ((expWord k.val).extractLsb' 23 8).toNat = k.val ∧ ((expWord k.val).extractLsb' 0 23).toNat = 0 := by decide +kernel

theorem theta_eq (k : Fin 256) : theta k.val
    = if k.val = 255 then ⊤ else if k.val = 0 then 0 else (((2 : ℝ) ^ ((k.val : ℤ) - 127) : ℝ) : EReal) := by
  obtain ⟨h1, h2, h3⟩ := expWord_fields k
  show Ideal.ieee 8 23 (expWord k.val) = _
  unfold Ideal.ieee
  simp only [Nat.reduceAdd, h1, h2, h3]
  have e255 : (2 ^ 8 - 1 : ℕ) = 255 := by norm_num
  simp only [e255]
  split
  · simp
  split
  · simp
  · congr 1
    have : ((2 ^ 23 + 0 : ℕ) : ℝ) = (2 : ℝ) ^ (23 : ℤ) := by norm_num
    rw [this]
    simp only [Bool.false_eq_true, if_false, one_mul]
    rw [← zpow_add₀ (by norm_num : (2 : ℝ) ≠ 0)]
    congr 1; norm_num

theorem theta_mono {j k : ℕ} (h1 : 1 ≤ j) (h : j ≤ k) (h2 : k ≤ 255) : theta j ≤ theta k := by
  rw [theta_eq ⟨k, by omega⟩]
  by_cases hk : k = 255
  · simp [hk]
  rw [theta_eq ⟨j, by omega⟩]
  simp only [hk, if_false, show j ≠ 255 by omega, show j ≠ 0 by omega, show k ≠ 0 by omega]
  exact EReal.coe_le_coe_iff.mpr (zpow_le_zpow_right₀ (by norm_num) (by omega))

/-- Where the search stands: the exponent field `E` reached, the powers of two up to it not above `a`, those from `E + s` on above. -/
def At (a : EReal) (s E : ℕ) : Prop := (E = 0 ∨ theta E ≤ a) ∧ (256 ≤ E + s ∨ a < theta (E + s)) ∧ E + s ≤ 256

theorem step_at {a : EReal} {s E : ℕ} (hs : 1 ≤ s) (h : At a (2 * s) E) :
    ∃ E', stepB a (expWord E) (expWord s) = expWord E' ∧ At a s E' := by
  obtain ⟨h1, h2, h3⟩ := h
  unfold stepB
  rw [expWord_add]
  by_cases hlt : a < theta (E + s)
  · exact ⟨E, if_pos hlt, h1, .inr hlt, by omega⟩
  · refine ⟨E + s, if_neg hlt, .inr (not_lt.mp hlt), ?_, by omega⟩
    rw [add_assoc, ← two_mul]; exact h2

theorem card_le (n : ℕ) (hn : n ≤ 255) : (Finset.univ.filter fun k : Fin 255 => k.val + 1 ≤ n).card = n := by
  have : ∀ n : Fin 256, (Finset.univ.filter fun k : Fin 255 => k.val + 1 ≤ n.val).card = n.val := by
    intro n
    rw [show (Finset.univ.filter fun k : Fin 255 => k.val + 1 ≤ n.val) = Finset.univ.filter fun k : Fin 255 => k.val < n.val from
      Finset.filter_congr fun k _ => Nat.succ_le_iff]
    rw [Fin.card_filter_val_lt]
    omega
  exact this ⟨n, by omega⟩

theorem searchB_eq (a : EReal) : searchB a = expWord (countB a) := by
  have h0 : At a (2 * 128) 0 := ⟨.inl rfl, .inl (by norm_num), by norm_num⟩
  obtain ⟨E1, e1, h1⟩ := step_at (by norm_num) h0
  obtain ⟨E2, e2, h2⟩ := step_at (s := 64) (by norm_num) h1
  obtain ⟨E3, e3, h3⟩ := step_at (s := 32) (by norm_num) h2
  obtain ⟨E4, e4, h4⟩ := step_at (s := 16) (by norm_num) h3
  obtain ⟨E5, e5, h5⟩ := step_at (s := 8) (by norm_num) h4
  obtain ⟨E6, e6, h6⟩ := step_at (s := 4) (by norm_num) h5
  obtain ⟨E7, e7, h7⟩ := step_at (s := 2) (by norm_num) h6
  obtain ⟨E8, e8, h8⟩ := step_at (s := 1) (by norm_num) h7
  have hc : countB a = E8 := by
    obtain ⟨g1, g2, g3⟩ := h8
    unfold countB
    rw [← card_le E8 (by omega)]
    congr 1
    refine Finset.filter_congr fun k _ => ?_
    have hk := k.isLt
    constructor
    · intro hle
      by_contra hgt
      rcases g2 with g2 | g2
      · omega
      · exact absurd ((theta_mono (by omega) (by omega) (by omega)).trans hle) (not_le.mpr g2)
    · intro hle
      rcases g1 with g1 | g1
      · omega
      · exact (theta_mono (by omega) hle (by omega)).trans g1
  rw [hc, ← e8, ← e7, ← e6, ← e5, ← e4, ← e3, ← e2, ← e1]
  rfl

theorem countB_le (a : EReal) : countB a ≤ 255 :=
  (Finset.card_filter_le _ _).trans (by simp)

/-- The scale's word and its inverse's, as the kernel makes them of the exponent it found. -/
def scaleWord (a : EReal) : BitVec 32 := (if searchB a = 0#32 then 0x3F000000#32 else searchB a) + 0x800000#32
def invWord (a : EReal) : BitVec 32 := 0x7E800000#32 - (if searchB a = 0#32 then 0x3F000000#32 else searchB a)

/-- The exponent counted: zero where no power of two is reached. -/
def expo (a : EReal) : BitVec 32 := if BitVec.ofNat 32 (countB a) = 0#32 then 0#32 else BitVec.ofNat 32 (countB a) - 126#32

theorem words : ∀ k : Fin 256,
    ((if expWord k.val = 0#32 then 0x3F000000#32 else expWord k.val) + 0x800000#32
        = ((if BitVec.ofNat 32 k.val = 0#32 then 0#32 else BitVec.ofNat 32 k.val - 126#32) + 127#32) <<< 23)
    ∧ (0x7E800000#32 - (if expWord k.val = 0#32 then 0x3F000000#32 else expWord k.val)
        = ((0#32 - (if BitVec.ofNat 32 k.val = 0#32 then 0#32 else BitVec.ofNat 32 k.val - 126#32)) + 127#32) <<< 23) := by
  decide +kernel

/-- They are the words of two to the counted exponent and to its negative. -/
theorem scaleWord_eq (a : EReal) : scaleWord a = (expo a + 127#32) <<< 23 := by
  unfold scaleWord expo; rw [searchB_eq]; exact (words ⟨countB a, by have := countB_le a; omega⟩).1
theorem invWord_eq (a : EReal) : invWord a = ((0#32 - expo a) + 127#32) <<< 23 := by
  unfold invWord expo; rw [searchB_eq]; exact (words ⟨countB a, by have := countB_le a; omega⟩).2

end Cert.KernelIdeal.Hand

end
-- ==== Proof.IdealPieces.lean ====
/- A buffer written piece by piece, when every piece writes one function's values: what it reads afterwards. -/
module

public import proofs.«01_k».proof.Proof.IdealBlockView
public import Idealize.ShloMosaic.Lib.WritesUnit
public import Idealize.ShloMosaic.Lib.Pointwise

@[expose] public section

set_option maxRecDepth 16384

noncomputable section

namespace Cert.KernelIdeal.Hand

open Idealize.ShloMosaic

variable {sig : RefSig} {κ : Kind} {sp : Space} {e : EltTy} {Val : EltTy → Type}

/-- The piece writes `T`'s values over its rectangle. -/
def Agrees {s : Shape} (T : s.Idx → Val e) (p : View.Piece Val s e) : Prop := ∀ x, p.2 x = T (p.1.emb x)

/-- Where pieces that all write `T`'s values cover an element, or the buffer held `T`'s value there before, it reads `T`'s value. -/
theorem read_of_agrees {s : Shape} (v : View sig κ sp s e) (f : v.ty.Contents Val) (L : List (View.Piece Val s e)) (T : s.Idx → Val e)
    (hL : ∀ p ∈ L, Agrees T p) (y : s.Idx) (hy : v.read Val f y = T y ∨ ∃ p ∈ L, y ∈ p.1.set) :
    v.read Val (v.writes Val f L) y = T y := by
  induction L with
  | nil => rcases hy with h | ⟨p, hp, _⟩; exacts [h, absurd hp List.not_mem_nil]
  | cons p L ih =>
    by_cases hm : y ∈ p.1.set
    · rw [← Rect.map_emb_univ] at hm
      obtain ⟨x, _, rfl⟩ := Finset.mem_map.mp hm
      exact (View.read_writes_cons_emb v f p.1 p.2 L x).trans (hL p List.mem_cons_self x)
    · rw [View.writes_cons, View.read_slice_write_of_not_mem _ _ _ _ (by rw [Rect.map_emb_univ]; exact hm)]
      refine ih (fun q hq => hL q (List.mem_cons_of_mem _ hq)) (hy.imp_right ?_)
      rintro ⟨q, hq, hyq⟩
      rcases List.mem_cons.mp hq with rfl | hq
      · exact absurd hyq hm
      · exact ⟨q, hq, hyq⟩

/-- The index of a matrix, and of a stack of matrices, by its coordinates' numbers. -/
def T2 {m n : ℕ} {α : Type} (f : ℕ → ℕ → α) (i : (⟨2, ![m, n]⟩ : Shape).Idx) : α := f (i 0).val (i 1).val
def T3 {l m n : ℕ} {α : Type} (f : ℕ → ℕ → ℕ → α) (i : (⟨3, ![l, m, n]⟩ : Shape).Idx) : α := f (i 0).val (i 1).val (i 2).val

theorem T2_ix {m n : ℕ} {α : Type} (f : ℕ → ℕ → α) (a : Fin m) (b : Fin n) : T2 f (ix2 a b) = f a b := rfl
theorem T3_ix {l m n : ℕ} {α : Type} (f : ℕ → ℕ → ℕ → α) (a : Fin l) (b : Fin m) (c : Fin n) : T3 f (ix3 a b c) = f a b c := rfl

theorem agrees2 {m n h w : ℕ} {f : ℕ → ℕ → Val e} {off : Fin 2 → ℕ} {o0 o1 : ℕ}
    {inb : ∀ a : Fin 2, off a + (![h, w] : Fin 2 → ℕ) a ≤ (![m, n] : Fin 2 → ℕ) a}
    (p : (Rect.unit (s := ⟨2, ![m, n]⟩) off ![h, w] inb).shape.Idx → Val e) (ho : off = ![o0, o1])
    (hp : ∀ (r : Fin h) (l : Fin w), p (ix2 r l) = f (o0 + r) (o1 + l)) :
    Agrees (T2 f) (⟨Rect.unit (s := ⟨2, ![m, n]⟩) off ![h, w] inb, p⟩ : View.Piece Val ⟨2, ![m, n]⟩ e) := by
  subst ho
  intro x
  rw [eq_ix2 (n0 := h) (n1 := w) x]
  refine (hp _ _).trans ?_
  show _ = f (o0 + 1 * (x 0).val) (o1 + 1 * (x 1).val)
  rw [one_mul, one_mul]

theorem agrees3 {l m n k h w : ℕ} {f : ℕ → ℕ → ℕ → Val e} {off : Fin 3 → ℕ} {o0 o1 o2 : ℕ}
    {inb : ∀ a : Fin 3, off a + (![k, h, w] : Fin 3 → ℕ) a ≤ (![l, m, n] : Fin 3 → ℕ) a}
    (p : (Rect.unit (s := ⟨3, ![l, m, n]⟩) off ![k, h, w] inb).shape.Idx → Val e) (ho : off = ![o0, o1, o2])
    (hp : ∀ (q : Fin k) (r : Fin h) (l : Fin w), p (ix3 q r l) = f (o0 + q) (o1 + r) (o2 + l)) :
    Agrees (T3 f) (⟨Rect.unit (s := ⟨3, ![l, m, n]⟩) off ![k, h, w] inb, p⟩ : View.Piece Val ⟨3, ![l, m, n]⟩ e) := by
  subst ho
  intro x
  rw [eq_ix3 (n0 := k) (n1 := h) (n2 := w) x]
  refine (hp _ _ _).trans ?_
  show _ = f (o0 + 1 * (x 0).val) (o1 + 1 * (x 1).val) (o2 + 1 * (x 2).val)
  simp only [one_mul]

theorem cover2 {m n h w : ℕ} {off : Fin 2 → ℕ} {o0 o1 : ℕ}
    {inb : ∀ a : Fin 2, off a + (![h, w] : Fin 2 → ℕ) a ≤ (![m, n] : Fin 2 → ℕ) a} (ho : off = ![o0, o1])
    (y : (⟨2, ![m, n]⟩ : Shape).Idx) (h0 : o0 ≤ (y 0).val ∧ (y 0).val < o0 + h) (h1 : o1 ≤ (y 1).val ∧ (y 1).val < o1 + w) :
    y ∈ (Rect.unit (s := ⟨2, ![m, n]⟩) off ![h, w] inb).set := by
  subst ho
  exact Rect.mem_set_unit.mpr (Fin.forall_fin_two.mpr ⟨h0, h1⟩)

theorem cover3 {l m n k h w : ℕ} {off : Fin 3 → ℕ} {o0 o1 o2 : ℕ}
    {inb : ∀ a : Fin 3, off a + (![k, h, w] : Fin 3 → ℕ) a ≤ (![l, m, n] : Fin 3 → ℕ) a} (ho : off = ![o0, o1, o2])
    (y : (⟨3, ![l, m, n]⟩ : Shape).Idx) (h0 : o0 ≤ (y 0).val ∧ (y 0).val < o0 + k) (h1 : o1 ≤ (y 1).val ∧ (y 1).val < o1 + h)
    (h2 : o2 ≤ (y 2).val ∧ (y 2).val < o2 + w) :
    y ∈ (Rect.unit (s := ⟨3, ![l, m, n]⟩) off ![k, h, w] inb).set := by
  subst ho
  refine Rect.mem_set_unit.mpr fun a => ?_
  match a with
  | ⟨0, _⟩ => exact h0
  | ⟨1, _⟩ => exact h1
  | ⟨2, _⟩ => exact h2

/-- A load of a rectangle of a buffer that reads a function. -/
theorem readAt2 {m n h w : ℕ} {f : ℕ → ℕ → Val e} {off : Fin 2 → ℕ} {o0 o1 : ℕ}
    {inb : ∀ a : Fin 2, off a + (![h, w] : Fin 2 → ℕ) a ≤ (![m, n] : Fin 2 → ℕ) a}
    (v : View sig κ sp ⟨2, ![m, n]⟩ e) (X : v.ty.Contents Val) (hX : v.read Val X = T2 f) (ho : off = ![o0, o1])
    (r : Fin h) (l : Fin w) :
    v.readAt Val (Rect.unit (s := ⟨2, ![m, n]⟩) off ![h, w] inb).toLoadRect X (ix2 r l) = f (o0 + r) (o1 + l) := by
  subst ho
  rw [View.readAt_apply, hX]
  show f (o0 + 1 * r) (o1 + 1 * l) = _
  rw [one_mul, one_mul]

theorem readAt3 {l m n k h w : ℕ} {f : ℕ → ℕ → ℕ → Val e} {off : Fin 3 → ℕ} {o0 o1 o2 : ℕ}
    {inb : ∀ a : Fin 3, off a + (![k, h, w] : Fin 3 → ℕ) a ≤ (![l, m, n] : Fin 3 → ℕ) a}
    (v : View sig κ sp ⟨3, ![l, m, n]⟩ e) (X : v.ty.Contents Val) (hX : v.read Val X = T3 f) (ho : off = ![o0, o1, o2])
    (q : Fin k) (r : Fin h) (c : Fin w) :
    v.readAt Val (Rect.unit (s := ⟨3, ![l, m, n]⟩) off ![k, h, w] inb).toLoadRect X (ix3 q r c) = f (o0 + q) (o1 + r) (o2 + c) := by
  subst ho
  rw [View.readAt_apply, hX]
  show f (o0 + 1 * q) (o1 + 1 * r) (o2 + 1 * c) = _
  simp only [one_mul]

end Cert.KernelIdeal.Hand

end
-- ==== Proof.IdealSpec.lean ====
/- What the kernel computes, element by element, over numbered rows and columns. -/
module

public import proofs.«01_k».proof.Proof.IdealSearch
public import proofs.«01_k».proof.Proof.IdealPieces

@[expose] public section

set_option maxRecDepth 16384

noncomputable section

namespace Cert.KernelIdeal.Hand

open Idealize.ShloMosaic

/-- The twelve arguments, by the numbers of their coordinates. -/
structure Ins where
  X : ℕ → ℕ → ℕ → EReal
  XS : ℕ → ℕ → ℕ → EReal
  WK : ℕ → ℕ → EReal
  WKS : ℕ → ℕ → EReal
  GNL : ℕ → EReal
  POS : ℕ → ℕ → BitVec 32
  DC : ℕ → ℕ → ℕ → EReal
  DKR : ℕ → ℕ → ℕ → EReal
  WQ : ℕ → ℕ → EReal
  WQS : ℕ → ℕ → EReal
  GNQ : ℕ → EReal
  DCQ : ℕ → ℕ → ℕ → EReal

variable (I : Ins) (b s : ℕ)

/-- The activations, dequantised. -/
def xw (s d : ℕ) : EReal := I.X b s d * I.XS b s (d / 128)

/-- The weights, dequantised, in the kernel's row order: 512 latent rows, 1536 query rows, 64 rotary rows, zeros. -/
def wt (o d : ℕ) : EReal :=
  if o < 512 then I.WK o d * I.WKS (o / 128) (d / 128)
  else if o < 2048 then I.WQ (o - 512) d * I.WQS ((o - 512) / 128) (d / 128)
  else if o < 2112 then I.WK (o - 1536) d * I.WKS 4 (d / 128)
  else 0

/-- The forward projections. -/
def cc (s o : ℕ) : EReal := ∑ k : Fin 5120, xw I b s k * wt I o k

/-! The norm's backward, over one row of `n` numbers; `κ` is one over `n`. -/

def eps : EReal := Ideal.ofBits .f32 897988541#32
def rstd (n : ℕ) (κ : EReal) (c : ℕ → EReal) : EReal := Ideal.rsqrt ((∑ k : Fin n, c k * c k) * κ + eps)
def mean (n : ℕ) (κ : EReal) (c dh : ℕ → EReal) : EReal := (∑ k : Fin n, dh k * c k) * κ
def normBack (r mn c dh : EReal) : EReal := r * (dh - c * ((r * r) * mn))

/-! The quantiser, over one block of `m` numbers. -/

def amax (m : ℕ) (v : ℕ → EReal) : EReal :=
  Finset.univ.fold max (Ideal.ofBits .f32 0xFF800000#32) fun k : Fin m => max (v k) (-v k)
def level (m : ℕ) (v : ℕ → EReal) : EReal := amax m v * Ideal.ofBits .f32 932333861#32
def scaleOf (a : EReal) : EReal := Ideal.ofBits .f32 (scaleWord a)
def codeOf (a x : EReal) : EReal :=
  min (Ideal.ofBits .f32 1197473792#32) (max (Ideal.ofBits .f32 3344957440#32) (x * Ideal.ofBits .f32 (invWord a)))

def k512 : EReal := Ideal.ofBits .f32 989855744#32
def k1536 : EReal := ((1 / 1536 : ℝ) : EReal)

def rstdL (s : ℕ) : EReal := rstd 512 k512 (cc I b s)
def rstdQ (s : ℕ) : EReal := rstd 1536 k1536 fun o => cc I b s (512 + o)
def dL (s o : ℕ) : EReal := normBack (rstdL I b s) (mean 512 k512 (cc I b s) fun o => I.DC b s o * I.GNL o) (cc I b s o) (I.DC b s o * I.GNL o)
def dQ (s o : ℕ) : EReal :=
  normBack (rstdQ I b s) (mean 1536 k1536 (fun o => cc I b s (512 + o)) fun o => I.DCQ b s o * I.GNQ o) (cc I b s (512 + o)) (I.DCQ b s o * I.GNQ o)

/-- The rotation's frequencies, as the words of the floats. -/
def freqWords : List (BitVec 32) := [1065353216#32, 1061157137#32, 1058010522#32, 1054337179#32, 1050798235#32, 1047712803#32, 1043732615#32, 1040747895#32, 1036831949#32, 1033475085#32, 1030116802#32, 1026341397#32, 1023510243#32, 1019364175#32, 1016180025#32, 1012562930#32, 1008981770#32, 1005959600#32, 1001931932#32, 998911607#32, 995049016#32, 991652109#32, 988353832#32, 984533390#32, 981668463#32, 977573004#32, 974350870#32, 970790693#32, 967166816#32, 964208661#32, 960132947#32, 957076594#32]
def freq (p : ℕ) : EReal := Ideal.ofBits .f32 (freqWords.getD p 0#32)
def angle (s o : ℕ) : EReal := ((((I.POS b s).toInt : ℝ)) : EReal) * freq (o / 2)
def dR (s o : ℕ) : EReal :=
  if o % 2 = 0 then I.DKR b s o * Ideal.cos (angle I b s o) + I.DKR b s (o + 1) * Ideal.sin (angle I b s o)
  else I.DKR b s o * Ideal.cos (angle I b s o) + I.DKR b s (o - 1) * (0 - Ideal.sin (angle I b s o))

def levelL (s g : ℕ) : EReal := level 128 fun k => dL I b s (128 * g + k)
def levelQ (s g : ℕ) : EReal := level 128 fun k => dQ I b s (128 * g + k)
def levelR (s : ℕ) : EReal := level 64 (dR I b s)

/-- The codes and scales, and the gradients they stand for, in the kernel's column order. -/
def kvc (s o : ℕ) : EReal := if o < 512 then codeOf (levelL I b s (o / 128)) (dL I b s o) else codeOf (levelR I b s) (dR I b s (o - 512))
def kvs (s g : ℕ) : EReal := if g < 4 then scaleOf (levelL I b s g) else scaleOf (levelR I b s)
def qc (s o : ℕ) : EReal := codeOf (levelQ I b s (o / 128)) (dQ I b s o)
def qs (s g : ℕ) : EReal := scaleOf (levelQ I b s g)
def gg (s o : ℕ) : EReal :=
  if o < 512 then kvc I b s o * kvs I b s (o / 128)
  else if o < 2048 then qc I b s (o - 512) * qs I b s ((o - 512) / 128)
  else if o < 2112 then kvc I b s (o - 1536) * kvs I b s 4
  else 0

/-- The input gradient. -/
def dxv (s d : ℕ) : EReal := ∑ k : Fin 2304, gg I b s k * wt I k d

/-- The gains' gradients, row by row and summed over runs of 128 rows. -/
def gpL (s o : ℕ) : EReal := (I.DC b s o * cc I b s o) * rstdL I b s
def gpQ (s o : ℕ) : EReal := (I.DCQ b s o * cc I b s (512 + o)) * rstdQ I b s
def glp (r o : ℕ) : EReal := ∑ q : Fin 128, gpL I b (128 * r + q) o
def gqp (r o : ℕ) : EReal := ∑ q : Fin 128, gpQ I b (128 * r + q) o

end Cert.KernelIdeal.Hand

end
-- ==== Proof.IdealDots.lean ====
/- The two loops of matrix products: what their trips store. -/
module

public import proofs.«01_k».proof.Proof.IdealSpec

@[expose] public section

set_option maxRecDepth 16384

noncomputable section

namespace Cert.KernelIdeal.Hand

open Idealize.ShloMosaic Idealize.ShloMosaic.TcCoe Cert.KernelIdeal Cert.KernelIdeal.Gen

/-- A loop's pieces are its trips' pieces. -/
theorem mem_loop {α : Type} {n : ℕ} (pb : ℕ → List α) (trip : Fin n → List α) (h0 : pb 0 = [])
    (hs : ∀ k : Fin n, pb (k.val + 1) = trip k ++ pb k.val) : ∀ j, j ≤ n → ∀ p, p ∈ pb j ↔ ∃ k : Fin n, k.val < j ∧ p ∈ trip k := by
  intro j
  induction j with
  | zero => intro _ p; simp [h0]
  | succ j ih =>
    intro hj p
    rw [hs ⟨j, hj⟩, List.mem_append, ih (by omega)]
    constructor
    · rintro (h | ⟨k, hk, h⟩)
      · exact ⟨⟨j, hj⟩, Nat.lt_succ_self j, h⟩
      · exact ⟨k, by omega, h⟩
    · rintro ⟨k, hk, h⟩
      rcases Nat.lt_succ_iff_lt_or_eq.mp hk with hk | hk
      · exact .inr ⟨k, hk, h⟩
      · exact .inl (by rwa [show (⟨j, hj⟩ : Fin n) = k from Fin.ext hk.symm])

/-- What a buffer reads after a loop whose every piece writes one function's values. -/
theorem read_loop {sig : RefSig} {κ : Kind} {sp : Space} {e : EltTy} {Val : EltTy → Type} {s : Shape} {n : ℕ}
    (v : View sig κ sp s e) (f : v.ty.Contents Val) (pb : ℕ → List (View.Piece Val s e)) (trip : Fin n → List (View.Piece Val s e))
    (h0 : pb 0 = []) (hs : ∀ k : Fin n, pb (k.val + 1) = trip k ++ pb k.val) (T : s.Idx → Val e)
    (hA : ∀ k, ∀ p ∈ trip k, Agrees T p) (y : s.Idx) (hy : v.read Val f y = T y ∨ ∃ k, ∃ p ∈ trip k, y ∈ p.1.set) :
    v.read Val (v.writes Val f (pb n)) y = T y := by
  refine read_of_agrees v f _ T (fun p hp => ?_) y (hy.imp_right ?_)
  · obtain ⟨k, _, h⟩ := (mem_loop pb trip h0 hs n le_rfl p).mp hp; exact hA k p h
  · rintro ⟨k, p, hp, hm⟩
    exact ⟨p, (mem_loop pb trip h0 hs n le_rfl p).mpr ⟨k, k.isLt, hp⟩, hm⟩

theorem pay494 (A : Vec Ideal S384x5120 .bf16) (B : Vec Ideal S512x5120 .bf16) (r : Fin 384) (l : Fin 512) :
    k0_pay494 A B (ix2 r l) = ∑ k : Fin 5120, A (ix2 r k) * B (ix2 l k) := by
  pointwise [k0_pay494]
theorem pay1 (A : Vec Ideal S384x2304 .bf16) (B : Vec Ideal S2304x512 .bf16) (q : Fin 1) (r : Fin 384) (l : Fin 512) :
    k0_pay1 A B (ix3 q r l) = ∑ k : Fin 2304, A (ix2 r k) * B (ix2 k l) := by
  pointwise [k0_pay1]

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

section T4
variable (X20 : BufTy.Contents (Elt Ideal) arg20.view.ty) (X21 : BufTy.Contents (Elt Ideal) arg21.view.ty)
  (A W : ℕ → ℕ → EReal) (h21 : arg21.view.read (Elt Ideal) X21 = T2 A) (h20 : arg20.view.read (Elt Ideal) X20 = T2 W)
include h21 h20

theorem trip4 (k : Fin k0_t4_loop.trips) (p) (hp : p ∈ tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X21 k) :
    Agrees (T2 fun s o => ∑ j : Fin 5120, A s j * W o j) p := by
  unfold tripL_k0_t4 trip_k0_t4 at hp
  obtain rfl := List.mem_singleton.mp hp
  refine agrees2 _ (k0_off323_eq k) fun r l => ?_
  refine (pay494 _ _ r l).trans (Finset.sum_congr rfl fun j _ => ?_)
  refine congrArg₂ (· * ·) ((readAt2 arg21.view X21 h21 (o0 := 0) (o1 := 0) rfl r j).trans ?_) ((readAt2 arg20.view X20 h20 (k0_off322_eq k) l j).trans ?_)
  · simp only [Nat.zero_add]
  · simp only [Nat.zero_add]

theorem cover4 (y : S384x2048.Idx) : ∃ k, ∃ p ∈ tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X21 k, y ∈ p.1.set := by
  have hy0 : (y 0).val < 384 := (y 0).isLt
  have hy1 : (y 1).val < 2048 := (y 1).isLt
  have hk : (y 1).val / 512 < k0_t4_loop.trips := by
    have e : k0_t4_loop.trips = 4 := by decide
    rw [e]; omega
  refine ⟨⟨(y 1).val / 512, hk⟩, ?_⟩
  unfold tripL_k0_t4 trip_k0_t4
  refine ⟨_, List.mem_singleton.mpr rfl, ?_⟩
  dsimp only
  apply cover2 (k0_off323_eq _) y <;> dsimp only <;> omega

/-- The forward products. -/
theorem read4 (f : BufTy.Contents (Elt Ideal) arg22.view.ty) :
    arg22.view.read (Elt Ideal) (arg22.view.writes (Elt Ideal) f (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X21 k0_t4_loop.trips))
      = T2 fun s o => ∑ j : Fin 5120, A s j * W o j :=
  funext fun y => read_loop arg22.view f _ _ rfl (pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X21) _
    (trip4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X21 A W h21 h20) y (.inr (cover4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X21 A W h21 h20 y))

end T4

section T6
variable (X20 : BufTy.Contents (Elt Ideal) arg20.view.ty) (X23 : BufTy.Contents (Elt Ideal) arg23.view.ty)
  (A W : ℕ → ℕ → EReal) (h23 : arg23.view.read (Elt Ideal) X23 = T2 A) (h20 : arg20.view.read (Elt Ideal) X20 = T2 W)
include h23 h20

theorem trip6 (k : Fin k0_t6_loop.trips) (p) (hp : p ∈ tripL_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X23 k) :
    Agrees (T3 fun _ s d => ∑ j : Fin 2304, A s j * W j d) p := by
  unfold tripL_k0_t6 trip_k0_t6 at hp
  obtain rfl := List.mem_singleton.mp hp
  refine agrees3 _ (k0_off412_eq k) fun q r l => ?_
  refine (pay1 _ _ q r l).trans (Finset.sum_congr rfl fun j _ => ?_)
  refine congrArg₂ (· * ·) ((readAt2 arg23.view X23 h23 (o0 := 0) (o1 := 0) rfl r j).trans ?_) ((readAt2 arg20.view X20 h20 (k0_off411_eq k) j l).trans ?_)
  · simp only [Nat.zero_add]
  · simp only [Nat.zero_add]

theorem cover6 (y : S1x384x5120.Idx) : ∃ k, ∃ p ∈ tripL_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X23 k, y ∈ p.1.set := by
  have hy0 : (y 0).val < 1 := (y 0).isLt
  have hy1 : (y 1).val < 384 := (y 1).isLt
  have hy2 : (y 2).val < 5120 := (y 2).isLt
  have hk : (y 2).val / 512 < k0_t6_loop.trips := by
    have e : k0_t6_loop.trips = 10 := by decide
    rw [e]; omega
  refine ⟨⟨(y 2).val / 512, hk⟩, ?_⟩
  unfold tripL_k0_t6 trip_k0_t6
  refine ⟨_, List.mem_singleton.mpr rfl, ?_⟩
  dsimp only
  apply cover3 (k0_off412_eq _) y <;> dsimp only <;> omega

/-- The backward products. -/
theorem read6 (f : BufTy.Contents (Elt Ideal) arg13.view.ty) :
    arg13.view.read (Elt Ideal) (arg13.view.writes (Elt Ideal) f (pb_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X23 k0_t6_loop.trips))
      = T3 fun _ s d => ∑ j : Fin 2304, A s j * W j d :=
  funext fun y => read_loop arg13.view f _ _ rfl (pb_k0_t6_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X23) _
    (trip6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X23 A W h23 h20) y (.inr (cover6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 X23 A W h23 h20 y))

end T6

end Cert.KernelIdeal.Hand

end
-- ==== Proof.IdealWidenX.lean ====
/- The loop that dequantises the activations: what its trips store. -/
module

public import proofs.«01_k».proof.Proof.IdealDots

@[expose] public section

set_option maxRecDepth 16384

noncomputable section

namespace Cert.KernelIdeal.Hand

open Idealize.ShloMosaic Idealize.ShloMosaic.TcCoe Cert.KernelIdeal Cert.KernelIdeal.Gen

theorem mem2 {m n h w : ℕ} {off : Fin 2 → ℕ} [C : ClosedOff off]
    {inb : ∀ a : Fin 2, off a + (![h, w] : Fin 2 → ℕ) a ≤ (![m, n] : Fin 2 → ℕ) a} (y : (⟨2, ![m, n]⟩ : Shape).Idx)
    (h0 : C.form 0 ≤ (y 0).val ∧ (y 0).val < C.form 0 + h) (h1 : C.form 1 ≤ (y 1).val ∧ (y 1).val < C.form 1 + w) :
    y ∈ (Rect.unit (s := ⟨2, ![m, n]⟩) off ![h, w] inb).set := by
  obtain ⟨form, rfl⟩ := C
  exact Rect.mem_set_unit.mpr (Fin.forall_fin_two.mpr ⟨h0, h1⟩)

theorem mem3 {l m n k h w : ℕ} {off : Fin 3 → ℕ} [C : ClosedOff off]
    {inb : ∀ a : Fin 3, off a + (![k, h, w] : Fin 3 → ℕ) a ≤ (![l, m, n] : Fin 3 → ℕ) a} (y : (⟨3, ![l, m, n]⟩ : Shape).Idx)
    (h0 : C.form 0 ≤ (y 0).val ∧ (y 0).val < C.form 0 + k) (h1 : C.form 1 ≤ (y 1).val ∧ (y 1).val < C.form 1 + h)
    (h2 : C.form 2 ≤ (y 2).val ∧ (y 2).val < C.form 2 + w) :
    y ∈ (Rect.unit (s := ⟨3, ![l, m, n]⟩) off ![k, h, w] inb).set := by
  obtain ⟨form, rfl⟩ := C
  exact Rect.mem_set_unit.mpr fun a => match a with | ⟨0, _⟩ => h0 | ⟨1, _⟩ => h1 | ⟨2, _⟩ => h2

/-- One block of activations, dequantised by column `o` of the scales. -/
def wx (o : ℕ) (hs : S32x40.Slices ![0, o] S32x1) (s : FVec Ideal S32x40 .f32) (x : Vec Ideal S1x32x128 .fp8e4m3) : FVec Ideal S32x128 .bf16 :=
  shapeCast S32x128 (mulf (extf .bf16 (shapeCast S32x128 x shapeCasts_S1x32x128_S32x128 : FVec Ideal S32x128 .fp8e4m3) bitsLt_fp8e4m3_bf16)
    (truncf .bf16 (broadcastTo S32x128 (shapeCast S32x1 (extractStridedSlice S32x1 ![0, o] s hs) shapeCasts_S32x1_S32x1) broadcasts_S32x1_S32x128 : FVec Ideal S32x128 .f32) bitsLt_bf16_f32))
    shapeCasts_S32x128_S32x128

theorem wx_apply (o : ℕ) (ho : o < 40) (hs) (s) (x) (r : Fin 32) (l : Fin 128) :
    wx o hs s x (ix2 r l) = x (ix3 0 r l) * s (ix2 r ⟨o, ho⟩) := by
  pointwise [wx]

/-- A piece of them agrees with the dequantised activations. -/
theorem agrees_wx (A S : ℕ → ℕ → EReal) {off : Fin 2 → ℕ} {offx : Fin 3 → ℕ} [C : ClosedOff off] [Cx : ClosedOff offx]
    {inb : ∀ a : Fin 2, off a + (![32, 128] : Fin 2 → ℕ) a ≤ (![384, 5120] : Fin 2 → ℕ) a}
    {inbx : ∀ a : Fin 3, offx a + (![1, 32, 128] : Fin 3 → ℕ) a ≤ (![1, 384, 5120] : Fin 3 → ℕ) a}
    (o r0 : ℕ) (ho : o < 40) (hs) (s : FVec Ideal S32x40 .f32) (hS : ∀ r c, s (ix2 r c) = S (r0 + r.val) c.val)
    {sg : RefSig} {κ : Kind} {sp : Space} (v : View sg κ sp S1x384x5120 .fp8e4m3) (X : v.ty.Contents (Elt Ideal)) (hX : v.read (Elt Ideal) X = T3 fun _ => A)
    (hf : C.form = ![r0, 128 * o]) (hfx : Cx.form = ![0, r0, 128 * o])
    (p : FVec Ideal S32x128 .bf16) (hp : p = wx o hs s (v.readAt (Elt Ideal) (Rect.unit (s := S1x384x5120) offx S1x32x128.size inbx).toLoadRect X)) :
    Agrees (T2 fun s d => A s d * S s (d / 128)) (⟨Rect.unit (s := S384x5120) off S32x128.size inb, p⟩ : View.Piece (Elt Ideal) S384x5120 .bf16) := by
  subst hp
  refine agrees2 _ (C.eq.trans hf) fun r l => ?_
  rw [wx_apply o ho]
  refine congrArg₂ (· * ·) (readAt3 v X hX (Cx.eq.trans hfx) 0 r l) ((hS r ⟨o, ho⟩).trans ?_)
  have := l.isLt
  rw [show (128 * o + l.val) / 128 = o by omega]

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

section T3
variable (X1 : BufTy.Contents (Elt Ideal) arg1.view.ty) (X2 : BufTy.Contents (Elt Ideal) arg2.view.ty)
  (A S : ℕ → ℕ → EReal) (h1 : arg1.view.read (Elt Ideal) X1 = T3 fun _ => A) (h2 : arg2.view.read (Elt Ideal) X2 = T3 fun _ => S)
include h1 h2

omit h1 in
theorem scales3 (k : Fin k0_t3_loop.trips) (r : Fin 32) (c : Fin 40) :
    trip_k0_t3.sl.v55 (F := Ideal) arg2 X2 k (ix2 r c) = S (32 * k.val + r.val) c.val := by
  have e : trip_k0_t3.sl.v55 (F := Ideal) arg2 X2 k (ix2 r c)
      = arg2.view.readAt (Elt Ideal) (Rect.unit (s := S1x384x40) (k0_off241 k) S1x32x40.size (k0_off241_inb k)).toLoadRect X2 (ix3 0 r c) := by
    unfold trip_k0_t3.sl.v55
    generalize arg2.view.readAt (Elt Ideal) (Rect.unit (s := S1x384x40) (k0_off241 k) S1x32x40.size (k0_off241_inb k)).toLoadRect X2 = y
    pointwise
  rw [e]
  exact (readAt3 arg2.view X2 h2 (k0_off241_eq k) 0 r c).trans (by simp only [Nat.zero_add])

theorem trip3 (k : Fin k0_t3_loop.trips) : ∀ p ∈ tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X1 X2 k,
    Agrees (T2 fun s d => A s d * S s (d / 128)) p := by
  unfold tripL_k0_t3 trip_k0_t3
  dsimp only
  repeat' (refine List.forall_mem_cons.mpr ⟨agrees_wx A S _ (32 * k.val) (by decide) _ _ (scales3 arg2 X2 S h2 k) arg1.view X1 h1 rfl rfl _ rfl, ?_⟩)
  exact fun _ h => absurd h List.not_mem_nil

end T3

/-- A piece covers the columns from `w * o` to `w * (o + 1)`; the older pieces those to their left. -/
theorem band2 {Val : EltTy → Type} {e : EltTy} {m n h w r0 o : ℕ} {off : Fin 2 → ℕ} [C : ClosedOff off]
    {inb : ∀ a : Fin 2, off a + (![h, w] : Fin 2 → ℕ) a ≤ (![m, n] : Fin 2 → ℕ) a} (y : (⟨2, ![m, n]⟩ : Shape).Idx)
    (x : (Rect.unit (s := ⟨2, ![m, n]⟩) off ![h, w] inb).shape.Idx → Val e) (L : List (View.Piece Val ⟨2, ![m, n]⟩ e))
    (h1 : (y 1).val < w * (o + 1)) (hf : C.form = ![r0, w * o]) (h0 : r0 ≤ (y 0).val ∧ (y 0).val < r0 + h)
    (hP : (y 1).val < w * o → ∃ p ∈ L, y ∈ p.1.set) :
    ∃ p ∈ (⟨Rect.unit (s := ⟨2, ![m, n]⟩) off ![h, w] inb, x⟩ : View.Piece Val ⟨2, ![m, n]⟩ e) :: L, y ∈ p.1.set := by
  rcases Nat.lt_or_ge (y 1).val (w * o) with h | h
  · obtain ⟨p, hp, h⟩ := hP h
    exact ⟨p, List.mem_cons_of_mem _ hp, h⟩
  · refine ⟨_, List.mem_cons_self, cover2 (inb := inb) (C.eq.trans hf) y h0 ⟨h, ?_⟩⟩
    rw [Nat.mul_succ] at h1; exact h1

theorem cover3s (X1 : BufTy.Contents (Elt Ideal) arg1.view.ty) (X2 : BufTy.Contents (Elt Ideal) arg2.view.ty) (y : S384x5120.Idx) :
    ∃ k, ∃ p ∈ tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X1 X2 k, y ∈ p.1.set := by
  have hy0 : (y 0).val < 384 := (y 0).isLt
  have hy1 : (y 1).val < 5120 := (y 1).isLt
  have hk : (y 0).val / 32 < k0_t3_loop.trips := by
    have e : k0_t3_loop.trips = 12 := by decide
    rw [e]; omega
  refine ⟨⟨(y 0).val / 32, hk⟩, ?_⟩
  have h0 : 32 * ((y 0).val / 32) ≤ (y 0).val ∧ (y 0).val < 32 * ((y 0).val / 32) + 32 := by omega
  unfold tripL_k0_t3 trip_k0_t3
  dsimp only
  change (y 1).val < 128 * (39 + 1) at hy1
  repeat' (refine band2 y _ _ hy1 rfl h0 fun hy1 => ?_)
  exact absurd hy1 (Nat.not_lt_zero _)

section R3
variable (X1 : BufTy.Contents (Elt Ideal) arg1.view.ty) (X2 : BufTy.Contents (Elt Ideal) arg2.view.ty)
  (A S : ℕ → ℕ → EReal) (h1 : arg1.view.read (Elt Ideal) X1 = T3 fun _ => A) (h2 : arg2.view.read (Elt Ideal) X2 = T3 fun _ => S)
include h1 h2

/-- The dequantised activations. -/
theorem read3 (f : BufTy.Contents (Elt Ideal) arg21.view.ty) :
    arg21.view.read (Elt Ideal) (arg21.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X1 X2 k0_t3_loop.trips))
      = T2 fun s d => A s d * S s (d / 128) :=
  funext fun y => read_loop arg21.view f _ _ rfl (pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X1 X2) _
    (trip3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X1 X2 A S h1 h2) y (.inr (cover3s 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X1 X2 y))

end R3

end Cert.KernelIdeal.Hand

end
-- ==== Proof.IdealWidenW.lean ====
/- The loops that dequantise the weights: what their trips store. -/
module

public import proofs.«01_k».proof.Proof.IdealWidenX

@[expose] public section

set_option maxRecDepth 16384

noncomputable section

namespace Cert.KernelIdeal.Hand

open Idealize.ShloMosaic Idealize.ShloMosaic.TcCoe Cert.KernelIdeal Cert.KernelIdeal.Gen

/-- One block of weights, times its scale. -/
def ww (sc : Elt Ideal .f32) (x : Vec Ideal S128x128 .fp8e4m3) : FVec Ideal S128x128 .bf16 :=
  shapeCast S128x128 (mulf (extf .bf16 x bitsLt_fp8e4m3_bf16) (truncf .bf16 (broadcast S128x128 sc : FVec Ideal S128x128 .f32) bitsLt_bf16_f32)) shapeCasts_S128x128_S128x128

theorem ww_apply (sc) (x) (r l : Fin 128) : ww sc x (ix2 r l) = x (ix2 r l) * sc := by
  pointwise [ww]

/-- A piece of them agrees with the dequantised weights. -/
theorem agrees_ww {R C R' : ℕ} (T A S : ℕ → ℕ → EReal) {off offx offs : Fin 2 → ℕ} [Co : ClosedOff off] [Cx : ClosedOff offx] [Cs : ClosedOff offs]
    {inb : ∀ a : Fin 2, off a + (![128, 128] : Fin 2 → ℕ) a ≤ (![2304, 5120] : Fin 2 → ℕ) a}
    {inbx : ∀ a : Fin 2, offx a + (![128, 128] : Fin 2 → ℕ) a ≤ (![R, C] : Fin 2 → ℕ) a}
    {inbs : ∀ a : Fin 2, offs a + (![1, 1] : Fin 2 → ℕ) a ≤ (![R', 40] : Fin 2 → ℕ) a} {hn : 0 < (⟨2, ![1, 1]⟩ : Shape).numel}
    (r0 r1 k o : ℕ) (hT : ∀ r d, r < 128 → T (r0 + r) d = A (r1 + r) d * S k (d / 128))
    {sg : RefSig} {κ κ' : Kind} {sp sp' : Space} (v : View sg κ sp ⟨2, ![R, C]⟩ .fp8e4m3) (X : v.ty.Contents (Elt Ideal)) (hX : v.read (Elt Ideal) X = T2 A)
    (vs : View sg κ' sp' ⟨2, ![R', 40]⟩ .f32) (Xs : vs.ty.Contents (Elt Ideal)) (hXs : vs.read (Elt Ideal) Xs = T2 S)
    (hf : Co.form = ![r0, 128 * o]) (hfx : Cx.form = ![r1, 128 * o]) (hfs : Cs.form = ![k, o])
    (p : FVec Ideal S128x128 .bf16) (hp : p = ww (vs.readAt (Elt Ideal) (Rect.unit (s := ⟨2, ![R', 40]⟩) offs ![1, 1] inbs).toLoadRect Xs (Shape.Idx.first hn))
      (v.readAt (Elt Ideal) (Rect.unit (s := ⟨2, ![R, C]⟩) offx ![128, 128] inbx).toLoadRect X)) :
    Agrees (T2 T) (⟨Rect.unit (s := S2304x5120) off S128x128.size inb, p⟩ : View.Piece (Elt Ideal) S2304x5120 .bf16) := by
  subst hp
  refine agrees2 _ (Co.eq.trans hf) fun r l => ?_
  refine (ww_apply _ _ r l).trans ?_
  have e : (Shape.Idx.first hn : (⟨2, ![1, 1]⟩ : Shape).Idx) = ix2 0 0 := by
    exact funext fun a => match a with | ⟨0, _⟩ => rfl | ⟨1, _⟩ => rfl
  rw [hT _ _ r.isLt]
  refine congrArg₂ (· * ·) (readAt2 v X hX (Cx.eq.trans hfx) r l) ?_
  rw [e]
  refine (readAt2 vs Xs hXs (Cs.eq.trans hfs) 0 0).trans ?_
  have := l.isLt
  rw [show (128 * o + l.val) / 128 = o by omega]
  rfl

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

variable (W : ℕ → ℕ → EReal) (k0_h1 : k0_cond1 i = 1#1)

section T1
variable (X3 : BufTy.Contents (Elt Ideal) arg3.view.ty) (X5 : BufTy.Contents (Elt Ideal) arg5.view.ty)
  (A S : ℕ → ℕ → EReal) (h3 : arg3.view.read (Elt Ideal) X3 = T2 A) (h5 : arg5.view.read (Elt Ideal) X5 = T2 S)
  (hW : ∀ k r d, k < 4 → r < 128 → W (128 * k + r) d = A (128 * k + r) d * S k (d / 128))
include h3 h5 hW

theorem trip1 (k : Fin k0_t1_loop.trips) : ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X5 k, Agrees (T2 W) p := by
  have hk : k.val < 4 := k.isLt
  unfold tripL_k0_t1 trip_k0_t1
  dsimp only
  repeat' (refine List.forall_mem_cons.mpr ⟨agrees_ww W A S (128 * k.val) (128 * k.val) k.val _ (fun r d hr => hW _ r d hk hr) arg3.view X3 h3 arg5.view X5 h5 rfl rfl rfl _ rfl, ?_⟩)
  exact fun _ h => absurd h List.not_mem_nil

end T1

theorem cover1 (X3 : BufTy.Contents (Elt Ideal) arg3.view.ty) (X5 : BufTy.Contents (Elt Ideal) arg5.view.ty) (y : S2304x5120.Idx) (hy0 : (y 0).val < 512) :
    ∃ k, ∃ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X5 k, y ∈ p.1.set := by
  have hy1 : (y 1).val < 5120 := (y 1).isLt
  have hk : (y 0).val / 128 < k0_t1_loop.trips := by
    have e : k0_t1_loop.trips = 4 := by decide
    rw [e]; omega
  refine ⟨⟨(y 0).val / 128, hk⟩, ?_⟩
  have h0 : 128 * ((y 0).val / 128) ≤ (y 0).val ∧ (y 0).val < 128 * ((y 0).val / 128) + 128 := by omega
  unfold tripL_k0_t1 trip_k0_t1
  dsimp only
  change (y 1).val < 128 * (39 + 1) at hy1
  repeat' (refine band2 y _ _ hy1 rfl h0 fun hy1 => ?_)
  exact absurd hy1 (Nat.not_lt_zero _)

section T2
variable (X4 : BufTy.Contents (Elt Ideal) arg4.view.ty) (X6 : BufTy.Contents (Elt Ideal) arg6.view.ty)
  (A S : ℕ → ℕ → EReal) (h4 : arg4.view.read (Elt Ideal) X4 = T2 A) (h6 : arg6.view.read (Elt Ideal) X6 = T2 S)
  (hW : ∀ k r d, k < 12 → r < 128 → W (128 * k + 512 + r) d = A (128 * k + r) d * S k (d / 128))
include h4 h6 hW

theorem trip2 (k : Fin k0_t2_loop.trips) : ∀ p ∈ tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X4 X6 k, Agrees (T2 W) p := by
  have hk : k.val < 12 := k.isLt
  unfold tripL_k0_t2 trip_k0_t2
  dsimp only
  repeat' (refine List.forall_mem_cons.mpr ⟨agrees_ww W A S (128 * k.val + 512) (128 * k.val) k.val _ (fun r d hr => hW _ r d hk hr) arg4.view X4 h4 arg6.view X6 h6 rfl rfl rfl _ rfl, ?_⟩)
  exact fun _ h => absurd h List.not_mem_nil

end T2

theorem cover2s (X4 : BufTy.Contents (Elt Ideal) arg4.view.ty) (X6 : BufTy.Contents (Elt Ideal) arg6.view.ty) (y : S2304x5120.Idx)
    (hy0 : 512 ≤ (y 0).val ∧ (y 0).val < 2048) : ∃ k, ∃ p ∈ tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X4 X6 k, y ∈ p.1.set := by
  have hy1 : (y 1).val < 5120 := (y 1).isLt
  have hk : ((y 0).val - 512) / 128 < k0_t2_loop.trips := by
    have e : k0_t2_loop.trips = 12 := by decide
    rw [e]; omega
  refine ⟨⟨((y 0).val - 512) / 128, hk⟩, ?_⟩
  have h0 : 128 * (((y 0).val - 512) / 128) + 512 ≤ (y 0).val ∧ (y 0).val < 128 * (((y 0).val - 512) / 128) + 512 + 128 := by omega
  unfold tripL_k0_t2 trip_k0_t2
  dsimp only
  change (y 1).val < 128 * (39 + 1) at hy1
  repeat' (refine band2 y _ _ hy1 rfl h0 fun hy1 => ?_)
  exact absurd hy1 (Nat.not_lt_zero _)

end Cert.KernelIdeal.Hand

end
-- ==== Proof.IdealWeights.lean ====
/- The weights’ buffer after the first grid point has filled it. -/
module

public import proofs.«01_k».proof.Proof.IdealWidenW

@[expose] public section

set_option maxRecDepth 16384

noncomputable section

namespace Cert.KernelIdeal.Hand

open Idealize.ShloMosaic Idealize.ShloMosaic.TcCoe Cert.KernelIdeal Cert.KernelIdeal.Gen

/-- The index of the sole element. -/
theorem first11 (hn : 0 < (⟨2, ![1, 1]⟩ : Shape).numel) : (Shape.Idx.first hn : (⟨2, ![1, 1]⟩ : Shape).Idx) = ix2 0 0 :=
  funext fun a => match a with | ⟨0, _⟩ => rfl | ⟨1, _⟩ => rfl

/-- One block of the rotary rows' weights, times its scale. -/
def wr (sc : Elt Ideal .f32) (x : Vec Ideal S64x128 .fp8e4m3) : FVec Ideal S64x128 .bf16 :=
  shapeCast S64x128 (mulf (extf .bf16 x bitsLt_fp8e4m3_bf16) (truncf .bf16 (broadcast S64x128 sc : FVec Ideal S64x128 .f32) bitsLt_bf16_f32)) shapeCasts_S64x128_S64x128

theorem wr_apply (sc) (x) (r : Fin 64) (l : Fin 128) : wr sc x (ix2 r l) = x (ix2 r l) * sc := by
  pointwise [wr]

theorem inbW (j : ℕ) (hj : j < 40) : ∀ a : Fin 2, (![2048, 128 * j] : Fin 2 → ℕ) a + (![64, 128] : Fin 2 → ℕ) a ≤ (![2304, 5120] : Fin 2 → ℕ) a := by
  refine Fin.forall_fin_two.mpr ⟨?_, ?_⟩
  · show 2048 + 64 ≤ 2304; omega
  · show 128 * j + 128 ≤ 5120; omega
theorem inbX (j : ℕ) (hj : j < 40) : ∀ a : Fin 2, (![512, 128 * j] : Fin 2 → ℕ) a + (![64, 128] : Fin 2 → ℕ) a ≤ (![576, 5120] : Fin 2 → ℕ) a := by
  refine Fin.forall_fin_two.mpr ⟨?_, ?_⟩
  · show 512 + 64 ≤ 576; omega
  · show 128 * j + 128 ≤ 5120; omega
theorem inbS (j : ℕ) (hj : j < 40) : ∀ a : Fin 2, (![4, j] : Fin 2 → ℕ) a + (![1, 1] : Fin 2 → ℕ) a ≤ (![5, 40] : Fin 2 → ℕ) a := by
  refine Fin.forall_fin_two.mpr ⟨?_, ?_⟩
  · show 4 + 1 ≤ 5; omega
  · show j + 1 ≤ 40; omega

theorem numel11 : 0 < (⟨2, ![1, 1]⟩ : Shape).numel := by decide

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

variable (k0_h1 : k0_cond1 i = 1#1) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)

/-- The piece that fills block `j` of the rotary rows. -/
def wrPiece (j : ℕ) (hj : j < 40) : View.Piece (Elt Ideal) S2304x5120 .bf16 :=
  ⟨Rect.unit (s := S2304x5120) ![2048, 128 * j] ![64, 128] (inbW j hj),
    wr (arg5.view.readAt (Elt Ideal) (Rect.unit (s := S5x40) ![4, j] ![1, 1] (inbS j hj)).toLoadRect X5 (Shape.Idx.first numel11))
      (arg3.view.readAt (Elt Ideal) (Rect.unit (s := S576x5120) ![512, 128 * j] ![64, 128] (inbX j hj)).toLoadRect X3)⟩

/-- The pieces of the weights' buffer once the two loops and `n` blocks of the rotary rows are done. -/
def wrTo : (n : ℕ) → n ≤ 40 → List (View.Piece (Elt Ideal) S2304x5120 .bf16)
  | 0, _ => pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X4 X6 k0_t2_loop.trips ++ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X5 k0_t1_loop.trips
  | n + 1, h => wrPiece arg3 arg5 X3 X5 n h :: wrTo n (Nat.le_of_succ_le h)

/-- The zeros under them. -/
def wrAll : List (View.Piece (Elt Ideal) S2304x5120 .bf16) :=
  ⟨Rect.unit (s := S2304x5120) ![2112, 0] ![192, 5120] inb_S2304x5120_S192x5120_2112_0, fun _ => Ideal.ofBits .bf16 0x0000#16⟩ ::
    wrTo 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X4 X5 X6 40 (le_refl 40)

variable (I : Ins) (h3 : arg3.view.read (Elt Ideal) X3 = T2 I.WK) (h4 : arg4.view.read (Elt Ideal) X4 = T2 I.WQ)
  (h5 : arg5.view.read (Elt Ideal) X5 = T2 I.WKS) (h6 : arg6.view.read (Elt Ideal) X6 = T2 I.WQS)

section A

include h3 h4 h5 h6 in
theorem wrTo_agrees : ∀ (n : ℕ) (h : n ≤ 40), ∀ p ∈ wrTo 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X4 X5 X6 n h, Agrees (T2 (wt I)) p
  | 0, _, p, hp => by
    rcases List.mem_append.mp hp with hp | hp
    · obtain ⟨k, _, h⟩ := (mem_loop _ _ rfl (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X4 X6) _ le_rfl p).mp hp
      refine trip2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (wt I) k0_h1 X4 X6 I.WQ I.WQS h4 h6 (fun k r d hk hr => ?_) k p h
      show (if _ then _ else _) = _
      rw [if_neg (by omega), if_pos (by omega), show 128 * k + 512 + r - 512 = 128 * k + r by omega, show (128 * k + r) / 128 = k by omega]
    · obtain ⟨k, _, h⟩ := (mem_loop _ _ rfl (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X5) _ le_rfl p).mp hp
      refine trip1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (wt I) k0_h1 X3 X5 I.WK I.WKS h3 h5 (fun k r d hk hr => ?_) k p h
      show (if _ then _ else _) = _
      rw [if_pos (by omega), show (128 * k + r) / 128 = k by omega]
  | n + 1, h, p, hp => by
    rcases List.mem_cons.mp hp with rfl | hp
    · refine agrees2 _ (o0 := 2048) (o1 := 128 * n) rfl fun r l => ?_
      refine (wr_apply _ _ r l).trans ?_
      have e : wt I (2048 + r.val) (128 * n + l.val) = I.WK (512 + r.val) (128 * n + l.val) * I.WKS 4 n := by
        show (if _ then _ else _) = _
        have := r.isLt
        have := l.isLt
        rw [if_neg (by omega), if_neg (by omega), if_pos (by omega), show 2048 + r.val - 1536 = 512 + r.val by omega, show (128 * n + l.val) / 128 = n by omega]
      refine Eq.trans (congrArg₂ (· * ·) (readAt2 arg3.view X3 h3 rfl r l) ?_) e.symm
      rw [first11]
      exact readAt2 arg5.view X5 h5 rfl 0 0
    · exact wrTo_agrees n _ p hp

/-- The zero rows agree. -/
theorem zero_agrees : Agrees (T2 (wt I)) (⟨Rect.unit (s := S2304x5120) ![2112, 0] ![192, 5120] inb_S2304x5120_S192x5120_2112_0, fun _ => Ideal.ofBits .bf16 0x0000#16⟩ : View.Piece (Elt Ideal) S2304x5120 .bf16) := by
  refine agrees2 _ (o0 := 2112) (o1 := 0) rfl fun r l => ?_
  show Ideal.ofBits .bf16 0x0000#16 = (if _ then _ else _)
  rw [if_neg (by omega), if_neg (by omega), if_neg (by omega)]
  simp

theorem wrTo_cover (y : S2304x5120.Idx) : ∀ (n : ℕ) (h : n ≤ 40), (y 0).val < 2048 ∨ ((y 0).val < 2112 ∧ (y 1).val < 128 * n) →
      ∃ p ∈ wrTo 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X4 X5 X6 n h, y ∈ p.1.set := by
  intro n
  induction n with
  | zero =>
    intro _ hy
    replace hy : (y 0).val < 2048 := by omega
    by_cases h0 : (y 0).val < 512
    · obtain ⟨k, p, hp, h⟩ := cover1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X5 y h0
      exact ⟨p, List.mem_append_right _ ((mem_loop _ _ rfl (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X5) _ le_rfl p).mpr ⟨k, k.isLt, hp⟩), h⟩
    · obtain ⟨k, p, hp, h⟩ := cover2s 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X4 X6 y ⟨by omega, hy⟩
      exact ⟨p, List.mem_append_left _ ((mem_loop _ _ rfl (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X4 X6) _ le_rfl p).mpr ⟨k, k.isLt, hp⟩), h⟩
  | succ n ih =>
    intro h hy
    by_cases hy' : (y 0).val < 2048 ∨ ((y 0).val < 2112 ∧ (y 1).val < 128 * n)
    · obtain ⟨p, hp, hm⟩ := ih (Nat.le_of_succ_le h) hy'
      exact ⟨p, List.mem_cons_of_mem _ hp, hm⟩
    · exact ⟨wrPiece arg3 arg5 X3 X5 n h, List.mem_cons_self, cover2 (inb := inbW n h) rfl y ⟨by omega, by omega⟩ ⟨by omega, by omega⟩⟩

include h3 h4 h5 h6 in
/-- The weights' buffer holds the dequantised weights. -/
theorem w20 (f : BufTy.Contents (Elt Ideal) arg20.view.ty) :
    arg20.view.read (Elt Ideal) (arg20.view.writes (Elt Ideal) f (wrAll 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X4 X5 X6)) = T2 (wt I) := by
  have hA := wrTo_agrees 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X4 X5 X6 I h3 h4 h5 h6 40 (le_refl 40)
  have hC := fun y => wrTo_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X4 X5 X6 y 40 (le_refl 40)
  unfold wrAll
  generalize wrTo 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 k0_h1 X3 X4 X5 X6 40 (le_refl 40) = L at hA hC ⊢
  refine funext fun y => read_of_agrees arg20.view f _ _ (List.forall_mem_cons.mpr ⟨zero_agrees I, hA⟩) y (.inr ?_)
  have hy0 : (y 0).val < 2304 := (y 0).isLt
  have hy1 : (y 1).val < 5120 := (y 1).isLt
  by_cases h : (y 0).val < 2112
  · obtain ⟨p, hp, h⟩ := hC y (by omega)
    exact ⟨p, List.mem_cons_of_mem _ hp, h⟩
  · exact ⟨_, List.mem_cons_self, cover2 (inb := inb_S2304x5120_S192x5120_2112_0) rfl y ⟨by omega, by omega⟩ ⟨by omega, by omega⟩⟩

end A

end Cert.KernelIdeal.Hand

end
-- ==== Proof.IdealMiddleVec.lean ====
/- The middle of the kernel as functions of vectors, and what each is at an element. -/
module

public import proofs.«01_k».proof.Proof.IdealWidenX

@[expose] public section

set_option maxRecDepth 16384

noncomputable section

namespace Cert.KernelIdeal.Hand

open Idealize.ShloMosaic Idealize.ShloMosaic.TcCoe Cert.KernelIdeal Cert.KernelIdeal.Gen

/-! ## The quantiser -/

section Quant
variable {s : Shape}

def vstep (a : FVec Ideal s .f32) (prev : IVec s 32) (c : BitVec 32) : IVec s 32 :=
  select (cmpf .olt a (bitcastToFloat .f32 (addi prev (broadcast s c)))) prev (addi prev (broadcast s c))
def vsearch (a : FVec Ideal s .f32) : IVec s 32 :=
  vstep a (vstep a (vstep a (vstep a (vstep a (vstep a (vstep a (vstep a (broadcast s 0#32) 1073741824#32) 536870912#32) 268435456#32)
    134217728#32) 67108864#32) 33554432#32) 16777216#32) 8388608#32
def vbits (b : IVec s 32) : IVec s 32 := select (cmpi .eq b (broadcast s 0#32)) (broadcast s 1056964608#32) b
def vscale (a : FVec Ideal s .f32) : FVec Ideal s .f32 := bitcastToFloat .f32 (addi (vbits (vsearch a)) (broadcast s 8388608#32))
def vinv (a : FVec Ideal s .f32) : FVec Ideal s .f32 := bitcastToFloat .f32 (subi (broadcast s 2122317824#32) (vbits (vsearch a)))
def vcode (a x : FVec Ideal s .f32) : FVec Ideal s .fp8e5m2 :=
  truncf .fp8e5m2 (minimumf (broadcast s (FloatOps.ofBits .f32 1197473792#32)) (maximumf (broadcast s (FloatOps.ofBits .f32 3344957440#32)) (mulf x (vinv a)))) bitsLt_fp8e5m2_f32
def vwide (a x : FVec Ideal s .f32) : FVec Ideal s .bf16 :=
  mulf (extf .bf16 (vcode a x) bitsLt_fp8e5m2_bf16) (truncf .bf16 (vscale a) bitsLt_bf16_f32)

theorem vstep_apply (a : FVec Ideal s .f32) (prev : IVec s 32) (c : BitVec 32) (j : s.Idx) : vstep a prev c j = stepB (a j) (prev j) c := by
  unfold stepB
  pointwise [vstep]
  rfl

theorem vsearch_apply (a : FVec Ideal s .f32) (j : s.Idx) : vsearch a j = searchB (a j) := by
  simp only [vsearch, vstep_apply]; rfl

theorem vbits_apply (b : IVec s 32) (j : s.Idx) : vbits b j = if b j = 0#32 then 0x3F000000#32 else b j := by
  pointwise [vbits]
  by_cases h : b j = 0#32
  · simp [Scalar.select, IntOp.cmpi, h]
  · have e : (b j == 0#32) = false := by simpa using h
    simp [Scalar.select, IntOp.cmpi, h, e]

theorem vscale_apply (a : FVec Ideal s .f32) (j : s.Idx) : vscale a j = scaleOf (a j) := by
  have e : vscale a j = Ideal.ofBits .f32 (vbits (vsearch a) j + 0x800000#32) := rfl
  rw [e, vbits_apply, vsearch_apply]; rfl

theorem vcode_apply (a x : FVec Ideal s .f32) (j : s.Idx) : vcode a x j = codeOf (a j) (x j) := by
  have e : vinv a j = Ideal.ofBits .f32 (invWord (a j)) := by
    have e : vinv a j = Ideal.ofBits .f32 (0x7E800000#32 - vbits (vsearch a) j) := rfl
    rw [e, vbits_apply, vsearch_apply]; rfl
  have h : ∀ i : FVec Ideal s .f32, truncf .fp8e5m2 (minimumf (broadcast s (FloatOps.ofBits .f32 1197473792#32)) (maximumf (broadcast s (FloatOps.ofBits .f32 3344957440#32)) (mulf x i))) bitsLt_fp8e5m2_f32 j
      = min (Ideal.ofBits .f32 1197473792#32) (max (Ideal.ofBits .f32 3344957440#32) (x j * i j)) := by
    intro i; pointwise
  unfold codeOf
  rw [← e]
  exact h _

theorem vwide_apply (a x : FVec Ideal s .f32) (j : s.Idx) : vwide a x j = codeOf (a j) (x j) * scaleOf (a j) := by
  have h : ∀ (c : FVec Ideal s .fp8e5m2) (d : FVec Ideal s .f32), mulf (extf .bf16 c bitsLt_fp8e5m2_bf16) (truncf .bf16 d bitsLt_bf16_f32) j = c j * d j := by
    intro c d; pointwise
  rw [← vcode_apply, ← vscale_apply]
  exact h _ _
end Quant

def vlevel128 (x : FVec Ideal S32x128 .f32) : FVec Ideal S32x128 .f32 :=
  mulf (broadcastTo S32x128 (shapeCast S32x1 (shapeCast S32x1 (multiReduction .maximumf [1] S32 (absf x) 4286578688#32 reduces_S32x128_S32 (.inl rfl) rfl)
    shapeCasts_S32_S32x1 : FVec Ideal S32x1 .f32) shapeCasts_S32x1_S32x1 : FVec Ideal S32x1 .f32) broadcasts_S32x1_S32x128)
    (broadcast S32x128 (FloatOps.ofBits .f32 932333861#32))
def vlevel64 (x : FVec Ideal S32x64 .f32) : FVec Ideal S32x64 .f32 :=
  mulf (broadcastTo S32x64 (shapeCast S32x1 (shapeCast S32x1 (multiReduction .maximumf [1] S32 (absf x) 4286578688#32 reduces_S32x64_S32 (.inl rfl) rfl)
    shapeCasts_S32_S32x1 : FVec Ideal S32x1 .f32) shapeCasts_S32x1_S32x1 : FVec Ideal S32x1 .f32) broadcasts_S32x1_S32x64)
    (broadcast S32x64 (FloatOps.ofBits .f32 932333861#32))

theorem vlevel128_apply (x : FVec Ideal S32x128 .f32) (v : ℕ → EReal) (r : Fin 32) (hx : ∀ l : Fin 128, x (ix2 r l) = v l) (l : Fin 128) :
    vlevel128 x (ix2 r l) = level 128 v := by
  unfold level amax
  simp only [← hx]
  pointwise [vlevel128]
  rfl
theorem vlevel64_apply (x : FVec Ideal S32x64 .f32) (v : ℕ → EReal) (r : Fin 32) (hx : ∀ l : Fin 64, x (ix2 r l) = v l) (l : Fin 64) :
    vlevel64 x (ix2 r l) = level 64 v := by
  unfold level amax
  simp only [← hx]
  pointwise [vlevel64]
  rfl

/-! ## The norm's backward -/

/-- One block of columns: the projections, the incoming gradients, the gains. -/
structure Blk where
  c : Vec Ideal S32x128 .bf16
  d : Vec Ideal S32x128 .bf16
  g : Vec Ideal S1x128 .f32

def Blk.cf (B : Blk) : FVec Ideal S32x128 .f32 := extf .f32 B.c bitsLt_bf16_f32
def Blk.df (B : Blk) : FVec Ideal S32x128 .f32 := extf .f32 B.d bitsLt_bf16_f32
def Blk.dh (B : Blk) : FVec Ideal S32x128 .f32 :=
  mulf B.df (broadcastTo S32x128 (shapeCast S1x128 B.g shapeCasts_S1x128_S1x128 : FVec Ideal S1x128 .f32) broadcasts_S1x128_S32x128)
def vzero : FVec Ideal S32x128 .f32 := broadcast S32x128 (FloatOps.ofBits .f32 0#32)
def vss (L : List Blk) : FVec Ideal S32x128 .f32 := L.foldl (fun a B => addf a (mulf B.cf B.cf)) vzero
def vdd (L : List Blk) : FVec Ideal S32x128 .f32 := L.foldl (fun a B => addf a (mulf B.dh B.cf)) vzero
def vrstd (κ : Ideal .f32) (x : FVec Ideal S32x128 .f32) : FVec Ideal S32x128 .f32 :=
  broadcastTo S32x128 (shapeCast S32x1 (rsqrt (addf (mulf (shapeCast S32x1 (multiReduction .add [1] S32 x 0#32 reduces_S32x128_S32 (.inl rfl) rfl)
    shapeCasts_S32_S32x1 : FVec Ideal S32x1 .f32) (broadcast S32x1 κ)) (broadcast S32x1 (FloatOps.ofBits .f32 897988541#32))))
    shapeCasts_S32x1_S32x1 : FVec Ideal S32x1 .f32) broadcasts_S32x1_S32x128
def vmean (κ : Ideal .f32) (x : FVec Ideal S32x128 .f32) : FVec Ideal S32x128 .f32 :=
  broadcastTo S32x128 (shapeCast S32x1 (mulf (shapeCast S32x1 (multiReduction .add [1] S32 x 0#32 reduces_S32x128_S32 (.inl rfl) rfl)
    shapeCasts_S32_S32x1 : FVec Ideal S32x1 .f32) (broadcast S32x1 κ)) shapeCasts_S32x1_S32x1 : FVec Ideal S32x1 .f32) broadcasts_S32x1_S32x128
def vback (r k : FVec Ideal S32x128 .f32) (B : Blk) : FVec Ideal S32x128 .f32 := mulf r (subf B.dh (mulf B.cf k))
def vgp (r : FVec Ideal S32x128 .f32) (B : Blk) : FVec Ideal S1x8x128 .f32 :=
  shapeCast S1x8x128 (shapeCast S1x8x128 (multiReduction .add [0] S8x128 (shapeCast S4x8x128 (mulf (mulf B.df B.cf) r) shapeCasts_S32x128_S4x8x128 : FVec Ideal S4x8x128 .f32) 0#32
    reduces_S4x8x128_S8x128 (.inl rfl) rfl) shapeCasts_S8x128_S1x8x128 : FVec Ideal S1x8x128 .f32) shapeCasts_S1x8x128_S1x8x128

theorem dh_apply (B : Blk) (r : Fin 32) (l : Fin 128) : B.dh (ix2 r l) = B.d (ix2 r l) * B.g (ix2 0 l) := by
  unfold Blk.dh Blk.df; pointwise
theorem vrstd_apply (κ : Ideal .f32) (x : FVec Ideal S32x128 .f32) (r : Fin 32) (l : Fin 128) :
    vrstd κ x (ix2 r l) = Ideal.rsqrt ((∑ l : Fin 128, x (ix2 r l)) * κ + eps) := by
  unfold eps
  pointwise [vrstd]
theorem vmean_apply (κ : Ideal .f32) (x : FVec Ideal S32x128 .f32) (r : Fin 32) (l : Fin 128) :
    vmean κ x (ix2 r l) = (∑ l : Fin 128, x (ix2 r l)) * κ := by
  pointwise [vmean]
theorem vgp_apply (r : FVec Ideal S32x128 .f32) (B : Blk) (q : Fin 1) (a : Fin 8) (l : Fin 128) :
    vgp r B (ix3 q a l) = ∑ t : Fin 4, (B.d (ix2 ⟨t.val * 8 + a.val, by omega⟩ l) * B.c (ix2 ⟨t.val * 8 + a.val, by omega⟩ l)) * r (ix2 ⟨t.val * 8 + a.val, by omega⟩ l) := by
  unfold vgp Blk.df Blk.cf; pointwise

end Cert.KernelIdeal.Hand

end
-- ==== Proof.IdealMiddleList.lean ====
/- A row of blocks, summed block by block. -/
module

public import proofs.«01_k».proof.Proof.IdealMiddleVec

@[expose] public section

set_option maxRecDepth 16384

noncomputable section

namespace Cert.KernelIdeal.Hand

open Idealize.ShloMosaic Idealize.ShloMosaic.TcCoe Cert.KernelIdeal Cert.KernelIdeal.Gen

/-- A block is block `j` of the rows from `r0` on. -/
def GoodB (C D : ℕ → ℕ → EReal) (G : ℕ → EReal) (r0 j : ℕ) (B : Blk) : Prop :=
  (∀ (r : Fin 32) (l : Fin 128), B.c (ix2 r l) = C (r0 + r.val) (128 * j + l.val))
    ∧ (∀ (r : Fin 32) (l : Fin 128), B.d (ix2 r l) = D (r0 + r.val) (128 * j + l.val)) ∧ ∀ l : Fin 128, B.g (ix2 0 l) = G (128 * j + l.val)

theorem foldl_apply (f : Blk → FVec Ideal S32x128 .f32) (φ : ℕ → EReal) (r : Fin 32) (l : Fin 128) : ∀ (L : List Blk) (j : ℕ) (acc : FVec Ideal S32x128 .f32)
    (_ : ∀ i (h : i < L.length), f L[i] (ix2 r l) = φ (128 * (j + i) + l.val)),
    L.foldl (fun a B => addf a (f B)) acc (ix2 r l) = acc (ix2 r l) + ∑ i ∈ Finset.range L.length, φ (128 * (j + i) + l.val) := by
  intro L
  induction L with
  | nil => intro j acc _; simp
  | cons B L ih =>
    intro j acc h
    rw [List.foldl_cons, ih (j + 1) _ (fun i hi => by
      have := h (i + 1) (by simpa using hi)
      simpa [Nat.add_assoc, Nat.add_comm 1 i] using this)]
    have e : addf acc (f B) (ix2 r l) = acc (ix2 r l) + f B (ix2 r l) := rfl
    have h0 := h 0 (by simp)
    simp only [List.getElem_cons_zero, Nat.add_zero] at h0
    rw [e, h0, List.length_cons, Finset.sum_range_succ', add_assoc, Nat.add_zero, add_comm (∑ i ∈ _, _)]
    simp only [Nat.add_assoc, Nat.add_comm 1, Nat.add_zero]

theorem sum_blocks (φ : ℕ → EReal) (n : ℕ) :
    ∑ l : Fin 128, (0 + ∑ i ∈ Finset.range n, φ (128 * (0 + i) + l.val)) = ∑ k : Fin (128 * n), φ k.val := by
  simp only [zero_add]
  rw [Finset.sum_comm]
  induction n with
  | zero => simp
  | succ n ih =>
    rw [Finset.sum_range_succ, ih, Fin.sum_univ_eq_sum_range φ (128 * n), Fin.sum_univ_eq_sum_range (fun l => φ (128 * n + l)) 128,
      Fin.sum_univ_eq_sum_range φ (128 * (n + 1)), Nat.mul_succ, Finset.sum_range_add]

section Lists
variable (C D : ℕ → ℕ → EReal) (G : ℕ → EReal) (r0 : ℕ) (L : List Blk) (hL : ∀ j (h : j < L.length), GoodB C D G r0 j L[j])
include hL

theorem vss_sum (r : Fin 32) : ∑ l : Fin 128, vss L (ix2 r l) = ∑ k : Fin (128 * L.length), C (r0 + r.val) k.val * C (r0 + r.val) k.val := by
  rw [← sum_blocks (fun k => C (r0 + r.val) k * C (r0 + r.val) k)]
  refine Finset.sum_congr rfl fun l _ => ?_
  refine (foldl_apply (fun B => mulf B.cf B.cf) (fun k => C (r0 + r.val) k * C (r0 + r.val) k) r l L 0 vzero fun i h => ?_).trans ?_
  · have e : mulf L[i].cf L[i].cf (ix2 r l) = L[i].c (ix2 r l) * L[i].c (ix2 r l) := rfl
    rw [e, (hL i h).1, Nat.zero_add]
  · congr 1
    pointwise [vzero]

theorem vdd_sum (r : Fin 32) : ∑ l : Fin 128, vdd L (ix2 r l) = ∑ k : Fin (128 * L.length), (D (r0 + r.val) k.val * G k.val) * C (r0 + r.val) k.val := by
  rw [← sum_blocks (fun k => (D (r0 + r.val) k * G k) * C (r0 + r.val) k)]
  refine Finset.sum_congr rfl fun l _ => ?_
  refine (foldl_apply (fun B => mulf B.dh B.cf) (fun k => (D (r0 + r.val) k * G k) * C (r0 + r.val) k) r l L 0 vzero fun i h => ?_).trans ?_
  · have e : mulf L[i].dh L[i].cf (ix2 r l) = L[i].dh (ix2 r l) * L[i].c (ix2 r l) := rfl
    rw [e, dh_apply, (hL i h).1, (hL i h).2.1, (hL i h).2.2, Nat.zero_add]
  · congr 1
    pointwise [vzero]

end Lists

def vk (κ : Ideal .f32) (L : List Blk) : FVec Ideal S32x128 .f32 := mulf (mulf (vrstd κ (vss L)) (vrstd κ (vss L))) (vmean κ (vdd L))

section Groups
variable {C D : ℕ → ℕ → EReal} {G : ℕ → EReal} {r0 : ℕ} {L : List Blk} (hL : ∀ j (h : j < L.length), GoodB C D G r0 j L[j]) (κ : Ideal .f32)
include hL

theorem rstd_apply (r : Fin 32) (l : Fin 128) : vrstd κ (vss L) (ix2 r l) = rstd (128 * L.length) κ (C (r0 + r.val)) := by
  rw [vrstd_apply, vss_sum C D G r0 L hL r]; rfl

theorem back_apply (j : ℕ) (h : j < L.length) (r : Fin 32) (l : Fin 128) : vback (vrstd κ (vss L)) (vk κ L) L[j] (ix2 r l)
    = normBack (rstd (128 * L.length) κ (C (r0 + r.val))) (mean (128 * L.length) κ (C (r0 + r.val)) fun o => D (r0 + r.val) o * G o)
      (C (r0 + r.val) (128 * j + l.val)) (D (r0 + r.val) (128 * j + l.val) * G (128 * j + l.val)) := by
  have e : vback (vrstd κ (vss L)) (vk κ L) L[j] (ix2 r l) = vrstd κ (vss L) (ix2 r l) * (L[j].dh (ix2 r l) - L[j].c (ix2 r l)
    * ((vrstd κ (vss L) (ix2 r l) * vrstd κ (vss L) (ix2 r l)) * vmean κ (vdd L) (ix2 r l))) := rfl
  rw [e, rstd_apply hL κ, vmean_apply, vdd_sum C D G r0 L hL r, dh_apply, (hL j h).1, (hL j h).2.1, (hL j h).2.2]
  rfl

theorem gp_apply (j : ℕ) (h : j < L.length) (q : Fin 1) (a : Fin 8) (l : Fin 128) : vgp (vrstd κ (vss L)) L[j] (ix3 q a l)
    = ∑ t : Fin 4, (D (r0 + (t.val * 8 + a.val)) (128 * j + l.val) * C (r0 + (t.val * 8 + a.val)) (128 * j + l.val))
      * rstd (128 * L.length) κ (C (r0 + (t.val * 8 + a.val))) := by
  rw [vgp_apply]
  refine Finset.sum_congr rfl fun t _ => ?_
  rw [rstd_apply hL κ, (hL j h).1, (hL j h).2.1]

end Groups

/-! ## The scales, one lane for each block -/

def vpack : List (FVec Ideal S32x128 .f32) → ℕ → FVec Ideal S32x128 .f32 → FVec Ideal S32x128 .f32
  | [], _, acc => acc
  | S :: L, j, acc => vpack L (j + 1) (select (cmpi .eq (iota .tc S32x128 32 [1] iota_S32x128_d1_w32) (broadcast S32x128 (BitVec.ofNat 32 j))) S acc)

theorem pick_apply (j : ℕ) (hj : j < 128) (S acc : FVec Ideal S32x128 .f32) (r : Fin 32) (l : Fin 128) :
    select (cmpi .eq (iota .tc S32x128 32 [1] iota_S32x128_d1_w32) (broadcast S32x128 (BitVec.ofNat 32 j))) S acc (ix2 r l)
      = if l.val = j then S (ix2 r l) else acc (ix2 r l) := by
  have hb : (BitVec.ofNat 32 l.val == BitVec.ofNat 32 j) = decide (l.val = j) := by
    have := l.isLt
    rw [Bool.eq_iff_iff, beq_iff_eq, decide_eq_true_iff, ← BitVec.toNat_inj, BitVec.toNat_ofNat, BitVec.toNat_ofNat]
    omega
  pointwise
  simp only [Scalar.select, IntOp.cmpi]
  by_cases h : l.val = j <;> simp [h, hb]

theorem vpack_apply (r : Fin 32) (l : Fin 128) : ∀ (L : List (FVec Ideal S32x128 .f32)) (j : ℕ) (acc : FVec Ideal S32x128 .f32) (_ : j + L.length ≤ 128),
    (l.val < j → vpack L j acc (ix2 r l) = acc (ix2 r l)) ∧ ∀ i (h : i < L.length), l.val = j + i → vpack L j acc (ix2 r l) = L[i] (ix2 r l) := by
  intro L
  induction L with
  | nil => intro j acc _; exact ⟨fun _ => rfl, fun i h => absurd h (Nat.not_lt_zero _)⟩
  | cons S L ih =>
    intro j acc hj
    rw [List.length_cons] at hj
    obtain ⟨h1, h2⟩ := ih (j + 1) (select (cmpi .eq (iota .tc S32x128 32 [1] iota_S32x128_d1_w32) (broadcast S32x128 (BitVec.ofNat 32 j))) S acc) (by omega)
    refine ⟨fun hl => (h1 (by omega)).trans ?_, fun i h hl => ?_⟩
    · rw [pick_apply j (by omega), if_neg (by omega)]
    · match i with
      | 0 => exact (h1 (by omega)).trans (by rw [pick_apply j (by omega), if_pos (by omega)]; rfl)
      | i + 1 => exact h2 i (by simpa using h) (by omega)

end Cert.KernelIdeal.Hand

end
-- ==== Proof.IdealMiddleBlocks.lean ====
/- The blocks a trip of the middle loop reads, and its codes, scales and partial sums as functions of them. -/
module

public import proofs.«01_k».proof.Proof.IdealMiddleList

@[expose] public section

set_option maxRecDepth 16384

noncomputable section

namespace Cert.KernelIdeal.Hand

open Idealize.ShloMosaic Idealize.ShloMosaic.TcCoe Cert.KernelIdeal Cert.KernelIdeal.Gen

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

variable (mv_v59 : Memref sig .tc .vmem S384x512 .bf16) (hcanon_v59 : (arg10.slice (Rect.unit (s := S1x384x512) ![0, 0, 0] S1x384x512.size inb_S1x384x512_S1x384x512_0_0_0) (fun _ => rfl)).squeeze S384x512 squeezes_S1x384x512_S384x512 = mv_v59)
  (mv_v620 : Memref sig .tc .vmem S384x1536 .bf16) (hcanon_v620 : (arg12.slice (Rect.unit (s := S1x384x1536) ![0, 0, 0] S1x384x1536.size inb_S1x384x1536_S1x384x1536_0_0_0) (fun _ => rfl)).squeeze S384x1536 squeezes_S1x384x1536_S384x1536 = mv_v620)
  (X7 : BufTy.Contents (Elt Ideal) arg7.view.ty) (X8 : BufTy.Contents (Elt Ideal) arg8.view.ty) (X9 : BufTy.Contents (Elt Ideal) arg9.view.ty) (X11 : BufTy.Contents (Elt Ideal) arg11.view.ty)
  (X22 : BufTy.Contents (Elt Ideal) arg22.view.ty) (X59 : BufTy.Contents (Elt Ideal) mv_v59.view.ty) (X620 : BufTy.Contents (Elt Ideal) mv_v620.view.ty)

def blksL (k : Fin k0_t5_loop.trips) : List Blk :=
  [⟨arg22.view.readAt (Elt Ideal) (Rect.unit (s := S384x2048) (k0_off324 k) S32x128.size (k0_off324_inb k)).toLoadRect X22,
      mv_v59.view.readAt (Elt Ideal) (Rect.unit (s := S384x512) (k0_off325 k) S32x128.size (k0_off325_inb k)).toLoadRect X59,
      arg7.view.readAt (Elt Ideal) (Rect.unit (s := S1x512) ![0, 0] S1x128.size inb_S1x512_S1x128_0_0).toLoadRect X7⟩,
    ⟨arg22.view.readAt (Elt Ideal) (Rect.unit (s := S384x2048) (k0_off326 k) S32x128.size (k0_off326_inb k)).toLoadRect X22,
      mv_v59.view.readAt (Elt Ideal) (Rect.unit (s := S384x512) (k0_off327 k) S32x128.size (k0_off327_inb k)).toLoadRect X59,
      arg7.view.readAt (Elt Ideal) (Rect.unit (s := S1x512) ![0, 128] S1x128.size inb_S1x512_S1x128_0_128).toLoadRect X7⟩,
    ⟨arg22.view.readAt (Elt Ideal) (Rect.unit (s := S384x2048) (k0_off328 k) S32x128.size (k0_off328_inb k)).toLoadRect X22,
      mv_v59.view.readAt (Elt Ideal) (Rect.unit (s := S384x512) (k0_off329 k) S32x128.size (k0_off329_inb k)).toLoadRect X59,
      arg7.view.readAt (Elt Ideal) (Rect.unit (s := S1x512) ![0, 256] S1x128.size inb_S1x512_S1x128_0_256).toLoadRect X7⟩,
    ⟨arg22.view.readAt (Elt Ideal) (Rect.unit (s := S384x2048) (k0_off330 k) S32x128.size (k0_off330_inb k)).toLoadRect X22,
      mv_v59.view.readAt (Elt Ideal) (Rect.unit (s := S384x512) (k0_off331 k) S32x128.size (k0_off331_inb k)).toLoadRect X59,
      arg7.view.readAt (Elt Ideal) (Rect.unit (s := S1x512) ![0, 384] S1x128.size inb_S1x512_S1x128_0_384).toLoadRect X7⟩]

def blksQ (k : Fin k0_t5_loop.trips) : List Blk :=
  [⟨arg22.view.readAt (Elt Ideal) (Rect.unit (s := S384x2048) (k0_off344 k) S32x128.size (k0_off344_inb k)).toLoadRect X22,
      mv_v620.view.readAt (Elt Ideal) (Rect.unit (s := S384x1536) (k0_off345 k) S32x128.size (k0_off345_inb k)).toLoadRect X620,
      arg8.view.readAt (Elt Ideal) (Rect.unit (s := S1x1536) ![0, 0] S1x128.size inb_S1x1536_S1x128_0_0).toLoadRect X8⟩,
    ⟨arg22.view.readAt (Elt Ideal) (Rect.unit (s := S384x2048) (k0_off346 k) S32x128.size (k0_off346_inb k)).toLoadRect X22,
      mv_v620.view.readAt (Elt Ideal) (Rect.unit (s := S384x1536) (k0_off347 k) S32x128.size (k0_off347_inb k)).toLoadRect X620,
      arg8.view.readAt (Elt Ideal) (Rect.unit (s := S1x1536) ![0, 128] S1x128.size inb_S1x1536_S1x128_0_128).toLoadRect X8⟩,
    ⟨arg22.view.readAt (Elt Ideal) (Rect.unit (s := S384x2048) (k0_off348 k) S32x128.size (k0_off348_inb k)).toLoadRect X22,
      mv_v620.view.readAt (Elt Ideal) (Rect.unit (s := S384x1536) (k0_off349 k) S32x128.size (k0_off349_inb k)).toLoadRect X620,
      arg8.view.readAt (Elt Ideal) (Rect.unit (s := S1x1536) ![0, 256] S1x128.size inb_S1x1536_S1x128_0_256).toLoadRect X8⟩,
    ⟨arg22.view.readAt (Elt Ideal) (Rect.unit (s := S384x2048) (k0_off350 k) S32x128.size (k0_off350_inb k)).toLoadRect X22,
      mv_v620.view.readAt (Elt Ideal) (Rect.unit (s := S384x1536) (k0_off351 k) S32x128.size (k0_off351_inb k)).toLoadRect X620,
      arg8.view.readAt (Elt Ideal) (Rect.unit (s := S1x1536) ![0, 384] S1x128.size inb_S1x1536_S1x128_0_384).toLoadRect X8⟩,
    ⟨arg22.view.readAt (Elt Ideal) (Rect.unit (s := S384x2048) (k0_off352 k) S32x128.size (k0_off352_inb k)).toLoadRect X22,
      mv_v620.view.readAt (Elt Ideal) (Rect.unit (s := S384x1536) (k0_off353 k) S32x128.size (k0_off353_inb k)).toLoadRect X620,
      arg8.view.readAt (Elt Ideal) (Rect.unit (s := S1x1536) ![0, 512] S1x128.size inb_S1x1536_S1x128_0_512).toLoadRect X8⟩,
    ⟨arg22.view.readAt (Elt Ideal) (Rect.unit (s := S384x2048) (k0_off354 k) S32x128.size (k0_off354_inb k)).toLoadRect X22,
      mv_v620.view.readAt (Elt Ideal) (Rect.unit (s := S384x1536) (k0_off355 k) S32x128.size (k0_off355_inb k)).toLoadRect X620,
      arg8.view.readAt (Elt Ideal) (Rect.unit (s := S1x1536) ![0, 640] S1x128.size inb_S1x1536_S1x128_0_640).toLoadRect X8⟩,
    ⟨arg22.view.readAt (Elt Ideal) (Rect.unit (s := S384x2048) (k0_off356 k) S32x128.size (k0_off356_inb k)).toLoadRect X22,
      mv_v620.view.readAt (Elt Ideal) (Rect.unit (s := S384x1536) (k0_off357 k) S32x128.size (k0_off357_inb k)).toLoadRect X620,
      arg8.view.readAt (Elt Ideal) (Rect.unit (s := S1x1536) ![0, 768] S1x128.size inb_S1x1536_S1x128_0_768).toLoadRect X8⟩,
    ⟨arg22.view.readAt (Elt Ideal) (Rect.unit (s := S384x2048) (k0_off358 k) S32x128.size (k0_off358_inb k)).toLoadRect X22,
      mv_v620.view.readAt (Elt Ideal) (Rect.unit (s := S384x1536) (k0_off359 k) S32x128.size (k0_off359_inb k)).toLoadRect X620,
      arg8.view.readAt (Elt Ideal) (Rect.unit (s := S1x1536) ![0, 896] S1x128.size inb_S1x1536_S1x128_0_896).toLoadRect X8⟩,
    ⟨arg22.view.readAt (Elt Ideal) (Rect.unit (s := S384x2048) (k0_off360 k) S32x128.size (k0_off360_inb k)).toLoadRect X22,
      mv_v620.view.readAt (Elt Ideal) (Rect.unit (s := S384x1536) (k0_off361 k) S32x128.size (k0_off361_inb k)).toLoadRect X620,
      arg8.view.readAt (Elt Ideal) (Rect.unit (s := S1x1536) ![0, 1024] S1x128.size inb_S1x1536_S1x128_0_1024).toLoadRect X8⟩,
    ⟨arg22.view.readAt (Elt Ideal) (Rect.unit (s := S384x2048) (k0_off362 k) S32x128.size (k0_off362_inb k)).toLoadRect X22,
      mv_v620.view.readAt (Elt Ideal) (Rect.unit (s := S384x1536) (k0_off363 k) S32x128.size (k0_off363_inb k)).toLoadRect X620,
      arg8.view.readAt (Elt Ideal) (Rect.unit (s := S1x1536) ![0, 1152] S1x128.size inb_S1x1536_S1x128_0_1152).toLoadRect X8⟩,
    ⟨arg22.view.readAt (Elt Ideal) (Rect.unit (s := S384x2048) (k0_off364 k) S32x128.size (k0_off364_inb k)).toLoadRect X22,
      mv_v620.view.readAt (Elt Ideal) (Rect.unit (s := S384x1536) (k0_off365 k) S32x128.size (k0_off365_inb k)).toLoadRect X620,
      arg8.view.readAt (Elt Ideal) (Rect.unit (s := S1x1536) ![0, 1280] S1x128.size inb_S1x1536_S1x128_0_1280).toLoadRect X8⟩,
    ⟨arg22.view.readAt (Elt Ideal) (Rect.unit (s := S384x2048) (k0_off366 k) S32x128.size (k0_off366_inb k)).toLoadRect X22,
      mv_v620.view.readAt (Elt Ideal) (Rect.unit (s := S384x1536) (k0_off367 k) S32x128.size (k0_off367_inb k)).toLoadRect X620,
      arg8.view.readAt (Elt Ideal) (Rect.unit (s := S1x1536) ![0, 1408] S1x128.size inb_S1x1536_S1x128_0_1408).toLoadRect X8⟩]

theorem good_read {n o j r0 : ℕ} {C D : ℕ → ℕ → EReal} {G : ℕ → EReal} (v : View sig .tc .vmem ⟨2, ![384, 2048]⟩ .bf16) (X : v.ty.Contents (Elt Ideal)) (hX : v.read (Elt Ideal) X = T2 C)
    (w : View sig .tc .vmem ⟨2, ![384, n]⟩ .bf16) (Y : w.ty.Contents (Elt Ideal)) (hY : w.read (Elt Ideal) Y = T2 D)
    (u : View sig .tc .vmem ⟨2, ![1, n]⟩ .f32) (Z : u.ty.Contents (Elt Ideal)) (hZ : u.read (Elt Ideal) Z = T2 fun _ => G)
    {off1 off2 off3 : Fin 2 → ℕ} {inb1 : ∀ a : Fin 2, off1 a + (![32, 128] : Fin 2 → ℕ) a ≤ (![384, 2048] : Fin 2 → ℕ) a}
    {inb2 : ∀ a : Fin 2, off2 a + (![32, 128] : Fin 2 → ℕ) a ≤ (![384, n] : Fin 2 → ℕ) a} {inb3 : ∀ a : Fin 2, off3 a + (![1, 128] : Fin 2 → ℕ) a ≤ (![1, n] : Fin 2 → ℕ) a}
    (h1 : off1 = ![r0, o + 128 * j]) (h2 : off2 = ![r0, 128 * j]) (h3 : off3 = ![0, 128 * j]) :
    GoodB (fun s x => C s (o + x)) D G r0 j ⟨v.readAt (Elt Ideal) (Rect.unit (s := ⟨2, ![384, 2048]⟩) off1 ![32, 128] inb1).toLoadRect X,
      w.readAt (Elt Ideal) (Rect.unit (s := ⟨2, ![384, n]⟩) off2 ![32, 128] inb2).toLoadRect Y, u.readAt (Elt Ideal) (Rect.unit (s := ⟨2, ![1, n]⟩) off3 ![1, 128] inb3).toLoadRect Z⟩ :=
  ⟨fun r l => (readAt2 v X hX h1 r l).trans (by rw [Nat.add_assoc]), fun r l => readAt2 w Y hY h2 r l, fun l => readAt2 u Z hZ h3 0 l⟩

def GoodL (C D : ℕ → ℕ → EReal) (G : ℕ → EReal) (r0 : ℕ) : ℕ → List Blk → Prop
  | _, [] => True
  | j, B :: L => GoodB C D G r0 j B ∧ GoodL C D G r0 (j + 1) L

theorem GoodL.get {C D : ℕ → ℕ → EReal} {G : ℕ → EReal} {r0 : ℕ} : ∀ {L : List Blk} {j : ℕ} (_ : GoodL C D G r0 j L) (i : ℕ) (hi : i < L.length), GoodB C D G r0 (j + i) L[i]
  | [], _, _, _, hi => absurd hi (Nat.not_lt_zero _)
  | _ :: _, _, h, 0, _ => h.1
  | _ :: L, j, h, i + 1, hi => by
    have e := h.2.get i (Nat.lt_of_succ_lt_succ hi)
    rwa [Nat.add_assoc, Nat.add_comm 1] at e

theorem blksL_good (k : Fin k0_t5_loop.trips) (C D : ℕ → ℕ → EReal) (G : ℕ → EReal) (h22 : arg22.view.read (Elt Ideal) X22 = T2 C)
    (h59 : mv_v59.view.read (Elt Ideal) X59 = T2 D) (h7 : arg7.view.read (Elt Ideal) X7 = T2 fun _ => G) :
    GoodL (fun s x => C s (0 + x)) D G (32 * k.val) 0 (blksL arg7 arg22 mv_v59 X7 X22 X59 k) := by
  unfold blksL
  repeat' (refine And.intro (good_read arg22.view X22 h22 mv_v59.view X59 h59 arg7.view X7 h7 (ClosedOff.eq.trans rfl) (ClosedOff.eq.trans rfl) rfl) ?_)
  exact trivial

theorem blksQ_good (k : Fin k0_t5_loop.trips) (C D : ℕ → ℕ → EReal) (G : ℕ → EReal) (h22 : arg22.view.read (Elt Ideal) X22 = T2 C)
    (h620 : mv_v620.view.read (Elt Ideal) X620 = T2 D) (h8 : arg8.view.read (Elt Ideal) X8 = T2 fun _ => G) :
    GoodL (fun s x => C s (512 + x)) D G (32 * k.val) 0 (blksQ arg8 arg22 mv_v620 X8 X22 X620 k) := by
  unfold blksQ
  repeat' (refine And.intro (good_read arg22.view X22 h22 mv_v620.view X620 h620 arg8.view X8 h8 (ClosedOff.eq.trans rfl) (ClosedOff.eq.trans rfl) rfl) ?_)
  exact trivial

def kL : Ideal .f32 := Ideal.ofBits .f32 989855744#32
def kQ : Ideal .f32 := Named.named Cert.KernelIdeal.κ "inv_q" 0x3A2AAAAB#32

section L4
variable (k : Fin k0_t5_loop.trips)
theorem bL : trip_k0_t5.sl.v127 (F := Ideal) arg22 X22 k = vrstd kL (vss (blksL arg7 arg22 mv_v59 X7 X22 X59 k)) := id rfl
theorem bLd : trip_k0_t5.sl.v118 (F := Ideal) arg7 arg22 mv_v59 X7 X22 X59 k = vdd (blksL arg7 arg22 mv_v59 X7 X22 X59 k) := id rfl
theorem bLk : trip_k0_t5.sl.v135 (F := Ideal) arg7 arg22 mv_v59 X7 X22 X59 k = vk kL (blksL arg7 arg22 mv_v59 X7 X22 X59 k) := by
  unfold vk
  rw [← bL, ← bLd]
  exact id rfl
theorem bQ : trip_k0_t5.sl.r_3 (F := Ideal) arg22 X22 k = vrstd kQ (vss (blksQ arg8 arg22 mv_v620 X8 X22 X620 k)) := id rfl
set_option maxHeartbeats 1000000 in
theorem bQk : trip_k0_t5.sl.r_4 (F := Ideal) arg8 arg22 mv_v620 X8 X22 X620 k = vk kQ (blksQ arg8 arg22 mv_v620 X8 X22 X620 k) := by
  unfold vk
  rw [← bQ]
  exact id rfl
end L4

end Cert.KernelIdeal.Hand

end
-- ==== Proof.IdealMiddleQuant.lean ====
/- A group of 128 columns, quantised: the pieces a trip of the middle loop stores for it. -/
module

public import proofs.«01_k».proof.Proof.IdealMiddleBlocks

@[expose] public section

set_option maxRecDepth 16384

noncomputable section

namespace Cert.KernelIdeal.Hand

open Idealize.ShloMosaic Idealize.ShloMosaic.TcCoe Cert.KernelIdeal Cert.KernelIdeal.Gen

/-- The gradient past the norm. -/
def nb (n : ℕ) (κ : EReal) (C D : ℕ → ℕ → EReal) (G : ℕ → EReal) (s o : ℕ) : EReal :=
  normBack (rstd n κ (C s)) (mean n κ (C s) fun o => D s o * G o) (C s o) (D s o * G o)

theorem cast3 {e : EltTy} (h : S32x128.ShapeCasts S1x32x128) (p : Vec Ideal S32x128 e) (q : Fin 1) (r : Fin 32) (l : Fin 128) :
    shapeCast S1x32x128 p h (ix3 q r l) = p (ix2 r l) := by
  pointwise
theorem cast2 {e : EltTy} (h : S32x128.ShapeCasts S32x128) (p : Vec Ideal S32x128 e) (r : Fin 32) (l : Fin 128) :
    shapeCast S32x128 p h (ix2 r l) = p (ix2 r l) := by
  pointwise

/-- Every piece of a list of `n` and more agrees. -/
def Down {s : Shape} {e : EltTy} (T : s.Idx → Elt Ideal e) (n : ℕ) (L : List (View.Piece (Elt Ideal) s e)) : Prop := ∀ p ∈ L, Agrees T p
theorem down {s : Shape} {e : EltTy} {T : s.Idx → Elt Ideal e} {n : ℕ} {L : List (View.Piece (Elt Ideal) s e)} {p : View.Piece (Elt Ideal) s e} (h : Agrees T p) (hL : Down T n L) :
    Down T (n + 1) (p :: L) := List.forall_mem_cons.mpr ⟨h, hL⟩
theorem down_nil {s : Shape} {e : EltTy} {T : s.Idx → Elt Ideal e} {n : ℕ} : Down T n [] := fun _ h => absurd h List.not_mem_nil

section Group
variable {C D : ℕ → ℕ → EReal} {G : ℕ → EReal} {r0 n : ℕ} {κ : Ideal .f32} {L : List Blk} (hG : GoodL C D G r0 0 L) (hn : L.length = n)
  {R K : FVec Ideal S32x128 .f32} (hR : R = vrstd κ (vss L)) (hK : K = vk κ L)
  {j : ℕ} {x a : FVec Ideal S32x128 .f32} {b : IVec S32x128 32}
include hG hn hR hK

theorem grad_apply (hj : j < n) (hx : x = vback R K (L[j]'(hn.symm ▸ hj))) (r : Fin 32) (l : Fin 128) :
    x (ix2 r l) = nb (128 * n) κ C D G (r0 + r.val) (128 * j + l.val) := by
  subst hx hR hK hn
  refine (back_apply (C := C) (D := D) (G := G) (r0 := r0) (fun i hi => ?_) κ j hj r l).trans rfl
  have e := hG.get i hi
  rwa [Nat.zero_add] at e

/-- The stored codes. -/
theorem agrees_codes (hj : j < n) {off : Fin 3 → ℕ} {m : ℕ} {inb : ∀ a : Fin 3, off a + (![1, 32, 128] : Fin 3 → ℕ) a ≤ (![1, 384, m] : Fin 3 → ℕ) a}
    (T : ℕ → ℕ → EReal) (hT : ∀ s l, l < 128 → T s (128 * j + l) = codeOf (level 128 fun k => nb (128 * n) κ C D G s (128 * j + k)) (nb (128 * n) κ C D G s (128 * j + l)))
    (ho : off = ![0, r0, 128 * j]) (p : FVec Ideal S1x32x128 .fp8e5m2)
    (hp : p = shapeCast S1x32x128 (truncf .fp8e5m2 (minimumf (broadcast S32x128 (FloatOps.ofBits .f32 1197473792#32)) (maximumf (broadcast S32x128 (FloatOps.ofBits .f32 3344957440#32))
      (mulf x (bitcastToFloat .f32 (subi (broadcast S32x128 2122317824#32) (vbits b)))))) bitsLt_fp8e5m2_f32 : FVec Ideal S32x128 .fp8e5m2) shapeCasts_S32x128_S1x32x128)
    (hb : b = vsearch a) (ha : a = vlevel128 x) (hx : x = vback R K (L[j]'(hn.symm ▸ hj)))
    {Ls : List (View.Piece (Elt Ideal) ⟨3, ![1, 384, m]⟩ .fp8e5m2)} (hL : Down (T3 fun _ => T) j Ls) :
    Down (T3 fun _ => T) (j + 1) ((⟨Rect.unit (s := ⟨3, ![1, 384, m]⟩) off ![1, 32, 128] inb, p⟩ : View.Piece (Elt Ideal) ⟨3, ![1, 384, m]⟩ .fp8e5m2) :: Ls) := by
  have e := grad_apply hG hn hR hK hj hx
  refine down ?_ hL
  refine agrees3 (Val := Elt Ideal) (e := .fp8e5m2) (k := 1) (h := 32) (w := 128) (inb := inb) p ho fun q r l => ?_
  rw [hp]
  refine (cast3 (e := .fp8e5m2) _ _ q r l).trans ?_
  rw [hT _ _ l.isLt]
  subst hb ha
  refine (vcode_apply _ x (ix2 r l)).trans ?_
  rw [vlevel128_apply x (fun k => nb (128 * n) κ C D G (r0 + r.val) (128 * j + k)) r (fun l => e r l) l, e r l]

/-- The stored gradient, of the codes. -/
theorem agrees_wide (hj : j < n) {c0 : ℕ} {off : Fin 2 → ℕ} {inb : ∀ a : Fin 2, off a + (![32, 128] : Fin 2 → ℕ) a ≤ (![384, 2304] : Fin 2 → ℕ) a}
    (T : ℕ → ℕ → EReal) (hT : ∀ s l, l < 128 → T s (c0 + 128 * j + l) = codeOf (level 128 fun k => nb (128 * n) κ C D G s (128 * j + k)) (nb (128 * n) κ C D G s (128 * j + l))
      * scaleOf (level 128 fun k => nb (128 * n) κ C D G s (128 * j + k)))
    (ho : off = ![r0, c0 + 128 * j]) (p : FVec Ideal S32x128 .bf16)
    (hp : p = shapeCast S32x128 (mulf (extf .bf16 (truncf .fp8e5m2 (minimumf (broadcast S32x128 (FloatOps.ofBits .f32 1197473792#32)) (maximumf (broadcast S32x128 (FloatOps.ofBits .f32 3344957440#32))
      (mulf x (bitcastToFloat .f32 (subi (broadcast S32x128 2122317824#32) (vbits b)))))) bitsLt_fp8e5m2_f32 : FVec Ideal S32x128 .fp8e5m2) bitsLt_fp8e5m2_bf16)
      (truncf .bf16 (bitcastToFloat .f32 (addi (vbits b) (broadcast S32x128 8388608#32)) : FVec Ideal S32x128 .f32) bitsLt_bf16_f32)) shapeCasts_S32x128_S32x128)
    (hb : b = vsearch a) (ha : a = vlevel128 x) (hx : x = vback R K (L[j]'(hn.symm ▸ hj)))
    {Ls : List (View.Piece (Elt Ideal) ⟨2, ![384, 2304]⟩ .bf16)} (hL : Down (T2 T) j Ls) :
    Down (T2 T) (j + 1) ((⟨Rect.unit (s := ⟨2, ![384, 2304]⟩) off ![32, 128] inb, p⟩ : View.Piece (Elt Ideal) ⟨2, ![384, 2304]⟩ .bf16) :: Ls) := by
  have e := grad_apply hG hn hR hK hj hx
  refine down ?_ hL
  refine agrees2 (Val := Elt Ideal) (e := .bf16) (h := 32) (w := 128) (inb := inb) p ho fun r l => ?_
  rw [hp]
  refine (cast2 (e := .bf16) _ _ r l).trans ?_
  rw [hT _ _ l.isLt]
  subst hb ha
  refine (vwide_apply _ x (ix2 r l)).trans ?_
  rw [vlevel128_apply x (fun k => nb (128 * n) κ C D G (r0 + r.val) (128 * j + k)) r (fun l => e r l) l, e r l]

/-- The stored partial sums of the gain's gradient. -/
theorem agrees_gp (hj : j < n) {m t : ℕ} (hr : r0 = 32 * t) {off : Fin 3 → ℕ} {inb : ∀ a : Fin 3, off a + (![1, 8, 128] : Fin 3 → ℕ) a ≤ (![12, 8, m] : Fin 3 → ℕ) a}
    (T : ℕ → ℕ → ℕ → EReal) (hT : ∀ a l, l < 128 → T t a (128 * j + l) = ∑ u : Fin 4, (D (32 * t + (u.val * 8 + a)) (128 * j + l) * C (32 * t + (u.val * 8 + a)) (128 * j + l))
      * rstd (128 * n) κ (C (32 * t + (u.val * 8 + a))))
    (ho : off = ![t, 0, 128 * j]) (p : FVec Ideal S1x8x128 .f32) (hp : p = vgp R (L[j]'(hn.symm ▸ hj)))
    {Ls : List (View.Piece (Elt Ideal) ⟨3, ![12, 8, m]⟩ .f32)} (hL : Down (T3 T) j Ls) :
    Down (T3 T) (j + 1) ((⟨Rect.unit (s := ⟨3, ![12, 8, m]⟩) off ![1, 8, 128] inb, p⟩ : View.Piece (Elt Ideal) ⟨3, ![12, 8, m]⟩ .f32) :: Ls) := by
  refine down ?_ hL
  refine agrees3 (Val := Elt Ideal) (e := .f32) (k := 1) (h := 8) (w := 128) (inb := inb) p ho fun q a l => ?_
  subst hp hR hn hr
  refine (gp_apply (C := C) (D := D) (G := G) (r0 := 32 * t) (fun i hi => ?_) κ j hj q a l).trans ?_
  · have e := hG.get i hi
    rwa [Nat.zero_add] at e
  · rw [show t + q.val = t by omega, Nat.zero_add, hT _ _ l.isLt]

/-- The scales, packed one a lane. -/
def Packed (r0 : ℕ) (T : ℕ → ℕ → EReal) (j : ℕ) (v : FVec Ideal S32x128 .f32) : Prop := ∀ (r : Fin 32) (l : Fin 128), l.val < j → v (ix2 r l) = T (r0 + r.val) l.val

omit hG hn hR hK in
theorem packed_zero (T : ℕ → ℕ → EReal) (v : FVec Ideal S32x128 .f32) : Packed r0 T 0 v := fun _ _ h => absurd h (Nat.not_lt_zero _)

theorem pack_step (T : ℕ → ℕ → EReal) (hT : ∀ s j, T s j = scaleOf (level 128 fun k => nb (128 * n) κ C D G s (128 * j + k))) (hj : j < n ∧ j < 128) {v acc : FVec Ideal S32x128 .f32}
    (hv : v = select (cmpi .eq (iota .tc S32x128 32 [1] iota_S32x128_d1_w32) (broadcast S32x128 (BitVec.ofNat 32 j))) (bitcastToFloat .f32 (addi (vbits b) (broadcast S32x128 8388608#32))) acc)
    (hb : b = vsearch a) (ha : a = vlevel128 x) (hx : x = vback R K (L[j]'(hn.symm ▸ hj.1))) (hacc : Packed r0 T j acc) : Packed r0 T (j + 1) v := by
  intro r l hl
  have e := grad_apply hG hn hR hK hj.1 hx
  rw [hv, pick_apply j hj.2]
  split
  · next h =>
    subst hb ha
    refine (vscale_apply _ (ix2 r l)).trans ?_
    rw [h, hT, vlevel128_apply x (fun k => nb (128 * n) κ C D G (r0 + r.val) (128 * j + k)) r (fun l => e r l) l]
  · exact hacc r l (by omega)

end Group

end Cert.KernelIdeal.Hand

end
-- ==== Proof.IdealMiddleSpec.lean ====
/- The gradients of the two norms, as the specification writes them. -/
module

public import proofs.«01_k».proof.Proof.IdealMiddleQuant
public import proofs.«01_k».proof.Proof.IdealSpec

@[expose] public section

set_option maxRecDepth 16384

noncomputable section

namespace Cert.KernelIdeal.Hand

open Idealize.ShloMosaic Idealize.ShloMosaic.TcCoe Cert.KernelIdeal Cert.KernelIdeal.Gen

theorem dL_eq (I : Ins) (b s o : ℕ) : nb (128 * 4) kL (cc I b) (I.DC b) I.GNL s o = dL I b s o := rfl
theorem rL_eq (I : Ins) (b s : ℕ) : rstd (128 * 4) kL (cc I b s) = rstdL I b s := rfl
theorem kQ_eq : kQ = k1536 := IdealRules.named_const.ideal_named_scalar _ _ _ _ rfl
theorem dQ_eq (I : Ins) (b s o : ℕ) : nb (128 * 12) kQ (fun s o => cc I b s (512 + o)) (I.DCQ b) I.GNQ s o = dQ I b s o := by
  rw [kQ_eq]; rfl
theorem rQ_eq (I : Ins) (b s : ℕ) : rstd (128 * 12) kQ (fun o => cc I b s (512 + o)) = rstdQ I b s := by
  rw [kQ_eq]; rfl

theorem codesT (I : Ins) (b j : ℕ) (hj : j < 4) (s l : ℕ) (hl : l < 128) : kvc I b s (128 * j + l)
    = codeOf (level 128 fun k => nb (128 * 4) kL (cc I b) (I.DC b) I.GNL s (128 * j + k)) (nb (128 * 4) kL (cc I b) (I.DC b) I.GNL s (128 * j + l)) := by
  simp only [dL_eq]
  rw [kvc, if_pos (by omega), levelL, show (128 * j + l) / 128 = j by omega]
theorem codesTQ (I : Ins) (b j : ℕ) (hj : j < 12) (s l : ℕ) (hl : l < 128) : qc I b s (128 * j + l)
    = codeOf (level 128 fun k => nb (128 * 12) kQ (fun s o => cc I b s (512 + o)) (I.DCQ b) I.GNQ s (128 * j + k)) (nb (128 * 12) kQ (fun s o => cc I b s (512 + o)) (I.DCQ b) I.GNQ s (128 * j + l)) := by
  simp only [dQ_eq]
  rw [qc, levelQ, show (128 * j + l) / 128 = j by omega]
theorem wideT (I : Ins) (b j : ℕ) (hj : j < 4) (s l : ℕ) (hl : l < 128) : gg I b s (0 + 128 * j + l)
    = codeOf (level 128 fun k => nb (128 * 4) kL (cc I b) (I.DC b) I.GNL s (128 * j + k)) (nb (128 * 4) kL (cc I b) (I.DC b) I.GNL s (128 * j + l))
      * scaleOf (level 128 fun k => nb (128 * 4) kL (cc I b) (I.DC b) I.GNL s (128 * j + k)) := by
  rw [← codesT I b j hj s l hl, Nat.zero_add, gg, if_pos (by omega), kvs, show (128 * j + l) / 128 = j by omega, if_pos hj]
  simp only [dL_eq]; rfl
theorem wideTQ (I : Ins) (b j : ℕ) (hj : j < 12) (s l : ℕ) (hl : l < 128) : gg I b s (512 + 128 * j + l)
    = codeOf (level 128 fun k => nb (128 * 12) kQ (fun s o => cc I b s (512 + o)) (I.DCQ b) I.GNQ s (128 * j + k)) (nb (128 * 12) kQ (fun s o => cc I b s (512 + o)) (I.DCQ b) I.GNQ s (128 * j + l))
      * scaleOf (level 128 fun k => nb (128 * 12) kQ (fun s o => cc I b s (512 + o)) (I.DCQ b) I.GNQ s (128 * j + k)) := by
  rw [← codesTQ I b j hj s l hl, gg, if_neg (by omega), if_pos (by omega), qs, show 512 + 128 * j + l - 512 = 128 * j + l by omega, show (128 * j + l) / 128 = j by omega]
  simp only [dQ_eq]; rfl

end Cert.KernelIdeal.Hand

end
-- ==== Proof.IdealMiddleLatent.lean ====
/- What a trip of the middle loop stores for the latent columns. -/
module

public import proofs.«01_k».proof.Proof.IdealMiddleSpec

@[expose] public section

set_option maxRecDepth 16384

noncomputable section

namespace Cert.KernelIdeal.Hand

open Idealize.ShloMosaic Idealize.ShloMosaic.TcCoe Cert.KernelIdeal Cert.KernelIdeal.Gen

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

variable (mv_v59 : Memref sig .tc .vmem S384x512 .bf16) (hcanon_v59 : (arg10.slice (Rect.unit (s := S1x384x512) ![0, 0, 0] S1x384x512.size inb_S1x384x512_S1x384x512_0_0_0) (fun _ => rfl)).squeeze S384x512 squeezes_S1x384x512_S384x512 = mv_v59)
  (mv_v620 : Memref sig .tc .vmem S384x1536 .bf16) (hcanon_v620 : (arg12.slice (Rect.unit (s := S1x384x1536) ![0, 0, 0] S1x384x1536.size inb_S1x384x1536_S1x384x1536_0_0_0) (fun _ => rfl)).squeeze S384x1536 squeezes_S1x384x1536_S384x1536 = mv_v620)
  (X7 : BufTy.Contents (Elt Ideal) arg7.view.ty) (X8 : BufTy.Contents (Elt Ideal) arg8.view.ty) (X9 : BufTy.Contents (Elt Ideal) arg9.view.ty) (X11 : BufTy.Contents (Elt Ideal) arg11.view.ty)
  (X22 : BufTy.Contents (Elt Ideal) arg22.view.ty) (X59 : BufTy.Contents (Elt Ideal) mv_v59.view.ty) (X620 : BufTy.Contents (Elt Ideal) mv_v620.view.ty)

variable (I : Ins) (b : ℕ) (h22 : arg22.view.read (Elt Ideal) X22 = T2 (cc I b)) (h59 : mv_v59.view.read (Elt Ideal) X59 = T2 (I.DC b))
  (h620 : mv_v620.view.read (Elt Ideal) X620 = T2 (I.DCQ b)) (h7 : arg7.view.read (Elt Ideal) X7 = T2 fun _ => I.GNL)
  (h8 : arg8.view.read (Elt Ideal) X8 = T2 fun _ => I.GNQ)

section L
include h22 h59 h7
theorem goodL (k : Fin k0_t5_loop.trips) : GoodL (cc I b) (I.DC b) I.GNL (32 * k.val) 0 (blksL arg7 arg22 mv_v59 X7 X22 X59 k) := by
  have e := blksL_good arg7 arg22 mv_v59 X7 X22 X59 k _ _ _ h22 h59 h7
  simpa only [Nat.zero_add] using e

set_option maxHeartbeats 4000000 in
theorem pieces24 (k : Fin k0_t5_loop.trips) : ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.2.1,
    Agrees (T3 fun t a o => ∑ u : Fin 4, gpL I b (32 * t + (u.val * 8 + a)) o) p := by
  have hG := goodL arg7 arg22 mv_v59 X7 X22 X59 I b h22 h59 h7 k
  have hR := bL arg7 arg22 mv_v59 X7 X22 X59 k
  have hK := bLk arg7 arg22 mv_v59 X7 X22 X59 k
  have hT : ∀ j a l, l < 128 → ∑ u : Fin 4, gpL I b (32 * k.val + (u.val * 8 + a)) (128 * j + l) = ∑ u : Fin 4, (I.DC b (32 * k.val + (u.val * 8 + a)) (128 * j + l) * cc I b (32 * k.val + (u.val * 8 + a)) (128 * j + l))
      * rstd (128 * 4) kL (cc I b (32 * k.val + (u.val * 8 + a))) := fun j a l _ => by simp only [rL_eq]; rfl
  unfold tripL_k0_t5 trip_k0_t5
  dsimp only
  change Down _ 4 _
  repeat' (refine agrees_gp hG (n := 4) rfl hR hK (by decide) rfl _ (hT _) (ClosedOff.eq.trans rfl) _ ?_ ?_; exact id rfl)
  exact down_nil

set_option maxHeartbeats 4000000 in
theorem packedL (k : Fin k0_t5_loop.trips) : Packed (32 * k.val) (fun s g => scaleOf (levelL I b s g)) 4 (trip_k0_t5.sl.v613 (F := Ideal) arg7 arg22 mv_v59 X7 X22 X59 k) := by
  have hG := goodL arg7 arg22 mv_v59 X7 X22 X59 I b h22 h59 h7 k
  have hR := bL arg7 arg22 mv_v59 X7 X22 X59 k
  have hK := bLk arg7 arg22 mv_v59 X7 X22 X59 k
  have hT : ∀ s j, scaleOf (levelL I b s j) = scaleOf (level 128 fun k => nb (128 * 4) kL (cc I b) (I.DC b) I.GNL s (128 * j + k)) := fun s j => by
    simp only [dL_eq]; rfl
  repeat' (refine pack_step hG (n := 4) rfl hR hK _ hT (by decide) (id rfl) (id rfl) (id rfl) ?_ ?_; exact id rfl)
  exact packed_zero _ _

set_option maxHeartbeats 4000000 in
theorem pieces16 (k : Fin k0_t5_loop.trips) (hr : ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).1.take 1, Agrees (T3 fun _ => kvc I b) p) : ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).1,
    Agrees (T3 fun _ => kvc I b) p := by
  have hG := goodL arg7 arg22 mv_v59 X7 X22 X59 I b h22 h59 h7 k
  have hR := bL arg7 arg22 mv_v59 X7 X22 X59 k
  have hK := bLk arg7 arg22 mv_v59 X7 X22 X59 k
  unfold tripL_k0_t5 trip_k0_t5 at hr ⊢
  dsimp only at hr ⊢
  refine down (n := 4) (hr _ (List.mem_singleton.mpr rfl)) ?_
  repeat' (refine agrees_codes hG (n := 4) rfl hR hK (by decide) _ (codesT I b _ (by decide)) (ClosedOff.eq.trans rfl) _ (id rfl) (id rfl) (id rfl) ?_ ?_; exact id rfl)
  exact down_nil

end L

end Cert.KernelIdeal.Hand

end
-- ==== Proof.IdealMiddleQuery.lean ====
/- What a trip of the middle loop stores for the query columns. -/
module

public import proofs.«01_k».proof.Proof.IdealMiddleSpec

@[expose] public section

set_option maxRecDepth 16384

noncomputable section

namespace Cert.KernelIdeal.Hand

open Idealize.ShloMosaic Idealize.ShloMosaic.TcCoe Cert.KernelIdeal Cert.KernelIdeal.Gen

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

variable (mv_v59 : Memref sig .tc .vmem S384x512 .bf16) (hcanon_v59 : (arg10.slice (Rect.unit (s := S1x384x512) ![0, 0, 0] S1x384x512.size inb_S1x384x512_S1x384x512_0_0_0) (fun _ => rfl)).squeeze S384x512 squeezes_S1x384x512_S384x512 = mv_v59)
  (mv_v620 : Memref sig .tc .vmem S384x1536 .bf16) (hcanon_v620 : (arg12.slice (Rect.unit (s := S1x384x1536) ![0, 0, 0] S1x384x1536.size inb_S1x384x1536_S1x384x1536_0_0_0) (fun _ => rfl)).squeeze S384x1536 squeezes_S1x384x1536_S384x1536 = mv_v620)
  (X7 : BufTy.Contents (Elt Ideal) arg7.view.ty) (X8 : BufTy.Contents (Elt Ideal) arg8.view.ty) (X9 : BufTy.Contents (Elt Ideal) arg9.view.ty) (X11 : BufTy.Contents (Elt Ideal) arg11.view.ty)
  (X22 : BufTy.Contents (Elt Ideal) arg22.view.ty) (X59 : BufTy.Contents (Elt Ideal) mv_v59.view.ty) (X620 : BufTy.Contents (Elt Ideal) mv_v620.view.ty)

variable (I : Ins) (b : ℕ) (h22 : arg22.view.read (Elt Ideal) X22 = T2 (cc I b)) (h59 : mv_v59.view.read (Elt Ideal) X59 = T2 (I.DC b))
  (h620 : mv_v620.view.read (Elt Ideal) X620 = T2 (I.DCQ b)) (h7 : arg7.view.read (Elt Ideal) X7 = T2 fun _ => I.GNL)
  (h8 : arg8.view.read (Elt Ideal) X8 = T2 fun _ => I.GNQ)

section Q
include h22 h620 h8
theorem goodQ (k : Fin k0_t5_loop.trips) : GoodL (fun s o => cc I b s (512 + o)) (I.DCQ b) I.GNQ (32 * k.val) 0 (blksQ arg8 arg22 mv_v620 X8 X22 X620 k) :=
  blksQ_good arg8 arg22 mv_v620 X8 X22 X620 k _ _ _ h22 h620 h8

set_option maxHeartbeats 4000000 in
theorem pieces25 (k : Fin k0_t5_loop.trips) : ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.2.2,
    Agrees (T3 fun t a o => ∑ u : Fin 4, gpQ I b (32 * t + (u.val * 8 + a)) o) p := by
  have hG := goodQ arg8 arg22 mv_v620 X8 X22 X620 I b h22 h620 h8 k
  have hR := bQ arg8 arg22 mv_v620 X8 X22 X620 k
  have hK := bQk arg8 arg22 mv_v620 X8 X22 X620 k
  have hT : ∀ j a l, l < 128 → ∑ u : Fin 4, gpQ I b (32 * k.val + (u.val * 8 + a)) (128 * j + l) = ∑ u : Fin 4, (I.DCQ b (32 * k.val + (u.val * 8 + a)) (128 * j + l) * cc I b (32 * k.val + (u.val * 8 + a)) (512 + (128 * j + l)))
      * rstd (128 * 12) kQ (fun o => cc I b (32 * k.val + (u.val * 8 + a)) (512 + o)) := fun j a l _ => by simp only [rQ_eq]; rfl
  unfold tripL_k0_t5 trip_k0_t5
  dsimp only
  change Down _ 12 _
  repeat' (refine agrees_gp hG (n := 12) rfl hR hK (by decide) rfl _ (hT _) (ClosedOff.eq.trans rfl) _ ?_ ?_; exact id rfl)
  exact down_nil

set_option maxHeartbeats 4000000 in
theorem pieces18 (k : Fin k0_t5_loop.trips) : ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.1, Agrees (T3 fun _ => qc I b) p := by
  have hG := goodQ arg8 arg22 mv_v620 X8 X22 X620 I b h22 h620 h8 k
  have hR := bQ arg8 arg22 mv_v620 X8 X22 X620 k
  have hK := bQk arg8 arg22 mv_v620 X8 X22 X620 k
  unfold tripL_k0_t5 trip_k0_t5
  dsimp only
  change Down _ 12 _
  repeat' (refine agrees_codes hG (n := 12) rfl hR hK (by decide) _ (codesTQ I b _ (by decide)) (ClosedOff.eq.trans rfl) _ (id rfl) (id rfl) (id rfl) ?_ ?_; exact id rfl)
  exact down_nil

set_option maxHeartbeats 4000000 in
theorem packedQ (k : Fin k0_t5_loop.trips) : Packed (32 * k.val) (qs I b) 12 (trip_k0_t5.sl.v2254 (F := Ideal) arg8 arg22 mv_v620 X8 X22 X620 k) := by
  have hG := goodQ arg8 arg22 mv_v620 X8 X22 X620 I b h22 h620 h8 k
  have hR := bQ arg8 arg22 mv_v620 X8 X22 X620 k
  have hK := bQk arg8 arg22 mv_v620 X8 X22 X620 k
  have hT : ∀ s j, qs I b s j = scaleOf (level 128 fun k => nb (128 * 12) kQ (fun s o => cc I b s (512 + o)) (I.DCQ b) I.GNQ s (128 * j + k)) := fun s j => by
    simp only [dQ_eq]; rfl
  repeat' (refine pack_step hG (n := 12) rfl hR hK _ hT (by decide) (id rfl) (id rfl) (id rfl) ?_ ?_; exact id rfl)
  exact packed_zero _ _

end Q

end Cert.KernelIdeal.Hand

end
-- ==== Proof.IdealMiddleWide.lean ====
/- The gradient a trip of the middle loop stores for the backward product. -/
module

public import proofs.«01_k».proof.Proof.IdealMiddleLatent
public import proofs.«01_k».proof.Proof.IdealMiddleQuery

@[expose] public section

set_option maxRecDepth 16384

noncomputable section

namespace Cert.KernelIdeal.Hand

open Idealize.ShloMosaic Idealize.ShloMosaic.TcCoe Cert.KernelIdeal Cert.KernelIdeal.Gen

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

variable (mv_v59 : Memref sig .tc .vmem S384x512 .bf16) (hcanon_v59 : (arg10.slice (Rect.unit (s := S1x384x512) ![0, 0, 0] S1x384x512.size inb_S1x384x512_S1x384x512_0_0_0) (fun _ => rfl)).squeeze S384x512 squeezes_S1x384x512_S384x512 = mv_v59)
  (mv_v620 : Memref sig .tc .vmem S384x1536 .bf16) (hcanon_v620 : (arg12.slice (Rect.unit (s := S1x384x1536) ![0, 0, 0] S1x384x1536.size inb_S1x384x1536_S1x384x1536_0_0_0) (fun _ => rfl)).squeeze S384x1536 squeezes_S1x384x1536_S384x1536 = mv_v620)
  (X7 : BufTy.Contents (Elt Ideal) arg7.view.ty) (X8 : BufTy.Contents (Elt Ideal) arg8.view.ty) (X9 : BufTy.Contents (Elt Ideal) arg9.view.ty) (X11 : BufTy.Contents (Elt Ideal) arg11.view.ty)
  (X22 : BufTy.Contents (Elt Ideal) arg22.view.ty) (X59 : BufTy.Contents (Elt Ideal) mv_v59.view.ty) (X620 : BufTy.Contents (Elt Ideal) mv_v620.view.ty)

variable (I : Ins) (b : ℕ) (h22 : arg22.view.read (Elt Ideal) X22 = T2 (cc I b)) (h59 : mv_v59.view.read (Elt Ideal) X59 = T2 (I.DC b))
  (h620 : mv_v620.view.read (Elt Ideal) X620 = T2 (I.DCQ b)) (h7 : arg7.view.read (Elt Ideal) X7 = T2 fun _ => I.GNL)
  (h8 : arg8.view.read (Elt Ideal) X8 = T2 fun _ => I.GNQ)

section LQ
include h22 h59 h7 h620 h8
set_option maxHeartbeats 4000000 in
theorem pieces23 (k : Fin k0_t5_loop.trips) (hr : ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.1.take 1, Agrees (T2 (gg I b)) p) : ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.1,
    Agrees (T2 (gg I b)) p := by
  have hG := goodQ arg8 arg22 mv_v620 X8 X22 X620 I b h22 h620 h8 k
  have hR := bQ arg8 arg22 mv_v620 X8 X22 X620 k
  have hK := bQk arg8 arg22 mv_v620 X8 X22 X620 k
  have hG' := goodL arg7 arg22 mv_v59 X7 X22 X59 I b h22 h59 h7 k
  have hR' := bL arg7 arg22 mv_v59 X7 X22 X59 k
  have hK' := bLk arg7 arg22 mv_v59 X7 X22 X59 k
  unfold tripL_k0_t5 trip_k0_t5 at hr ⊢
  dsimp only at hr ⊢
  refine down (n := 12) (hr _ (List.mem_singleton.mpr rfl)) ?_
  repeat' (refine agrees_wide hG (n := 12) rfl hR hK (by decide) (c0 := 512) _ (wideTQ I b _ (by decide)) (ClosedOff.eq.trans rfl) _ (id rfl) (id rfl) (id rfl) ?_ ?_; exact id rfl)
  change Down _ 4 _
  repeat' (refine agrees_wide hG' (n := 4) rfl hR' hK' (by decide) (c0 := 0) _ (wideT I b _ (by decide)) (ClosedOff.eq.trans rfl) _ (id rfl) (id rfl) (id rfl) ?_ ?_; exact id rfl)
  exact down_nil
end LQ

end Cert.KernelIdeal.Hand

end
-- ==== Proof.IdealRope.lean ====
/- The rotation of 32 rows of 64 columns, as a function of vectors, and what it is at an element. -/
module

public import proofs.«01_k».proof.Proof.IdealMiddleSpec
public import Idealize.ShloMosaic.Lib.KernelVsHost

@[expose] public section

set_option maxRecDepth 16384

noncomputable section

namespace Cert.KernelIdeal.Hand

open Idealize.ShloMosaic Idealize.ShloMosaic.TcCoe Cert.KernelIdeal Cert.KernelIdeal.Gen

/-! ## The frequencies -/

def vfreqs : List (BitVec 32) → ℕ → FVec Ideal S1x64 .f32 → FVec Ideal S1x64 .f32
  | [], _, acc => acc
  | w :: L, j, acc => vfreqs L (j + 1) (select (cmpi .eq (shrsi (iota .tc S1x64 32 [1] iota_S1x64_d1_w32) (broadcast S1x64 1#32)) (broadcast S1x64 (BitVec.ofNat 32 j)))
      (broadcast S1x64 (FloatOps.ofBits .f32 w)) acc)

theorem freq_pick (j : ℕ) (hj : j < 32) (w : BitVec 32) (acc : FVec Ideal S1x64 .f32) (l : Fin 64) :
    select (cmpi .eq (shrsi (iota .tc S1x64 32 [1] iota_S1x64_d1_w32) (broadcast S1x64 1#32)) (broadcast S1x64 (BitVec.ofNat 32 j))) (broadcast S1x64 (FloatOps.ofBits .f32 w)) acc (ix2 0 l)
      = if l.val / 2 = j then Ideal.ofBits .f32 w else acc (ix2 0 l) := by
  have hb : ∀ l : Fin 64, IntOp.shrsi .vector (BitVec.ofNat 32 l.val) 1#32 = BitVec.ofNat 32 (l.val / 2) := by decide
  have hc : (BitVec.ofNat 32 (l.val / 2) == BitVec.ofNat 32 j) = decide (l.val / 2 = j) := by
    have := l.isLt
    rw [Bool.eq_iff_iff, beq_iff_eq, decide_eq_true_iff, ← BitVec.toNat_inj, BitVec.toNat_ofNat, BitVec.toNat_ofNat]
    omega
  have e : shrsi (iota .tc S1x64 32 [1] iota_S1x64_d1_w32) (broadcast S1x64 1#32) (ix2 0 l) = BitVec.ofNat 32 (l.val / 2) := by
    rw [← hb l]; pointwise
  have e2 : select (cmpi .eq (shrsi (iota .tc S1x64 32 [1] iota_S1x64_d1_w32) (broadcast S1x64 1#32)) (broadcast S1x64 (BitVec.ofNat 32 j))) (broadcast S1x64 (FloatOps.ofBits .f32 w)) acc (ix2 0 l)
    = Scalar.select (IntOp.cmpi .eq (shrsi (iota .tc S1x64 32 [1] iota_S1x64_d1_w32) (broadcast S1x64 1#32) (ix2 0 l)) (BitVec.ofNat 32 j)) (Ideal.ofBits .f32 w) (acc (ix2 0 l)) := rfl
  rw [e2, e]
  simp only [Scalar.select, IntOp.cmpi]
  by_cases h : l.val / 2 = j <;> simp [h, hc]

theorem vfreqs_apply (l : Fin 64) : ∀ (L : List (BitVec 32)) (j : ℕ) (acc : FVec Ideal S1x64 .f32) (_ : j + L.length ≤ 32),
    (l.val / 2 < j → vfreqs L j acc (ix2 0 l) = acc (ix2 0 l)) ∧ (j ≤ l.val / 2 → l.val / 2 < j + L.length → vfreqs L j acc (ix2 0 l) = Ideal.ofBits .f32 (L.getD (l.val / 2 - j) 0#32)) := by
  intro L
  induction L with
  | nil => intro j acc _; exact ⟨fun _ => rfl, fun h h' => absurd h' (by rw [List.length_nil]; omega)⟩
  | cons w L ih =>
    intro j acc hj
    rw [List.length_cons] at hj ⊢
    obtain ⟨h1, h2⟩ := ih (j + 1) (select (cmpi .eq (shrsi (iota .tc S1x64 32 [1] iota_S1x64_d1_w32) (broadcast S1x64 1#32)) (broadcast S1x64 (BitVec.ofNat 32 j)))
      (broadcast S1x64 (FloatOps.ofBits .f32 w)) acc) (by omega)
    refine ⟨fun hl => (h1 (by omega)).trans ?_, fun h h' => ?_⟩
    · rw [freq_pick j (by omega), if_neg (by omega)]
    · rcases Nat.lt_or_ge j (l.val / 2) with hh | hh
      · refine (h2 hh (by omega)).trans ?_
        rw [show l.val / 2 - j = (l.val / 2 - (j + 1)) + 1 by omega, List.getD_cons_succ]
      · refine (h1 (by omega)).trans ?_
        rw [freq_pick j (by omega), if_pos (by omega), show l.val / 2 - j = 0 by omega]; rfl

theorem freqs_apply (acc) (l : Fin 64) : vfreqs freqWords 0 acc (ix2 0 l) = freq (l.val / 2) := by
  have := l.isLt
  refine ((vfreqs_apply l freqWords 0 acc (by decide)).2 (Nat.zero_le _) (by rw [show freqWords.length = 32 from rfl]; omega)).trans ?_
  rfl

/-! ## The positions, one a row, picked from a lane each -/

def vpos (m : BitVec 32) (X : IVec S1x1x128 32) : FVec Ideal S32x1 .f32 :=
  shapeCast S32x1 (multiReduction .add [1] S32 (select (cmpi .eq (iota .tc S32x128 32 [1] iota_S32x128_d1_w32) (addi (iota .tc S32x128 32 [0] iota_S32x128_d0_w32) (broadcast S32x128 m)))
    (broadcastTo S32x128 (shapeCast S1x128 (sitofp .f32 (shapeCast S1x128 X shapeCasts_S1x1x128_S1x128 : IVec S1x128 32) : FVec Ideal S1x128 .f32) shapeCasts_S1x128_S1x128 : FVec Ideal S1x128 .f32) broadcasts_S1x128_S32x128)
    vzero) 0#32 reduces_S32x128_S32 (.inl rfl) rfl) shapeCasts_S32_S32x1

theorem vpos_apply (n : ℕ) (hn : n + 32 ≤ 128) (X : IVec S1x1x128 32) (r : Fin 32) (q : Fin 1) :
    vpos (BitVec.ofNat 32 n) X (ix2 r q) = (((X (ix3 0 0 ⟨n + r.val, by omega⟩)).toInt : ℝ) : EReal) := by
  have hr := r.isLt
  have e : vpos (BitVec.ofNat 32 n) X (ix2 r q) = ∑ l : Fin 128, Scalar.select (IntOp.cmpi .eq (BitVec.ofNat 32 l.val) (BitVec.ofNat 32 r.val + BitVec.ofNat 32 n))
      ((((X (ix3 0 0 l)).toInt : ℝ) : EReal)) (0 : EReal) := by
    pointwise [vpos, vzero]
    rfl
  have hb : ∀ l : Fin 128, (BitVec.ofNat 32 l.val == BitVec.ofNat 32 r.val + BitVec.ofNat 32 n) = decide (l = ⟨n + r.val, by omega⟩) := by
    intro l
    have := l.isLt
    rw [Bool.eq_iff_iff, beq_iff_eq, decide_eq_true_iff, ← BitVec.toNat_inj, BitVec.toNat_add, BitVec.toNat_ofNat, BitVec.toNat_ofNat, BitVec.toNat_ofNat, Fin.ext_iff]
    show _ ↔ l.val = n + r.val
    omega
  rw [e, Finset.sum_eq_single (⟨n + r.val, by omega⟩ : Fin 128)]
  · have h := hb ⟨n + r.val, by omega⟩
    dsimp only at h
    simp [Scalar.select, IntOp.cmpi, h]
  · intro l _ hl
    simp [Scalar.select, IntOp.cmpi, hb, hl]
  · intro h; exact absurd (Finset.mem_univ _) h

/-! ## The rotation -/

def veven : IVec S32x64 1 := broadcastTo S32x64 (shapeCast S1x64 (cmpi .eq (andi (iota .tc S1x64 32 [1] iota_S1x64_d1_w32) (broadcast S1x64 1#32)) (broadcast S1x64 0#32)) shapeCasts_S1x64_S1x64 : IVec S1x64 1) broadcasts_S1x64_S32x64
def vang (p : FVec Ideal S32x1 .f32) (f : FVec Ideal S1x64 .f32) : FVec Ideal S32x64 .f32 := mulf (broadcastTo S32x64 p broadcasts_S32x1_S32x64) (broadcastTo S32x64 f broadcasts_S1x64_S32x64)
def vrot (d a : FVec Ideal S32x64 .f32) : FVec Ideal S32x64 .f32 :=
  addf (mulf d (cos a)) (mulf (select veven (dynamicRotate 1 63#32 none d rotates_S32x64_d1) (dynamicRotate 1 1#32 none d rotates_S32x64_d1))
    (select veven (sin a) (subf (broadcast S32x64 (FloatOps.ofBits .f32 0#32)) (sin a))))

theorem vang_apply (p f) (r : Fin 32) (l : Fin 64) : vang p f (ix2 r l) = p (ix2 r 0) * f (ix2 0 l) := by pointwise [vang]

theorem veven_apply (r : Fin 32) (l : Fin 64) : veven (ix2 r l) = if l.val % 2 = 0 then 1#1 else 0#1 := by
  have hb : ∀ l : Fin 64, IntOp.cmpi .eq (BitVec.ofNat 32 l.val &&& 1#32) 0#32 = if l.val % 2 = 0 then 1#1 else 0#1 := by decide
  rw [← hb l]
  pointwise [veven]
  rfl

theorem vrot_apply (d a : FVec Ideal S32x64 .f32) (δ α : ℕ → EReal) (r : Fin 32) (hd : ∀ l : Fin 64, d (ix2 r l) = δ l) (ha : ∀ l : Fin 64, a (ix2 r l) = α l) (l : Fin 64) :
    vrot d a (ix2 r l) = if l.val % 2 = 0 then δ l * Ideal.cos (α l) + δ (l + 1) * Ideal.sin (α l) else δ l * Ideal.cos (α l) + δ (l - 1) * (0 - Ideal.sin (α l)) := by
  have hl := l.isLt
  have e : vrot d a (ix2 r l) = d (ix2 r l) * Ideal.cos (a (ix2 r l)) + Scalar.select (veven (ix2 r l)) (dynamicRotate 1 63#32 none d rotates_S32x64_d1 (ix2 r l)) (dynamicRotate 1 1#32 none d rotates_S32x64_d1 (ix2 r l))
      * Scalar.select (veven (ix2 r l)) (Ideal.sin (a (ix2 r l))) (Ideal.ofBits .f32 0#32 - Ideal.sin (a (ix2 r l))) := rfl
  have e0 : Ideal.ofBits .f32 0#32 = 0 := by simp
  rw [e, veven_apply, e0, ha, hd]
  by_cases h : l.val % 2 = 0
  · rw [if_pos h, if_pos h, dynamicRotate_apply 1 63#32 d _ (ix2 r l) (ix2 r ⟨l.val + 1, by omega⟩) (fun b => ?_), hd]
    · rfl
    · match b with
      | ⟨0, _⟩ => rfl
      | ⟨1, _⟩ => show l.val + 1 = (l.val + 64 - 63 % 64) % 64; omega
  · rw [if_neg h, if_neg h, dynamicRotate_apply 1 1#32 d _ (ix2 r l) (ix2 r ⟨l.val - 1, by omega⟩) (fun b => ?_), hd]
    · rfl
    · match b with
      | ⟨0, _⟩ => rfl
      | ⟨1, _⟩ => show l.val - 1 = (l.val + 64 - 1 % 64) % 64; omega

end Cert.KernelIdeal.Hand

end
-- ==== Proof.IdealRotary.lean ====
/- What a trip of the middle loop stores for the rotary columns, and its scales. -/
module

public import proofs.«01_k».proof.Proof.IdealRope

@[expose] public section

set_option maxRecDepth 16384

noncomputable section

namespace Cert.KernelIdeal.Hand

open Idealize.ShloMosaic Idealize.ShloMosaic.TcCoe Cert.KernelIdeal Cert.KernelIdeal.Gen

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

variable (mv_v59 : Memref sig .tc .vmem S384x512 .bf16) (hcanon_v59 : (arg10.slice (Rect.unit (s := S1x384x512) ![0, 0, 0] S1x384x512.size inb_S1x384x512_S1x384x512_0_0_0) (fun _ => rfl)).squeeze S384x512 squeezes_S1x384x512_S384x512 = mv_v59)
  (mv_v620 : Memref sig .tc .vmem S384x1536 .bf16) (hcanon_v620 : (arg12.slice (Rect.unit (s := S1x384x1536) ![0, 0, 0] S1x384x1536.size inb_S1x384x1536_S1x384x1536_0_0_0) (fun _ => rfl)).squeeze S384x1536 squeezes_S1x384x1536_S384x1536 = mv_v620)
  (X7 : BufTy.Contents (Elt Ideal) arg7.view.ty) (X8 : BufTy.Contents (Elt Ideal) arg8.view.ty) (X9 : BufTy.Contents (Elt Ideal) arg9.view.ty) (X11 : BufTy.Contents (Elt Ideal) arg11.view.ty)
  (X22 : BufTy.Contents (Elt Ideal) arg22.view.ty) (X59 : BufTy.Contents (Elt Ideal) mv_v59.view.ty) (X620 : BufTy.Contents (Elt Ideal) mv_v620.view.ty)

theorem start_eq : ∀ k : Fin k0_t5_loop.trips, trip_k0_t5.sl.v2287 k = BitVec.ofNat 32 ((32 * k.val) % 128) := by decide +kernel

theorem off404_eq : ∀ k : Fin k0_t5_loop.trips, k0_off404 k = ![0, 32 * k.val / 128, 0] := by decide +kernel

section Bridge
variable (k : Fin k0_t5_loop.trips)
theorem b_freq : trip_k0_t5.sl.v2490 (F := Ideal) = vfreqs freqWords 0 (broadcast S1x64 (FloatOps.ofBits .f32 0#32)) := id rfl
theorem b_pos : trip_k0_t5.sl.v2296 (F := Ideal) arg9 X9 k
    = vpos (trip_k0_t5.sl.v2287 k) (arg9.view.readAt (Elt Ideal) (Rect.unit (s := S1x3x128) (k0_off404 k) S1x1x128.size (k0_off404_inb k)).toLoadRect X9) := id rfl
theorem b_ang : trip_k0_t5.sl.v2493 (F := Ideal) arg9 X9 k = vang (trip_k0_t5.sl.v2296 (F := Ideal) arg9 X9 k) (trip_k0_t5.sl.v2490 (F := Ideal)) := id rfl
theorem b_rot : trip_k0_t5.sl.v2520 (F := Ideal) arg9 arg11 X9 X11 k = vrot (trip_k0_t5.sl.v2499 (F := Ideal) arg11 X11 k) (trip_k0_t5.sl.v2493 (F := Ideal) arg9 X9 k) := id rfl
theorem b_level : trip_k0_t5.sl.v2527 (F := Ideal) arg9 arg11 X9 X11 k = vlevel64 (trip_k0_t5.sl.v2520 (F := Ideal) arg9 arg11 X9 X11 k) := id rfl
theorem b_search : trip_k0_t5.sl.v2568 (F := Ideal) arg9 arg11 X9 X11 k = vsearch (trip_k0_t5.sl.v2527 (F := Ideal) arg9 arg11 X9 X11 k) := id rfl
theorem b_scale : trip_k0_t5.sl.v2575 (F := Ideal) arg9 arg11 X9 X11 k = vscale (trip_k0_t5.sl.v2527 (F := Ideal) arg9 arg11 X9 X11 k) := by
  rw [vscale, ← b_search]; exact id rfl
theorem b_code : trip_k0_t5.sl.v2584 (F := Ideal) arg9 arg11 X9 X11 k = vcode (trip_k0_t5.sl.v2527 (F := Ideal) arg9 arg11 X9 X11 k) (trip_k0_t5.sl.v2520 (F := Ideal) arg9 arg11 X9 X11 k) := by
  rw [vcode, vinv, ← b_search]; exact id rfl
theorem b_wide : trip_k0_t5.sl.v2587 (F := Ideal) arg9 arg11 X9 X11 k = vwide (trip_k0_t5.sl.v2527 (F := Ideal) arg9 arg11 X9 X11 k) (trip_k0_t5.sl.v2520 (F := Ideal) arg9 arg11 X9 X11 k) := by
  rw [vwide, ← b_code, ← b_scale]; exact id rfl
end Bridge

theorem pay495_apply (x : FVec Ideal S32x128 .f32) (q : Fin 1) (r : Fin 32) (l : Fin 4) : k0_pay495 (k0_pay490 x) (ix3 q r l) = x (ix2 r ⟨l.val, by omega⟩) := by
  pointwise [k0_pay495, k0_pay490]
theorem pay496_apply (x : FVec Ideal S32x64 .f32) (q : Fin 1) (r : Fin 32) (l : Fin 1) : k0_pay496 x (ix3 q r l) = x (ix2 r ⟨l.val, by omega⟩) := by
  pointwise [k0_pay496]
theorem pay497_apply (x : FVec Ideal S32x128 .f32) (q : Fin 1) (r : Fin 32) (l : Fin 12) : k0_pay497 x (ix3 q r l) = x (ix2 r ⟨l.val, by omega⟩) := by
  pointwise [k0_pay497]

section Rows
variable (I : Ins) (b : ℕ) (h9 : arg9.view.read (Elt Ideal) X9 = T3 fun _ i j => I.POS b (128 * i + j)) (h11 : arg11.view.read (Elt Ideal) X11 = T3 fun _ => I.DKR b)
  (k : Fin k0_t5_loop.trips)
include h9

theorem pos_row (r : Fin 32) : trip_k0_t5.sl.v2296 (F := Ideal) arg9 X9 k (ix2 r 0) = ((((I.POS b (32 * k.val + r.val)).toInt : ℝ)) : EReal) := by
  have hr := r.isLt
  rw [b_pos, start_eq, vpos_apply _ (by omega)]
  rw [readAt3 arg9.view X9 h9 (o0 := 0) (o1 := 32 * k.val / 128) (o2 := 0) (off404_eq k) 0 0 _]
  congr 4
  show 128 * (32 * k.val / 128 + 0) + (0 + (32 * k.val % 128 + r.val)) = _
  omega

include h11
theorem rot_row (r : Fin 32) (l : Fin 64) : trip_k0_t5.sl.v2520 (F := Ideal) arg9 arg11 X9 X11 k (ix2 r l) = dR I b (32 * k.val + r.val) l.val := by
  rw [b_rot, vrot_apply _ _ (I.DKR b (32 * k.val + r.val)) (angle I b (32 * k.val + r.val)) r (fun l => ?_) (fun l => ?_)]
  · rfl
  · refine Eq.trans ?_ ((readAt3 arg11.view X11 h11 (o0 := 0) (o1 := 32 * k.val) (o2 := 0) (inb := k0_off405_inb k) (ClosedOff.eq.trans rfl) 0 r l).trans (by rw [Nat.zero_add]))
    unfold trip_k0_t5.sl.v2499 trip_k0_t5.sl.v2498
    generalize arg11.view.readAt (Elt Ideal) (Rect.unit (s := S1x384x64) (k0_off405 k) S1x32x64.size (k0_off405_inb k)).toLoadRect X11 = y
    pointwise
  · rw [b_ang, vang_apply, pos_row arg9 X9 I b h9 k r, b_freq, freqs_apply]; rfl

theorem level_row (r : Fin 32) (l : Fin 64) : trip_k0_t5.sl.v2527 (F := Ideal) arg9 arg11 X9 X11 k (ix2 r l) = levelR I b (32 * k.val + r.val) := by
  rw [b_level]
  exact vlevel64_apply _ (dR I b (32 * k.val + r.val)) r (fun l => rot_row arg9 arg11 X9 X11 I b h9 h11 k r l) l

theorem code_row (r : Fin 32) (l : Fin 64) : trip_k0_t5.sl.v2584 (F := Ideal) arg9 arg11 X9 X11 k (ix2 r l) = kvc I b (32 * k.val + r.val) (512 + l.val) := by
  rw [b_code]
  refine (vcode_apply _ _ (ix2 r l)).trans ?_
  rw [level_row arg9 arg11 X9 X11 I b h9 h11 k, rot_row arg9 arg11 X9 X11 I b h9 h11 k, kvc, if_neg (by omega), Nat.add_sub_cancel_left]

theorem scale_row (r : Fin 32) (l : Fin 64) : trip_k0_t5.sl.v2575 (F := Ideal) arg9 arg11 X9 X11 k (ix2 r l) = kvs I b (32 * k.val + r.val) 4 := by
  rw [b_scale]
  refine (vscale_apply _ (ix2 r l)).trans ?_
  rw [level_row arg9 arg11 X9 X11 I b h9 h11 k, kvs, if_neg (by omega)]

theorem wide_row (r : Fin 32) (l : Fin 64) : trip_k0_t5.sl.v2587 (F := Ideal) arg9 arg11 X9 X11 k (ix2 r l) = gg I b (32 * k.val + r.val) (2048 + l.val) := by
  have hl := l.isLt
  rw [b_wide]
  refine (vwide_apply _ _ (ix2 r l)).trans ?_
  rw [level_row arg9 arg11 X9 X11 I b h9 h11 k, rot_row arg9 arg11 X9 X11 I b h9 h11 k, gg, if_neg (by omega), if_neg (by omega), if_pos (by omega), kvc, if_neg (by omega),
    show 2048 + l.val - 1536 - 512 = l.val by omega, kvs, if_neg (by omega)]

theorem rotary16 : ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).1.take 1, Agrees (T3 fun _ => kvc I b) p := by
  unfold tripL_k0_t5 trip_k0_t5
  dsimp only
  intro p hp
  obtain rfl := List.mem_singleton.mp hp
  refine agrees3 (Val := Elt Ideal) (e := .fp8e5m2) (k := 1) (h := 32) (w := 64) _ (k0_off406_eq k) fun q r l => ?_
  refine Eq.trans ?_ (code_row arg9 arg11 X9 X11 I b h9 h11 k r l)
  unfold trip_k0_t5.sl.v2591
  generalize trip_k0_t5.sl.v2584 (F := Ideal) arg9 arg11 X9 X11 k = y
  pointwise

theorem rotary23 : ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.1.take 1, Agrees (T2 (gg I b)) p := by
  unfold tripL_k0_t5 trip_k0_t5
  dsimp only
  intro p hp
  obtain rfl := List.mem_singleton.mp hp
  refine agrees2 (Val := Elt Ideal) (e := .bf16) (h := 32) (w := 64) _ (k0_off407_eq k) fun r l => ?_
  refine Eq.trans ?_ (wide_row arg9 arg11 X9 X11 I b h9 h11 k r l)
  unfold trip_k0_t5.sl.v2595
  generalize trip_k0_t5.sl.v2587 (F := Ideal) arg9 arg11 X9 X11 k = y
  pointwise

theorem pieces17 (hp4 : Packed (32 * k.val) (fun s g => scaleOf (levelL I b s g)) 4 (trip_k0_t5.sl.v613 (F := Ideal) arg7 arg22 mv_v59 X7 X22 X59 k)) :
    ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.1, Agrees (T3 fun _ => kvs I b) p := by
  unfold tripL_k0_t5 trip_k0_t5
  dsimp only
  refine List.forall_mem_cons.mpr ⟨?_, List.forall_mem_cons.mpr ⟨?_, fun _ h => absurd h List.not_mem_nil⟩⟩
  · refine agrees3 (Val := Elt Ideal) (e := .f32) (k := 1) (h := 32) (w := 1) _ (k0_off409_eq k) fun q r l => ?_
    rw [show 4 + l.val = 4 by omega]
    exact (pay496_apply _ q r l).trans (scale_row arg9 arg11 X9 X11 I b h9 h11 k r _)
  · refine agrees3 (Val := Elt Ideal) (e := .f32) (k := 1) (h := 32) (w := 4) _ (k0_off408_eq k) fun q r l => ?_
    unfold trip_k0_t5.sl.r_6
    refine (pay495_apply _ q r l).trans ((hp4 r _ l.isLt).trans ?_)
    rw [Nat.zero_add, kvs, if_pos l.isLt]
omit h9 h11 in
theorem pieces19 (hp12 : Packed (32 * k.val) (qs I b) 12 (trip_k0_t5.sl.v2254 (F := Ideal) arg8 arg22 mv_v620 X8 X22 X620 k)) :
    ∀ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.1, Agrees (T3 fun _ => qs I b) p := by
  unfold tripL_k0_t5 trip_k0_t5
  dsimp only
  refine List.forall_mem_cons.mpr ⟨?_, fun _ h => absurd h List.not_mem_nil⟩
  refine agrees3 (Val := Elt Ideal) (e := .f32) (k := 1) (h := 32) (w := 12) _ (k0_off410_eq k) fun q r l => ?_
  refine (pay497_apply _ q r l).trans ((hp12 r _ l.isLt).trans ?_)
  rw [Nat.zero_add]
end Rows

end Cert.KernelIdeal.Hand

end
-- ==== Proof.IdealMiddleCover.lean ====
/- The elements the middle loop stores: every element of each result, and the gradient apart from its padding. -/
module

public import proofs.«01_k».proof.Proof.IdealWidenX

@[expose] public section

set_option maxRecDepth 16384

noncomputable section

namespace Cert.KernelIdeal.Hand

open Idealize.ShloMosaic Idealize.ShloMosaic.TcCoe Cert.KernelIdeal Cert.KernelIdeal.Gen

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

variable (mv_v59 : Memref sig .tc .vmem S384x512 .bf16) (hcanon_v59 : (arg10.slice (Rect.unit (s := S1x384x512) ![0, 0, 0] S1x384x512.size inb_S1x384x512_S1x384x512_0_0_0) (fun _ => rfl)).squeeze S384x512 squeezes_S1x384x512_S384x512 = mv_v59)
  (mv_v620 : Memref sig .tc .vmem S384x1536 .bf16) (hcanon_v620 : (arg12.slice (Rect.unit (s := S1x384x1536) ![0, 0, 0] S1x384x1536.size inb_S1x384x1536_S1x384x1536_0_0_0) (fun _ => rfl)).squeeze S384x1536 squeezes_S1x384x1536_S384x1536 = mv_v620)
  (X7 : BufTy.Contents (Elt Ideal) arg7.view.ty) (X8 : BufTy.Contents (Elt Ideal) arg8.view.ty) (X9 : BufTy.Contents (Elt Ideal) arg9.view.ty) (X11 : BufTy.Contents (Elt Ideal) arg11.view.ty)
  (X22 : BufTy.Contents (Elt Ideal) arg22.view.ty) (X59 : BufTy.Contents (Elt Ideal) mv_v59.view.ty) (X620 : BufTy.Contents (Elt Ideal) mv_v620.view.ty)

/-- A piece covers the columns from `w * o` to `w * (o + 1)`; the older pieces those to their left. -/
theorem band3 {Val : EltTy → Type} {e : EltTy} {d m n k h w q0 r0 o : ℕ} {off : Fin 3 → ℕ} [C : ClosedOff off]
    {inb : ∀ a : Fin 3, off a + (![k, h, w] : Fin 3 → ℕ) a ≤ (![d, m, n] : Fin 3 → ℕ) a} (y : (⟨3, ![d, m, n]⟩ : Shape).Idx)
    (x : (Rect.unit (s := ⟨3, ![d, m, n]⟩) off ![k, h, w] inb).shape.Idx → Val e) (L : List (View.Piece Val ⟨3, ![d, m, n]⟩ e))
    (h2 : (y 2).val < w * (o + 1)) (hf : C.form = ![q0, r0, w * o]) (h0 : q0 ≤ (y 0).val ∧ (y 0).val < q0 + k) (h1 : r0 ≤ (y 1).val ∧ (y 1).val < r0 + h)
    (hP : (y 2).val < w * o → ∃ p ∈ L, y ∈ p.1.set) :
    ∃ p ∈ (⟨Rect.unit (s := ⟨3, ![d, m, n]⟩) off ![k, h, w] inb, x⟩ : View.Piece Val ⟨3, ![d, m, n]⟩ e) :: L, y ∈ p.1.set := by
  rcases Nat.lt_or_ge (y 2).val (w * o) with g | g
  · obtain ⟨p, hp, g⟩ := hP g
    exact ⟨p, List.mem_cons_of_mem _ hp, g⟩
  · refine ⟨_, List.mem_cons_self, cover3 (inb := inb) (C.eq.trans hf) y h0 h1 ⟨g, ?_⟩⟩
    rw [Nat.mul_succ] at h2; exact h2

theorem trips5 : k0_t5_loop.trips = 12 := by decide

theorem cover16 (y : S1x384x576.Idx) : ∃ k, ∃ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).1, y ∈ p.1.set := by
  have hy0 : (y 0).val < 1 := (y 0).isLt
  have hy1 : (y 1).val < 384 := (y 1).isLt
  have hy2 : (y 2).val < 576 := (y 2).isLt
  refine ⟨⟨(y 1).val / 32, by rw [trips5]; omega⟩, ?_⟩
  have h0 : 0 ≤ (y 0).val ∧ (y 0).val < 0 + 1 := by omega
  have h1 : 32 * ((y 1).val / 32) ≤ (y 1).val ∧ (y 1).val < 32 * ((y 1).val / 32) + 32 := by omega
  unfold tripL_k0_t5 trip_k0_t5
  dsimp only
  rcases Nat.lt_or_ge (y 2).val 512 with h2 | h2
  · have e : ∀ {α : Type} {a : α} {L : List α} {P : α → Prop}, (∃ p ∈ L, P p) → ∃ p ∈ a :: L, P p := fun ⟨p, hp, h⟩ => ⟨p, List.mem_cons_of_mem _ hp, h⟩
    refine e ?_
    change (y 2).val < 128 * (3 + 1) at h2
    repeat' (refine band3 y _ _ h2 rfl h0 h1 fun h2 => ?_)
    exact absurd h2 (Nat.not_lt_zero _)
  · refine ⟨_, List.mem_cons_self, ?_⟩; dsimp only; exact mem3 y h0 h1 ⟨h2, hy2⟩

theorem cover17 (y : S1x384x5.Idx) : ∃ k, ∃ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.1, y ∈ p.1.set := by
  have hy0 : (y 0).val < 1 := (y 0).isLt
  have hy1 : (y 1).val < 384 := (y 1).isLt
  have hy2 : (y 2).val < 5 := (y 2).isLt
  refine ⟨⟨(y 1).val / 32, by rw [trips5]; omega⟩, ?_⟩
  have h0 : 0 ≤ (y 0).val ∧ (y 0).val < 0 + 1 := by omega
  have h1 : 32 * ((y 1).val / 32) ≤ (y 1).val ∧ (y 1).val < 32 * ((y 1).val / 32) + 32 := by omega
  unfold tripL_k0_t5 trip_k0_t5
  dsimp only
  rcases Nat.lt_or_ge (y 2).val 4 with h2 | h2
  · refine ⟨_, List.mem_cons_of_mem _ List.mem_cons_self, ?_⟩; dsimp only; exact mem3 y h0 h1 ⟨Nat.zero_le _, h2⟩
  · refine ⟨_, List.mem_cons_self, ?_⟩; dsimp only; exact mem3 y h0 h1 ⟨h2, hy2⟩

theorem cover18 (y : S1x384x1536.Idx) : ∃ k, ∃ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.1, y ∈ p.1.set := by
  have hy0 : (y 0).val < 1 := (y 0).isLt
  have hy1 : (y 1).val < 384 := (y 1).isLt
  have h2 : (y 2).val < 1536 := (y 2).isLt
  refine ⟨⟨(y 1).val / 32, by rw [trips5]; omega⟩, ?_⟩
  have h0 : 0 ≤ (y 0).val ∧ (y 0).val < 0 + 1 := by omega
  have h1 : 32 * ((y 1).val / 32) ≤ (y 1).val ∧ (y 1).val < 32 * ((y 1).val / 32) + 32 := by omega
  unfold tripL_k0_t5 trip_k0_t5
  dsimp only
  change (y 2).val < 128 * (11 + 1) at h2
  repeat' (refine band3 y _ _ h2 rfl h0 h1 fun h2 => ?_)
  exact absurd h2 (Nat.not_lt_zero _)

theorem cover19 (y : S1x384x12.Idx) : ∃ k, ∃ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.1, y ∈ p.1.set := by
  have hy0 : (y 0).val < 1 := (y 0).isLt
  have hy1 : (y 1).val < 384 := (y 1).isLt
  have h2 : (y 2).val < 12 := (y 2).isLt
  refine ⟨⟨(y 1).val / 32, by rw [trips5]; omega⟩, ?_⟩
  have h0 : 0 ≤ (y 0).val ∧ (y 0).val < 0 + 1 := by omega
  have h1 : 32 * ((y 1).val / 32) ≤ (y 1).val ∧ (y 1).val < 32 * ((y 1).val / 32) + 32 := by omega
  unfold tripL_k0_t5 trip_k0_t5
  dsimp only
  refine ⟨_, List.mem_cons_self, ?_⟩; dsimp only; exact mem3 y h0 h1 ⟨Nat.zero_le _, h2⟩

theorem cover23 (y : S384x2304.Idx) (hy : (y 1).val < 2112) : ∃ k, ∃ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.1, y ∈ p.1.set := by
  have hy0 : (y 0).val < 384 := (y 0).isLt
  refine ⟨⟨(y 0).val / 32, by rw [trips5]; omega⟩, ?_⟩
  have h0 : 32 * ((y 0).val / 32) ≤ (y 0).val ∧ (y 0).val < 32 * ((y 0).val / 32) + 32 := by omega
  unfold tripL_k0_t5 trip_k0_t5
  dsimp only
  rcases Nat.lt_or_ge (y 1).val 2048 with h1 | h1
  · have e : ∀ {α : Type} {a : α} {L : List α} {P : α → Prop}, (∃ p ∈ L, P p) → ∃ p ∈ a :: L, P p := fun ⟨p, hp, h⟩ => ⟨p, List.mem_cons_of_mem _ hp, h⟩
    refine e ?_
    change (y 1).val < 128 * (15 + 1) at h1
    repeat' (refine band2 y _ _ h1 rfl h0 fun h1 => ?_)
    exact absurd h1 (Nat.not_lt_zero _)
  · refine ⟨_, List.mem_cons_self, ?_⟩; dsimp only; exact mem2 y h0 ⟨h1, hy⟩

theorem cover24 (y : S12x8x512.Idx) : ∃ k, ∃ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.2.1, y ∈ p.1.set := by
  have hy0 : (y 0).val < 12 := (y 0).isLt
  have hy1 : (y 1).val < 8 := (y 1).isLt
  have h2 : (y 2).val < 512 := (y 2).isLt
  refine ⟨⟨(y 0).val, by rw [trips5]; omega⟩, ?_⟩
  have h0 : (y 0).val ≤ (y 0).val ∧ (y 0).val < (y 0).val + 1 := by omega
  have h1 : 0 ≤ (y 1).val ∧ (y 1).val < 0 + 8 := by omega
  unfold tripL_k0_t5 trip_k0_t5
  dsimp only
  change (y 2).val < 128 * (3 + 1) at h2
  repeat' (refine band3 y _ _ h2 rfl h0 h1 fun h2 => ?_)
  exact absurd h2 (Nat.not_lt_zero _)

theorem cover25 (y : S12x8x1536.Idx) : ∃ k, ∃ p ∈ (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.2.2, y ∈ p.1.set := by
  have hy0 : (y 0).val < 12 := (y 0).isLt
  have hy1 : (y 1).val < 8 := (y 1).isLt
  have h2 : (y 2).val < 1536 := (y 2).isLt
  refine ⟨⟨(y 0).val, by rw [trips5]; omega⟩, ?_⟩
  have h0 : (y 0).val ≤ (y 0).val ∧ (y 0).val < (y 0).val + 1 := by omega
  have h1 : 0 ≤ (y 1).val ∧ (y 1).val < 0 + 8 := by omega
  unfold tripL_k0_t5 trip_k0_t5
  dsimp only
  change (y 2).val < 128 * (11 + 1) at h2
  repeat' (refine band3 y _ _ h2 rfl h0 h1 fun h2 => ?_)
  exact absurd h2 (Nat.not_lt_zero _)

end Cert.KernelIdeal.Hand

end
-- ==== Proof.IdealMiddleRead.lean ====
/- What the middle loop leaves in each buffer. -/
module

public import proofs.«01_k».proof.Proof.IdealMiddleWide
public import proofs.«01_k».proof.Proof.IdealRotary
public import proofs.«01_k».proof.Proof.IdealMiddleCover

@[expose] public section

set_option maxRecDepth 16384

noncomputable section

namespace Cert.KernelIdeal.Hand

open Idealize.ShloMosaic Idealize.ShloMosaic.TcCoe Cert.KernelIdeal Cert.KernelIdeal.Gen

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

variable (mv_v59 : Memref sig .tc .vmem S384x512 .bf16) (hcanon_v59 : (arg10.slice (Rect.unit (s := S1x384x512) ![0, 0, 0] S1x384x512.size inb_S1x384x512_S1x384x512_0_0_0) (fun _ => rfl)).squeeze S384x512 squeezes_S1x384x512_S384x512 = mv_v59)
  (mv_v620 : Memref sig .tc .vmem S384x1536 .bf16) (hcanon_v620 : (arg12.slice (Rect.unit (s := S1x384x1536) ![0, 0, 0] S1x384x1536.size inb_S1x384x1536_S1x384x1536_0_0_0) (fun _ => rfl)).squeeze S384x1536 squeezes_S1x384x1536_S384x1536 = mv_v620)
  (X7 : BufTy.Contents (Elt Ideal) arg7.view.ty) (X8 : BufTy.Contents (Elt Ideal) arg8.view.ty) (X9 : BufTy.Contents (Elt Ideal) arg9.view.ty) (X11 : BufTy.Contents (Elt Ideal) arg11.view.ty)
  (X22 : BufTy.Contents (Elt Ideal) arg22.view.ty) (X59 : BufTy.Contents (Elt Ideal) mv_v59.view.ty) (X620 : BufTy.Contents (Elt Ideal) mv_v620.view.ty)

variable (I : Ins) (b : ℕ) (h22 : arg22.view.read (Elt Ideal) X22 = T2 (cc I b)) (h59 : mv_v59.view.read (Elt Ideal) X59 = T2 (I.DC b))
  (h620 : mv_v620.view.read (Elt Ideal) X620 = T2 (I.DCQ b)) (h7 : arg7.view.read (Elt Ideal) X7 = T2 fun _ => I.GNL)
  (h8 : arg8.view.read (Elt Ideal) X8 = T2 fun _ => I.GNQ) (h9 : arg9.view.read (Elt Ideal) X9 = T3 fun _ i j => I.POS b (128 * i + j))
  (h11 : arg11.view.read (Elt Ideal) X11 = T3 fun _ => I.DKR b)

section R16
include h22 h59 h7 h9 h11
theorem read5_16 (f : BufTy.Contents (Elt Ideal) arg16.view.ty) :
    arg16.view.read (Elt Ideal) (arg16.view.writes (Elt Ideal) f (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k0_t5_loop.trips).1) = (T3 fun _ => kvc I b) :=
  funext fun y => read_loop arg16.view f (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).1) (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).1) rfl
    (fun k => congrArg (fun t => t.1) (pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k)) _
    (fun k => pieces16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 I b h22 h59 h7 k (rotary16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 I b h9 h11 k)) y (.inr (cover16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 y))
end R16

section R17
include h22 h59 h7 h9 h11
theorem read5_17 (f : BufTy.Contents (Elt Ideal) arg17.view.ty) :
    arg17.view.read (Elt Ideal) (arg17.view.writes (Elt Ideal) f (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k0_t5_loop.trips).2.1) = (T3 fun _ => kvs I b) :=
  funext fun y => read_loop arg17.view f (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.1) (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.1) rfl
    (fun k => congrArg (fun t => t.2.1) (pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k)) _
    (fun k => pieces17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 I b h9 h11 k (packedL arg7 arg22 mv_v59 X7 X22 X59 I b h22 h59 h7 k)) y (.inr (cover17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 y))
end R17

section R18
include h22 h620 h8
theorem read5_18 (f : BufTy.Contents (Elt Ideal) arg18.view.ty) :
    arg18.view.read (Elt Ideal) (arg18.view.writes (Elt Ideal) f (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k0_t5_loop.trips).2.2.1) = (T3 fun _ => qc I b) :=
  funext fun y => read_loop arg18.view f (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.1) (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.1) rfl
    (fun k => congrArg (fun t => t.2.2.1) (pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k)) _
    (fun k => pieces18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 I b h22 h620 h8 k) y (.inr (cover18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 y))
end R18

section R19
include h22 h620 h8
theorem read5_19 (f : BufTy.Contents (Elt Ideal) arg19.view.ty) :
    arg19.view.read (Elt Ideal) (arg19.view.writes (Elt Ideal) f (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k0_t5_loop.trips).2.2.2.1) = (T3 fun _ => qs I b) :=
  funext fun y => read_loop arg19.view f (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.1) (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.1) rfl
    (fun k => congrArg (fun t => t.2.2.2.1) (pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k)) _
    (fun k => pieces19 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 I b k (packedQ arg8 arg22 mv_v620 X8 X22 X620 I b h22 h620 h8 k)) y (.inr (cover19 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 y))
end R19

section R23
include h22 h59 h620 h7 h8 h9 h11
theorem read5_23 (f : BufTy.Contents (Elt Ideal) arg23.view.ty) (hf : ∀ y : S384x2304.Idx, 2112 ≤ (y 1).val → arg23.view.read (Elt Ideal) f y = 0) :
    arg23.view.read (Elt Ideal) (arg23.view.writes (Elt Ideal) f (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k0_t5_loop.trips).2.2.2.2.1) = (T2 (gg I b)) :=
  funext fun y => read_loop arg23.view f (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.1) (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.1) rfl
    (fun k => congrArg (fun t => t.2.2.2.2.1) (pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k)) _
    (fun k => pieces23 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 I b h22 h59 h620 h7 h8 k (rotary23 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 I b h9 h11 k)) y (by
      rcases Nat.lt_or_ge (y 1).val 2112 with h | h
      · exact .inr (cover23 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 y h)
      · refine .inl ((hf y h).trans ?_)
        show (0 : EReal) = gg I b (y 0).val (y 1).val
        rw [gg, if_neg (by omega), if_neg (by omega), if_neg (by omega)])
end R23

section R24
include h22 h59 h7
theorem read5_24 (f : BufTy.Contents (Elt Ideal) arg24.view.ty) :
    arg24.view.read (Elt Ideal) (arg24.view.writes (Elt Ideal) f (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k0_t5_loop.trips).2.2.2.2.2.1) = (T3 fun t a o => ∑ u : Fin 4, gpL I b (32 * t + (u.val * 8 + a)) o) :=
  funext fun y => read_loop arg24.view f (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.2.1) (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.2.1) rfl
    (fun k => congrArg (fun t => t.2.2.2.2.2.1) (pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k)) _
    (fun k => pieces24 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 I b h22 h59 h7 k) y (.inr (cover24 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 y))
end R24

section R25
include h22 h620 h8
theorem read5_25 (f : BufTy.Contents (Elt Ideal) arg25.view.ty) :
    arg25.view.read (Elt Ideal) (arg25.view.writes (Elt Ideal) f (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k0_t5_loop.trips).2.2.2.2.2.2) = (T3 fun t a o => ∑ u : Fin 4, gpQ I b (32 * t + (u.val * 8 + a)) o) :=
  funext fun y => read_loop arg25.view f (fun k => (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.2.2) (fun k => (tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k).2.2.2.2.2.2) rfl
    (fun k => congrArg (fun t => t.2.2.2.2.2.2) (pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 k)) _
    (fun k => pieces25 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 I b h22 h620 h8 k) y (.inr (cover25 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 mv_v59 hcanon_v59 mv_v620 hcanon_v620 X7 X8 X9 X11 X22 X59 X620 y))
end R25

end Cert.KernelIdeal.Hand

end
-- ==== Proof.IdealGains.lean ====
/- The gains’ gradients, from the partial sums that the middle loop left. -/
module

public import proofs.«01_k».proof.Proof.IdealMiddleRead

@[expose] public section

set_option maxRecDepth 16384

noncomputable section

namespace Cert.KernelIdeal.Hand

open Idealize.ShloMosaic Idealize.ShloMosaic.TcCoe Cert.KernelIdeal Cert.KernelIdeal.Gen

theorem sum_split (m n : ℕ) (f : ℕ → EReal) : ∑ q : Fin (m * n), f q.val = ∑ i : Fin m, ∑ j : Fin n, f (n * i.val + j.val) := by
  rw [← finProdFinEquiv.sum_comp, Fintype.sum_prod_type]
  refine Finset.sum_congr rfl fun i _ => Finset.sum_congr rfl fun j _ => congrArg f ?_
  exact Nat.add_comm _ _

/-- 128 rows, summed by their place modulo 8 first. -/
theorem sum_128 (g : ℕ → EReal) (R : ℕ) :
    ∑ a : Fin 8, ∑ t : Fin 4, ∑ u : Fin 4, g (32 * (4 * R + t.val) + (u.val * 8 + a.val)) = ∑ q : Fin 128, g (128 * R + q.val) := by
  refine Eq.trans ?_ (sum_split 4 32 fun q => g (128 * R + q)).symm
  rw [Finset.sum_comm]
  refine Finset.sum_congr rfl fun t _ => ?_
  refine Eq.trans ?_ (sum_split 4 8 fun q => g (128 * R + (32 * t.val + q))).symm
  rw [Finset.sum_comm]
  refine Finset.sum_congr rfl fun u _ => Finset.sum_congr rfl fun a _ => congrArg g ?_
  omega

theorem pay498 (A : Vec Ideal S4x8x512 .f32) (q r : Fin 1) (l : Fin 512) : k0_pay498 A (ix3 q r l) = ∑ a : Fin 8, ∑ t : Fin 4, A (ix3 t a l) := by
  pointwise [k0_pay498]
theorem pay500 (A : Vec Ideal S4x8x512 .f32) : k0_pay500 A = k0_pay498 A := id rfl
theorem pay502 (A : Vec Ideal S4x8x512 .f32) : k0_pay502 A = k0_pay498 A := id rfl
theorem pay499 (A : Vec Ideal S4x8x1536 .f32) (q r : Fin 1) (l : Fin 1536) : k0_pay499 A (ix3 q r l) = ∑ a : Fin 8, ∑ t : Fin 4, A (ix3 t a l) := by
  pointwise [k0_pay499]
theorem pay501 (A : Vec Ideal S4x8x1536 .f32) : k0_pay501 A = k0_pay499 A := id rfl
theorem pay503 (A : Vec Ideal S4x8x1536 .f32) : k0_pay503 A = k0_pay499 A := id rfl

section Gain
variable {sg : RefSig} {κ κ' : Kind} {sp sp' : Space} (g : ℕ → ℕ → EReal)

theorem rowL (v : View sg κ sp S12x8x512 .f32) (X : v.ty.Contents (Elt Ideal))
    (hX : v.read (Elt Ideal) X = T3 fun t a o => ∑ u : Fin 4, g (32 * t + (u.val * 8 + a)) o) (R : ℕ)
    {inb : ∀ a : Fin 3, (![0, R, 0] : Fin 3 → ℕ) a + (![1, 1, 512] : Fin 3 → ℕ) a ≤ (![1, 3, 512] : Fin 3 → ℕ) a}
    {off : Fin 3 → ℕ} (ho : off = ![4 * R, 0, 0])
    {inb' : ∀ a : Fin 3, off a + (![4, 8, 512] : Fin 3 → ℕ) a ≤ (![12, 8, 512] : Fin 3 → ℕ) a} :
    Agrees (T3 fun _ r o => ∑ q : Fin 128, g (128 * r + q.val) o)
      (⟨Rect.unit (s := S1x3x512) ![0, R, 0] ![1, 1, 512] inb, k0_pay498 (v.readAt (Elt Ideal) (Rect.unit (s := S12x8x512) off ![4, 8, 512] inb').toLoadRect X)⟩ : View.Piece (Elt Ideal) S1x3x512 .f32) := by
  refine agrees3 _ (o0 := 0) (o1 := R) (o2 := 0) rfl fun q r l => ?_
  refine (pay498 _ q r l).trans ?_
  refine Eq.trans ?_ (sum_128 (fun s => g s (0 + l.val)) (R + r.val))
  refine Finset.sum_congr rfl fun a _ => Finset.sum_congr rfl fun t _ => ?_
  refine (readAt3 v X hX ho t a l).trans ?_
  have := r.isLt
  rw [show r.val = 0 by omega]
  simp only [Nat.zero_add, Nat.add_zero]

theorem rowQ (v : View sg κ sp S12x8x1536 .f32) (X : v.ty.Contents (Elt Ideal))
    (hX : v.read (Elt Ideal) X = T3 fun t a o => ∑ u : Fin 4, g (32 * t + (u.val * 8 + a)) o) (R : ℕ)
    {inb : ∀ a : Fin 3, (![0, R, 0] : Fin 3 → ℕ) a + (![1, 1, 1536] : Fin 3 → ℕ) a ≤ (![1, 3, 1536] : Fin 3 → ℕ) a}
    {off : Fin 3 → ℕ} (ho : off = ![4 * R, 0, 0])
    {inb' : ∀ a : Fin 3, off a + (![4, 8, 1536] : Fin 3 → ℕ) a ≤ (![12, 8, 1536] : Fin 3 → ℕ) a} :
    Agrees (T3 fun _ r o => ∑ q : Fin 128, g (128 * r + q.val) o)
      (⟨Rect.unit (s := S1x3x1536) ![0, R, 0] ![1, 1, 1536] inb, k0_pay499 (v.readAt (Elt Ideal) (Rect.unit (s := S12x8x1536) off ![4, 8, 1536] inb').toLoadRect X)⟩ : View.Piece (Elt Ideal) S1x3x1536 .f32) := by
  refine agrees3 _ (o0 := 0) (o1 := R) (o2 := 0) rfl fun q r l => ?_
  refine (pay499 _ q r l).trans ?_
  refine Eq.trans ?_ (sum_128 (fun s => g s (0 + l.val)) (R + r.val))
  refine Finset.sum_congr rfl fun a _ => Finset.sum_congr rfl fun t _ => ?_
  refine (readAt3 v X hX ho t a l).trans ?_
  have := r.isLt
  rw [show r.val = 0 by omega]
  simp only [Nat.zero_add, Nat.add_zero]

/-- The latent gain's gradient, from the partial sums. -/
theorem gainL (v : View sg κ sp S12x8x512 .f32) (X : v.ty.Contents (Elt Ideal))
    (hX : v.read (Elt Ideal) X = T3 fun t a o => ∑ u : Fin 4, g (32 * t + (u.val * 8 + a)) o)
    (w : View sg κ' sp' S1x3x512 .f32) (f : w.ty.Contents (Elt Ideal)) :
    w.read (Elt Ideal) (w.writes (Elt Ideal) f
      [⟨Rect.unit (s := S1x3x512) ![0, 2, 0] S1x1x512.size inb_S1x3x512_S1x1x512_0_2_0, k0_pay502 (v.readAt (Elt Ideal) (Rect.unit (s := S12x8x512) ![8, 0, 0] S4x8x512.size inb_S12x8x512_S4x8x512_8_0_0).toLoadRect X)⟩,
       ⟨Rect.unit (s := S1x3x512) ![0, 1, 0] S1x1x512.size inb_S1x3x512_S1x1x512_0_1_0, k0_pay500 (v.readAt (Elt Ideal) (Rect.unit (s := S12x8x512) ![4, 0, 0] S4x8x512.size inb_S12x8x512_S4x8x512_4_0_0).toLoadRect X)⟩,
       ⟨Rect.unit (s := S1x3x512) ![0, 0, 0] S1x1x512.size inb_S1x3x512_S1x1x512_0_0_0, k0_pay498 (v.readAt (Elt Ideal) (Rect.unit (s := S12x8x512) ![0, 0, 0] S4x8x512.size inb_S12x8x512_S4x8x512_0_0_0).toLoadRect X)⟩])
      = T3 fun _ r o => ∑ q : Fin 128, g (128 * r + q.val) o := by
  rw [pay500, pay502]
  refine funext fun y => read_of_agrees w f _ _ ?_ y (.inr ?_)
  · have p2 := rowL g v X hX 2 (inb := inb_S1x3x512_S1x1x512_0_2_0) (off := ![8, 0, 0]) (inb' := inb_S12x8x512_S4x8x512_8_0_0) rfl
    have p1 := rowL g v X hX 1 (inb := inb_S1x3x512_S1x1x512_0_1_0) (off := ![4, 0, 0]) (inb' := inb_S12x8x512_S4x8x512_4_0_0) rfl
    have p0 := rowL g v X hX 0 (inb := inb_S1x3x512_S1x1x512_0_0_0) (off := ![0, 0, 0]) (inb' := inb_S12x8x512_S4x8x512_0_0_0) rfl
    exact List.forall_mem_cons.mpr ⟨p2, List.forall_mem_cons.mpr ⟨p1, List.forall_mem_cons.mpr ⟨p0, fun _ h => absurd h List.not_mem_nil⟩⟩⟩
  · have hy0 : (y 0).val < 1 := (y 0).isLt
    have hy1 : (y 1).val < 3 := (y 1).isLt
    have hy2 : (y 2).val < 512 := (y 2).isLt
    rcases (by omega : (y 1).val = 2 ∨ (y 1).val = 1 ∨ (y 1).val = 0) with h | h | h
    · exact ⟨_, List.mem_cons_self, cover3 (inb := inb_S1x3x512_S1x1x512_0_2_0) rfl y ⟨by omega, by omega⟩ ⟨by omega, by omega⟩ ⟨by omega, by omega⟩⟩
    · exact ⟨_, List.mem_cons_of_mem _ List.mem_cons_self, cover3 (inb := inb_S1x3x512_S1x1x512_0_1_0) rfl y ⟨by omega, by omega⟩ ⟨by omega, by omega⟩ ⟨by omega, by omega⟩⟩
    · exact ⟨_, List.mem_cons_of_mem _ (List.mem_cons_of_mem _ List.mem_cons_self), cover3 (inb := inb_S1x3x512_S1x1x512_0_0_0) rfl y ⟨by omega, by omega⟩ ⟨by omega, by omega⟩ ⟨by omega, by omega⟩⟩

/-- The query gain's gradient, from the partial sums. -/
theorem gainQ (v : View sg κ sp S12x8x1536 .f32) (X : v.ty.Contents (Elt Ideal))
    (hX : v.read (Elt Ideal) X = T3 fun t a o => ∑ u : Fin 4, g (32 * t + (u.val * 8 + a)) o)
    (w : View sg κ' sp' S1x3x1536 .f32) (f : w.ty.Contents (Elt Ideal)) :
    w.read (Elt Ideal) (w.writes (Elt Ideal) f
      [⟨Rect.unit (s := S1x3x1536) ![0, 2, 0] S1x1x1536.size inb_S1x3x1536_S1x1x1536_0_2_0, k0_pay503 (v.readAt (Elt Ideal) (Rect.unit (s := S12x8x1536) ![8, 0, 0] S4x8x1536.size inb_S12x8x1536_S4x8x1536_8_0_0).toLoadRect X)⟩,
       ⟨Rect.unit (s := S1x3x1536) ![0, 1, 0] S1x1x1536.size inb_S1x3x1536_S1x1x1536_0_1_0, k0_pay501 (v.readAt (Elt Ideal) (Rect.unit (s := S12x8x1536) ![4, 0, 0] S4x8x1536.size inb_S12x8x1536_S4x8x1536_4_0_0).toLoadRect X)⟩,
       ⟨Rect.unit (s := S1x3x1536) ![0, 0, 0] S1x1x1536.size inb_S1x3x1536_S1x1x1536_0_0_0, k0_pay499 (v.readAt (Elt Ideal) (Rect.unit (s := S12x8x1536) ![0, 0, 0] S4x8x1536.size inb_S12x8x1536_S4x8x1536_0_0_0).toLoadRect X)⟩])
      = T3 fun _ r o => ∑ q : Fin 128, g (128 * r + q.val) o := by
  rw [pay501, pay503]
  refine funext fun y => read_of_agrees w f _ _ ?_ y (.inr ?_)
  · have p2 := rowQ g v X hX 2 (inb := inb_S1x3x1536_S1x1x1536_0_2_0) (off := ![8, 0, 0]) (inb' := inb_S12x8x1536_S4x8x1536_8_0_0) rfl
    have p1 := rowQ g v X hX 1 (inb := inb_S1x3x1536_S1x1x1536_0_1_0) (off := ![4, 0, 0]) (inb' := inb_S12x8x1536_S4x8x1536_4_0_0) rfl
    have p0 := rowQ g v X hX 0 (inb := inb_S1x3x1536_S1x1x1536_0_0_0) (off := ![0, 0, 0]) (inb' := inb_S12x8x1536_S4x8x1536_0_0_0) rfl
    exact List.forall_mem_cons.mpr ⟨p2, List.forall_mem_cons.mpr ⟨p1, List.forall_mem_cons.mpr ⟨p0, fun _ h => absurd h List.not_mem_nil⟩⟩⟩
  · have hy0 : (y 0).val < 1 := (y 0).isLt
    have hy1 : (y 1).val < 3 := (y 1).isLt
    have hy2 : (y 2).val < 1536 := (y 2).isLt
    rcases (by omega : (y 1).val = 2 ∨ (y 1).val = 1 ∨ (y 1).val = 0) with h | h | h
    · exact ⟨_, List.mem_cons_self, cover3 (inb := inb_S1x3x1536_S1x1x1536_0_2_0) rfl y ⟨by omega, by omega⟩ ⟨by omega, by omega⟩ ⟨by omega, by omega⟩⟩
    · exact ⟨_, List.mem_cons_of_mem _ List.mem_cons_self, cover3 (inb := inb_S1x3x1536_S1x1x1536_0_1_0) rfl y ⟨by omega, by omega⟩ ⟨by omega, by omega⟩ ⟨by omega, by omega⟩⟩
    · exact ⟨_, List.mem_cons_of_mem _ (List.mem_cons_of_mem _ List.mem_cons_self), cover3 (inb := inb_S1x3x1536_S1x1x1536_0_0_0) rfl y ⟨by omega, by omega⟩ ⟨by omega, by omega⟩ ⟨by omega, by omega⟩⟩

end Gain

end Cert.KernelIdeal.Hand

end
-- ==== Proof.IdealOutputs.lean ====
/- What one run of the body gives, and the steps that tie its loops together. -/
module

public import proofs.«01_k».proof.Proof.IdealWeights
public import proofs.«01_k».proof.Proof.IdealGains
public import proofs.«01_k».proof.Proof.IdealFrameRun
public import Idealize.ShloMosaic.Lib.ValueLayout

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The blocks the body is run over, at grid point `b`. -/
structure BlocksAt (I : Ins) (b : ℕ) (x0 : Vec Ideal S1x384x5120 .fp8e4m3) (x1 : Vec Ideal S1x384x40 .f32) (x2 : Vec Ideal S576x5120 .fp8e4m3) (x3 : Vec Ideal S1536x5120 .fp8e4m3) (x4 : Vec Ideal S5x40 .f32) (x5 : Vec Ideal S12x40 .f32) (x6 : Vec Ideal S1x512 .f32) (x7 : Vec Ideal S1x1536 .f32) (x8 : Vec Ideal S1x3x128 .i32) (x9 : Vec Ideal S1x384x512 .bf16) (x10 : Vec Ideal S1x384x64 .bf16) (x11 : Vec Ideal S1x384x1536 .bf16) : Prop where
  e0 : x0 = T3 fun _ => I.X b
  e1 : x1 = T3 fun _ => I.XS b
  e2 : x2 = T2 I.WK
  e3 : x3 = T2 I.WQ
  e4 : x4 = T2 I.WKS
  e5 : x5 = T2 I.WQS
  e6 : x6 = T2 fun _ => I.GNL
  e7 : x7 = T2 fun _ => I.GNQ
  e8 : x8 = T3 fun _ i j => I.POS b (128 * i + j)
  e9 : x9 = T3 fun _ => I.DC b
  e10 : x10 = T3 fun _ => I.DKR b
  e11 : x11 = T3 fun _ => I.DCQ b

/-- What the body is run over after the first grid point: the inputs at their blocks, the weights dequantised, the gradient's buffer
    as the point before left it, and the rest at some contents. -/
def heldC (I : Ins) (b : ℕ) (c : Dev nD) (arg1 : Memref sig .tc .vmem S1x384x5120 .fp8e4m3) (arg2 : Memref sig .tc .vmem S1x384x40 .f32) (arg3 : Memref sig .tc .vmem S576x5120 .fp8e4m3) (arg4 : Memref sig .tc .vmem S1536x5120 .fp8e4m3) (arg5 : Memref sig .tc .smem S5x40 .f32) (arg6 : Memref sig .tc .smem S12x40 .f32) (arg7 : Memref sig .tc .vmem S1x512 .f32) (arg8 : Memref sig .tc .vmem S1x1536 .f32) (arg9 : Memref sig .tc .vmem S1x3x128 .i32) (arg10 : Memref sig .tc .vmem S1x384x512 .bf16) (arg11 : Memref sig .tc .vmem S1x384x64 .bf16) (arg12 : Memref sig .tc .vmem S1x384x1536 .bf16) (arg13 : Memref sig .tc .vmem S1x384x5120 .bf16) (arg14 : Memref sig .tc .vmem S1x3x512 .f32) (arg15 : Memref sig .tc .vmem S1x3x1536 .f32) (arg16 : Memref sig .tc .vmem S1x384x576 .fp8e5m2) (arg17 : Memref sig .tc .vmem S1x384x5 .f32) (arg18 : Memref sig .tc .vmem S1x384x1536 .fp8e5m2) (arg19 : Memref sig .tc .vmem S1x384x12 .f32) (arg20 : Memref sig .tc .vmem S2304x5120 .bf16) (arg21 : Memref sig .tc .vmem S384x5120 .bf16) (arg22 : Memref sig .tc .vmem S384x2048 .bf16) (arg23 : Memref sig .tc .vmem S384x2304 .bf16) (arg24 : Memref sig .tc .vmem S12x8x512 .f32) (arg25 : Memref sig .tc .vmem S12x8x1536 .f32)
    (x0 : Vec Ideal S1x384x5120 .fp8e4m3) (x1 : Vec Ideal S1x384x40 .f32) (x2 : Vec Ideal S576x5120 .fp8e4m3) (x3 : Vec Ideal S1536x5120 .fp8e4m3) (x4 : Vec Ideal S5x40 .f32) (x5 : Vec Ideal S12x40 .f32) (x6 : Vec Ideal S1x512 .f32) (x7 : Vec Ideal S1x1536 .f32) (x8 : Vec Ideal S1x3x128 .i32) (x9 : Vec Ideal S1x384x512 .bf16) (x10 : Vec Ideal S1x384x64 .bf16) (x11 : Vec Ideal S1x384x1536 .bf16) : sProp (MT nD τ sig Unit (Elt Ideal) ℕ (UR sig nD τ) ℕ) :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ (∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ owns (c : Thread nD τ) arg20 fullShare (T2 (wt I))
    ∗ (∃ d, owns (c : Thread nD τ) arg21 fullShare d)
    ∗ (∃ d, owns (c : Thread nD τ) arg22 fullShare d)
    ∗ owns (c : Thread nD τ) arg23 fullShare (T2 (gg I b))
    ∗ (∃ d, owns (c : Thread nD τ) arg24 fullShare d)
    ∗ (∃ d, owns (c : Thread nD τ) arg25 fullShare d))

/-- What the body gives back: the inputs, the outputs' blocks, the weights and the gradient. -/
def heldV (I : Ins) (b : ℕ) (c : Dev nD) (arg1 : Memref sig .tc .vmem S1x384x5120 .fp8e4m3) (arg2 : Memref sig .tc .vmem S1x384x40 .f32) (arg3 : Memref sig .tc .vmem S576x5120 .fp8e4m3) (arg4 : Memref sig .tc .vmem S1536x5120 .fp8e4m3) (arg5 : Memref sig .tc .smem S5x40 .f32) (arg6 : Memref sig .tc .smem S12x40 .f32) (arg7 : Memref sig .tc .vmem S1x512 .f32) (arg8 : Memref sig .tc .vmem S1x1536 .f32) (arg9 : Memref sig .tc .vmem S1x3x128 .i32) (arg10 : Memref sig .tc .vmem S1x384x512 .bf16) (arg11 : Memref sig .tc .vmem S1x384x64 .bf16) (arg12 : Memref sig .tc .vmem S1x384x1536 .bf16) (arg13 : Memref sig .tc .vmem S1x384x5120 .bf16) (arg14 : Memref sig .tc .vmem S1x3x512 .f32) (arg15 : Memref sig .tc .vmem S1x3x1536 .f32) (arg16 : Memref sig .tc .vmem S1x384x576 .fp8e5m2) (arg17 : Memref sig .tc .vmem S1x384x5 .f32) (arg18 : Memref sig .tc .vmem S1x384x1536 .fp8e5m2) (arg19 : Memref sig .tc .vmem S1x384x12 .f32) (arg20 : Memref sig .tc .vmem S2304x5120 .bf16) (arg21 : Memref sig .tc .vmem S384x5120 .bf16) (arg22 : Memref sig .tc .vmem S384x2048 .bf16) (arg23 : Memref sig .tc .vmem S384x2304 .bf16) (arg24 : Memref sig .tc .vmem S12x8x512 .f32) (arg25 : Memref sig .tc .vmem S12x8x1536 .f32)
    (x0 : Vec Ideal S1x384x5120 .fp8e4m3) (x1 : Vec Ideal S1x384x40 .f32) (x2 : Vec Ideal S576x5120 .fp8e4m3) (x3 : Vec Ideal S1536x5120 .fp8e4m3) (x4 : Vec Ideal S5x40 .f32) (x5 : Vec Ideal S12x40 .f32) (x6 : Vec Ideal S1x512 .f32) (x7 : Vec Ideal S1x1536 .f32) (x8 : Vec Ideal S1x3x128 .i32) (x9 : Vec Ideal S1x384x512 .bf16) (x10 : Vec Ideal S1x384x64 .bf16) (x11 : Vec Ideal S1x384x1536 .bf16) : sProp (MT nD τ sig Unit (Elt Ideal) ℕ (UR sig nD τ) ℕ) :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ owns (c : Thread nD τ) arg13 fullShare (T3 fun _ => dxv I b)
    ∗ owns (c : Thread nD τ) arg14 fullShare (T3 fun _ => glp I b)
    ∗ owns (c : Thread nD τ) arg15 fullShare (T3 fun _ => gqp I b)
    ∗ owns (c : Thread nD τ) arg16 fullShare (T3 fun _ => kvc I b)
    ∗ owns (c : Thread nD τ) arg17 fullShare (T3 fun _ => kvs I b)
    ∗ owns (c : Thread nD τ) arg18 fullShare (T3 fun _ => qc I b)
    ∗ owns (c : Thread nD τ) arg19 fullShare (T3 fun _ => qs I b)
    ∗ owns (c : Thread nD τ) arg20 fullShare (T2 (wt I))
    ∗ (∃ d, owns (c : Thread nD τ) arg21 fullShare d)
    ∗ (∃ d, owns (c : Thread nD τ) arg22 fullShare d)
    ∗ owns (c : Thread nD τ) arg23 fullShare (T2 (gg I b))
    ∗ (∃ d, owns (c : Thread nD τ) arg24 fullShare d)
    ∗ (∃ d, owns (c : Thread nD τ) arg25 fullShare d))

theorem rows10_read (arg10 : Memref sig .tc .vmem S1x384x512 .bf16) (X : BufTy.Contents (Elt Ideal) arg10.view.ty) (A : ℕ → ℕ → EReal)
    (h : arg10.view.read (Elt Ideal) X = T3 fun _ => A) : (rows10 arg10).view.read (Elt Ideal) X = T2 A := by
  refine funext fun y => ?_
  rw [eq_ix2 (n0 := 384) (n1 := 512) y]
  refine (congrArg (fun z => arg10.view.read (Elt Ideal) X ((Rect.unit (s := S1x384x512) ![0, 0, 0] S1x384x512.size inb_S1x384x512_S1x384x512_0_0_0).emb z)) (ValueIdx.reshapeEquiv_ix2_1ab _ _ _)).trans ?_
  rw [h]
  show A (0 + 1 * (y 0).val) (0 + 1 * (y 1).val) = A (y 0).val (y 1).val
  simp only [Nat.zero_add, Nat.one_mul]

theorem rows12_read (arg12 : Memref sig .tc .vmem S1x384x1536 .bf16) (X : BufTy.Contents (Elt Ideal) arg12.view.ty) (A : ℕ → ℕ → EReal)
    (h : arg12.view.read (Elt Ideal) X = T3 fun _ => A) : (rows12 arg12).view.read (Elt Ideal) X = T2 A := by
  refine funext fun y => ?_
  rw [eq_ix2 (n0 := 384) (n1 := 1536) y]
  refine (congrArg (fun z => arg12.view.read (Elt Ideal) X ((Rect.unit (s := S1x384x1536) ![0, 0, 0] S1x384x1536.size inb_S1x384x1536_S1x384x1536_0_0_0).emb z)) (ValueIdx.reshapeEquiv_ix2_1ab _ _ _)).trans ?_
  rw [h]
  show A (0 + 1 * (y 0).val) (0 + 1 * (y 1).val) = A (y 0).val (y 1).val
  simp only [Nat.zero_add, Nat.one_mul]

/-- The gradient's last columns are zero once the first grid point has zeroed them. -/
theorem pad23 (arg23 : Memref sig .tc .vmem S384x2304 .bf16) (f : BufTy.Contents (Elt Ideal) arg23.view.ty) (y : S384x2304.Idx) (hy : 2112 ≤ (y 1).val) :
    arg23.view.read (Elt Ideal) (arg23.view.writes (Elt Ideal) f [⟨Rect.unit (s := S384x2304) ![0, 2048] S384x256.size inb_S384x2304_S384x256_0_2048, k0_pay491 (F := Ideal)⟩]) y = 0 := by
  have hy0 : (y 0).val < 384 := (y 0).isLt
  have hy1 : (y 1).val < 2304 := (y 1).isLt
  refine read_of_agrees arg23.view f _ (T2 fun _ _ => (0 : EReal)) ?_ y (.inr ⟨_, List.mem_cons_self, cover2 (inb := inb_S384x2304_S384x256_0_2048) rfl y ⟨by omega, by omega⟩ ⟨by omega, by omega⟩⟩)
  refine List.forall_mem_cons.mpr ⟨fun x => ?_, fun _ h => absurd h List.not_mem_nil⟩
  show Ideal.ofBits .bf16 0x0000#16 = 0
  simp

/-- They are zero in the gradient. -/
theorem gg_pad (I : Ins) (b : ℕ) (y : S384x2304.Idx) (hy : 2112 ≤ (y 1).val) : T2 (gg I b) y = 0 := by
  show (if _ then _ else _) = _
  rw [if_neg (by omega), if_neg (by omega), if_neg (by omega)]

variable (𝒱 : Variants) (c : Dev nD) (bd : Option 𝒱.V) (i : grid0.Coords) (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)

variable (X1 : BufTy.Contents (Elt Ideal) arg1.view.ty) (X2 : BufTy.Contents (Elt Ideal) arg2.view.ty) (X20 : BufTy.Contents (Elt Ideal) arg20.view.ty)

/-- The forward projections, from the activations and the weights. -/
theorem c22 (I : Ins) (b : ℕ) (h1 : arg1.view.read (Elt Ideal) X1 = T3 fun _ => I.X b) (h2 : arg2.view.read (Elt Ideal) X2 = T3 fun _ => I.XS b)
    (h20 : arg20.view.read (Elt Ideal) X20 = T2 (wt I)) (f21 : BufTy.Contents (Elt Ideal) arg21.view.ty) (f22 : BufTy.Contents (Elt Ideal) arg22.view.ty) :
    arg22.view.read (Elt Ideal) (arg22.view.writes (Elt Ideal) f22 (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20
      (arg21.view.writes (Elt Ideal) f21 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X1 X2 k0_t3_loop.trips)) k0_t4_loop.trips)) = T2 (cc I b) :=
  read4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X20 _ (xw I b) (wt I) (read3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 X1 X2 (I.X b) (I.XS b) h1 h2 f21) h20 f22

end Cert.KernelIdeal.Hand

end
-- ==== Proof.IdealValueA.lean ====
/- The body run once at its values: the first grid point. -/
module

public import proofs.«01_k».proof.Proof.IdealOutputs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (c : Dev nD) (i : grid0.Coords)
  (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)
  (x0 : Vec Ideal S1x384x5120 .fp8e4m3) (x1 : Vec Ideal S1x384x40 .f32) (x2 : Vec Ideal S576x5120 .fp8e4m3) (x3 : Vec Ideal S1536x5120 .fp8e4m3) (x4 : Vec Ideal S5x40 .f32) (x5 : Vec Ideal S12x40 .f32) (x6 : Vec Ideal S1x512 .f32) (x7 : Vec Ideal S1x1536 .f32) (x8 : Vec Ideal S1x3x128 .i32) (x9 : Vec Ideal S1x384x512 .bf16) (x10 : Vec Ideal S1x384x64 .bf16) (x11 : Vec Ideal S1x384x1536 .bf16)

set_option maxHeartbeats 8000000 in
/-- At the first grid point the body leaves the seven blocks the mathematics asks for, the dequantised weights and the gradient. -/
theorem valueA (I : Ins) (b : ℕ) (hI : BlocksAt I b x0 x1 x2 x3 x4 x5 x6 x7 x8 x9 x10 x11) (hc0 : cond0_0 i) (E : Set ℕ) (K : PUnit → sProp (MT nD τ sig Unit (Elt Ideal) ℕ (UR sig nD τ) ℕ)) :
    iprop(held c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 ∗ (heldV I b c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 -∗ K ⟨⟩))
      ⊢ wp frame (wpE (defs₀ (F := Ideal)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_mla_bwd_eq_skeleton]; unfold cc0_mla_bwd_skel
  simp only [k0_part103_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part104_eq_skeleton]
  unfold held heldV owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  ihave H9 := (ent_of_eq (rows10_held c arg10 _)) $$ H9
  ihave H11 := (ent_of_eq (rows12_held c arg12 _)) $$ H11
  have h1 := (harg1.read_unread x0).trans hI.e0
  have h2 := (harg2.read_unread x1).trans hI.e1
  have h3 := (harg3.read_unread x2).trans hI.e2
  have h4 := (harg4.read_unread x3).trans hI.e3
  have h5 := (harg5.read_unread x4).trans hI.e4
  have h6 := (harg6.read_unread x5).trans hI.e5
  have h7 := (harg7.read_unread x6).trans hI.e6
  have h8 := (harg8.read_unread x7).trans hI.e7
  have h9 := (harg9.read_unread x8).trans hI.e8
  have h11 := (harg11.read_unread x10).trans hI.e10
  have h59 := rows10_read arg10 _ _ ((harg10.read_unread x9).trans hI.e9)
  have h620 := rows12_read arg12 _ _ ((harg12.read_unread x11).trans hI.e11)
  have h20 := w20 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 _ _ _ _ I h3 h4 h5 h6 f19
  sl_exec (disch := first | sl_exact hc0)
  sl_step
  ihave H9 := (ent_of_eq (rows10_held c arg10 _).symm) $$ H9
  ihave H11 := (ent_of_eq (rows12_held c arg12 _).symm) $$ H11
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro; exact read6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ (gg I b) (wt I) ((congrArg (arg23.view.read (Elt Ideal)) (View.writes_append _ _ _ _)).trans (read5_23 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h59 h620 h7 h8 h9 h11 _ (pad23 arg23 _))) h20 _
  isplitl [H13]
  · iexists _; isplitr; swap; · iexact H13
    ipureintro; exact gainL (gpL I b) arg24.view _ (read5_24 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h59 h7 _) arg14.view _
  isplitl [H14]
  · iexists _; isplitr; swap; · iexact H14
    ipureintro; exact gainQ (gpQ I b) arg25.view _ (read5_25 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h620 h8 _) arg15.view _
  isplitl [H15]
  · iexists _; isplitr; swap; · iexact H15
    ipureintro; exact read5_16 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h59 h7 h9 h11 _
  isplitl [H16]
  · iexists _; isplitr; swap; · iexact H16
    ipureintro; exact read5_17 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h59 h7 h9 h11 _
  isplitl [H17]
  · iexists _; isplitr; swap; · iexact H17
    ipureintro; exact read5_18 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h620 h8 _
  isplitl [H18]
  · iexists _; isplitr; swap; · iexact H18
    ipureintro; exact read5_19 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h620 h8 _
  isplitl [H19]
  · iexists _; isplitr; swap; · iexact H19
    ipureintro; exact h20
  isplitl [H20]
  · iexists _, _; isplitr; swap; · iexact H20
    ipureintro; rfl
  isplitl [H21]
  · iexists _, _; isplitr; swap; · iexact H21
    ipureintro; rfl
  isplitl [H22]
  · iexists _; isplitr; swap; · iexact H22
    ipureintro; exact ((congrArg (arg23.view.read (Elt Ideal)) (View.writes_append _ _ _ _)).trans (read5_23 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h59 h620 h7 h8 h9 h11 _ (pad23 arg23 _)))
  isplitl [H23]
  · iexists _, _; isplitr; swap; · iexact H23
    ipureintro; rfl
  · iexists _, _; isplitr; swap; · iexact H24
    ipureintro; rfl

end Cert.KernelIdeal.Hand

end
-- ==== Proof.IdealValueB.lean ====
/- The body run once at its values: the later grid points. -/
module

public import proofs.«01_k».proof.Proof.IdealOutputs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (c : Dev nD) (i : grid0.Coords)
  (arg1 : Memref sig .tc .vmem S1x384x5120 .fp8e4m3) (harg1 : arg1.IsWhole) (arg2 : Memref sig .tc .vmem S1x384x40 .f32) (harg2 : arg2.IsWhole) (arg3 : Memref sig .tc .vmem S576x5120 .fp8e4m3) (harg3 : arg3.IsWhole) (arg4 : Memref sig .tc .vmem S1536x5120 .fp8e4m3) (harg4 : arg4.IsWhole) (arg5 : Memref sig .tc .smem S5x40 .f32) (harg5 : arg5.IsWhole) (arg6 : Memref sig .tc .smem S12x40 .f32) (harg6 : arg6.IsWhole) (arg7 : Memref sig .tc .vmem S1x512 .f32) (harg7 : arg7.IsWhole) (arg8 : Memref sig .tc .vmem S1x1536 .f32) (harg8 : arg8.IsWhole) (arg9 : Memref sig .tc .vmem S1x3x128 .i32) (harg9 : arg9.IsWhole) (arg10 : Memref sig .tc .vmem S1x384x512 .bf16) (harg10 : arg10.IsWhole) (arg11 : Memref sig .tc .vmem S1x384x64 .bf16) (harg11 : arg11.IsWhole) (arg12 : Memref sig .tc .vmem S1x384x1536 .bf16) (harg12 : arg12.IsWhole) (arg13 : Memref sig .tc .vmem S1x384x5120 .bf16) (harg13 : arg13.IsWhole) (arg14 : Memref sig .tc .vmem S1x3x512 .f32) (harg14 : arg14.IsWhole) (arg15 : Memref sig .tc .vmem S1x3x1536 .f32) (harg15 : arg15.IsWhole) (arg16 : Memref sig .tc .vmem S1x384x576 .fp8e5m2) (harg16 : arg16.IsWhole) (arg17 : Memref sig .tc .vmem S1x384x5 .f32) (harg17 : arg17.IsWhole) (arg18 : Memref sig .tc .vmem S1x384x1536 .fp8e5m2) (harg18 : arg18.IsWhole) (arg19 : Memref sig .tc .vmem S1x384x12 .f32) (harg19 : arg19.IsWhole) (arg20 : Memref sig .tc .vmem S2304x5120 .bf16) (harg20 : arg20.IsWhole) (arg21 : Memref sig .tc .vmem S384x5120 .bf16) (harg21 : arg21.IsWhole) (arg22 : Memref sig .tc .vmem S384x2048 .bf16) (harg22 : arg22.IsWhole) (arg23 : Memref sig .tc .vmem S384x2304 .bf16) (harg23 : arg23.IsWhole) (arg24 : Memref sig .tc .vmem S12x8x512 .f32) (harg24 : arg24.IsWhole) (arg25 : Memref sig .tc .vmem S12x8x1536 .f32) (harg25 : arg25.IsWhole)
  (x0 : Vec Ideal S1x384x5120 .fp8e4m3) (x1 : Vec Ideal S1x384x40 .f32) (x2 : Vec Ideal S576x5120 .fp8e4m3) (x3 : Vec Ideal S1536x5120 .fp8e4m3) (x4 : Vec Ideal S5x40 .f32) (x5 : Vec Ideal S12x40 .f32) (x6 : Vec Ideal S1x512 .f32) (x7 : Vec Ideal S1x1536 .f32) (x8 : Vec Ideal S1x3x128 .i32) (x9 : Vec Ideal S1x384x512 .bf16) (x10 : Vec Ideal S1x384x64 .bf16) (x11 : Vec Ideal S1x384x1536 .bf16)

set_option maxHeartbeats 8000000 in
/-- At a later grid point, on the weights and the gradient’s zero columns that an earlier one left, it does the same. -/
theorem valueB (I : Ins) (b : ℕ) (b' : ℕ) (hI : BlocksAt I b x0 x1 x2 x3 x4 x5 x6 x7 x8 x9 x10 x11) (hc0 : ¬ cond0_0 i) (E : Set ℕ) (K : PUnit → sProp (MT nD τ sig Unit (Elt Ideal) ℕ (UR sig nD τ) ℕ)) :
    iprop(heldC I b' c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 ∗ (heldV I b c arg1 arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 -∗ K ⟨⟩))
      ⊢ wp frame (wpE (defs₀ (F := Ideal)) Variants.none c none) E (cc0_mla_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_mla_bwd_eq_skeleton]; unfold cc0_mla_bwd_skel
  simp only [k0_part103_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part104_eq_skeleton]
  unfold heldC heldV owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%d20, %f20, -, H20⟩, ⟨%d21, %f21, -, H21⟩, ⟨%f22, %hf22, H22⟩, ⟨%d23, %f23, -, H23⟩, ⟨%d24, %f24, -, H24⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  ihave H9 := (ent_of_eq (rows10_held c arg10 _)) $$ H9
  ihave H11 := (ent_of_eq (rows12_held c arg12 _)) $$ H11
  have h1 := (harg1.read_unread x0).trans hI.e0
  have h2 := (harg2.read_unread x1).trans hI.e1
  have h3 := (harg3.read_unread x2).trans hI.e2
  have h4 := (harg4.read_unread x3).trans hI.e3
  have h5 := (harg5.read_unread x4).trans hI.e4
  have h6 := (harg6.read_unread x5).trans hI.e5
  have h7 := (harg7.read_unread x6).trans hI.e6
  have h8 := (harg8.read_unread x7).trans hI.e7
  have h9 := (harg9.read_unread x8).trans hI.e8
  have h11 := (harg11.read_unread x10).trans hI.e10
  have h59 := rows10_read arg10 _ _ ((harg10.read_unread x9).trans hI.e9)
  have h620 := rows12_read arg12 _ _ ((harg12.read_unread x11).trans hI.e11)
  have h20 := hf19
  have hpad : ∀ y : S384x2304.Idx, 2112 ≤ (y 1).val → arg23.view.read (Elt Ideal) f22 y = 0 := fun y hy => (congrFun hf22 y).trans (gg_pad I b' y hy)
  sl_exec (disch := first | sl_exact hc0)
  sl_step
  ihave H9 := (ent_of_eq (rows10_held c arg10 _).symm) $$ H9
  ihave H11 := (ent_of_eq (rows12_held c arg12 _).symm) $$ H11
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro; exact read6 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ (gg I b) (wt I) (read5_23 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h59 h620 h7 h8 h9 h11 _ hpad) h20 _
  isplitl [H13]
  · iexists _; isplitr; swap; · iexact H13
    ipureintro; exact gainL (gpL I b) arg24.view _ (read5_24 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h59 h7 _) arg14.view _
  isplitl [H14]
  · iexists _; isplitr; swap; · iexact H14
    ipureintro; exact gainQ (gpQ I b) arg25.view _ (read5_25 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h620 h8 _) arg15.view _
  isplitl [H15]
  · iexists _; isplitr; swap; · iexact H15
    ipureintro; exact read5_16 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h59 h7 h9 h11 _
  isplitl [H16]
  · iexists _; isplitr; swap; · iexact H16
    ipureintro; exact read5_17 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h59 h7 h9 h11 _
  isplitl [H17]
  · iexists _; isplitr; swap; · iexact H17
    ipureintro; exact read5_18 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h620 h8 _
  isplitl [H18]
  · iexists _; isplitr; swap; · iexact H18
    ipureintro; exact read5_19 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h620 h8 _
  isplitl [H19]
  · iexists _; isplitr; swap; · iexact H19
    ipureintro; exact h20
  isplitl [H20]
  · iexists _, _; isplitr; swap; · iexact H20
    ipureintro; rfl
  isplitl [H21]
  · iexists _, _; isplitr; swap; · iexact H21
    ipureintro; rfl
  isplitl [H22]
  · iexists _; isplitr; swap; · iexact H22
    ipureintro; exact (read5_23 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 (rows10 arg10) rfl (rows12 arg12) rfl _ _ _ _ _ _ _ I b (c22 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 _ _ _ I b h1 h2 h20 _ _) h59 h620 h7 h8 h9 h11 _ hpad)
  isplitl [H23]
  · iexists _, _; isplitr; swap; · iexact H23
    ipureintro; rfl
  · iexists _, _; isplitr; swap; · iexact H24
    ipureintro; rfl

end Cert.KernelIdeal.Hand

end
-- ==== Proof.IdealInputs.lean ====
/- The twelve arguments as functions of the numbers of their coordinates. -/
module

public import proofs.«01_k».proof.Proof.IdealSpec

@[expose] public section

set_option maxRecDepth 16384

noncomputable section

namespace Cert.KernelIdeal.Hand

open Idealize.ShloMosaic

/-- An array read at the numbers of its coordinates; zero outside it. -/
def at1 {α : Type} [Zero α] {l : ℕ} (v : (⟨1, ![l]⟩ : Shape).Idx → α) (a : ℕ) : α :=
  if h : a < l then v (ix1 ⟨a, h⟩) else 0
def at2 {α : Type} [Zero α] {l m : ℕ} (v : (⟨2, ![l, m]⟩ : Shape).Idx → α) (a b : ℕ) : α :=
  if h : a < l ∧ b < m then v (ix2 ⟨a, h.1⟩ ⟨b, h.2⟩) else 0
def at3 {α : Type} [Zero α] {l m n : ℕ} (v : (⟨3, ![l, m, n]⟩ : Shape).Idx → α) (a b c : ℕ) : α :=
  if h : a < l ∧ b < m ∧ c < n then v (ix3 ⟨a, h.1⟩ ⟨b, h.2.1⟩ ⟨c, h.2.2⟩) else 0

theorem at1_eq {α : Type} [Zero α] {l : ℕ} (v : (⟨1, ![l]⟩ : Shape).Idx → α) {a : ℕ} (ha : a < l) :
    at1 v a = v (ix1 ⟨a, ha⟩) := dif_pos ha
theorem at2_eq {α : Type} [Zero α] {l m : ℕ} (v : (⟨2, ![l, m]⟩ : Shape).Idx → α) {a b : ℕ} (ha : a < l) (hb : b < m) :
    at2 v a b = v (ix2 ⟨a, ha⟩ ⟨b, hb⟩) := dif_pos ⟨ha, hb⟩
theorem at3_eq {α : Type} [Zero α] {l m n : ℕ} (v : (⟨3, ![l, m, n]⟩ : Shape).Idx → α) {a b c : ℕ} (ha : a < l) (hb : b < m) (hc : c < n) :
    at3 v a b c = v (ix3 ⟨a, ha⟩ ⟨b, hb⟩ ⟨c, hc⟩) := dif_pos ⟨ha, hb, hc⟩

instance : Zero (BitVec 32) := ⟨0#32⟩

open Cert.KernelIdeal in
/-- The arguments, in the order the program takes them. -/
def insOf (a0 : Vec Ideal S4x384x5120 .fp8e4m3) (a1 : Vec Ideal S4x384x40 .f32) (a2 : Vec Ideal S576x5120 .fp8e4m3) (a3 : Vec Ideal S5x40 .f32)
    (a4 : Vec Ideal ⟨1, ![512]⟩ .f32) (a5 : Vec Ideal ⟨2, ![4, 384]⟩ .i32) (a6 : Vec Ideal S4x384x512 .bf16) (a7 : Vec Ideal S4x384x64 .bf16)
    (a8 : Vec Ideal S1536x5120 .fp8e4m3) (a9 : Vec Ideal S12x40 .f32) (a10 : Vec Ideal ⟨1, ![1536]⟩ .f32) (a11 : Vec Ideal S4x384x1536 .bf16) : Ins where
  X := at3 (α := EReal) a0
  XS := at3 (α := EReal) a1
  WK := at2 (α := EReal) a2
  WKS := at2 (α := EReal) a3
  GNL := at1 (α := EReal) a4
  POS := at2 (α := BitVec 32) a5
  DC := at3 (α := EReal) a6
  DKR := at3 (α := EReal) a7
  WQ := at2 (α := EReal) a8
  WQS := at2 (α := EReal) a9
  GNQ := at1 (α := EReal) a10
  DCQ := at3 (α := EReal) a11

end Cert.KernelIdeal.Hand

end
-- ==== Proof.IdealBlocks.lean ====
/- The blocks each grid point finds, in terms of the arguments. -/
module

public import proofs.«01_k».proof.Proof.IdealInputs
public import proofs.«01_k».proof.Proof.IdealOutputs
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ)

/-- The arguments as launched. -/
def insM (c : Dev nD) : Ins := insOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The windows' block indices, at every point. -/
theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0, 0] ∧ win0_9.index t = ![t.val, 0, 0] ∧ win0_10.index t = ![t.val, 0, 0] ∧ win0_11.index t = ![t.val, 0, 0]
    ∧ win0_12.index t = ![t.val, 0, 0] ∧ win0_13.index t = ![t.val, 0, 0] ∧ win0_14.index t = ![t.val, 0, 0] ∧ win0_15.index t = ![t.val, 0, 0]
    ∧ win0_16.index t = ![t.val, 0, 0] ∧ win0_17.index t = ![t.val, 0, 0] ∧ win0_18.index t = ![t.val, 0, 0] :=
  (by decide +kernel : ∀ t : Fin grid0.N, _)

theorem point_lt (t : Fin cfg0.N) : t.val < 4 := t.isLt

theorem blk0 (c : Dev nD) (t : Fin cfg0.N) : iblk m c 0 t = T3 (l := 1) (m := 384) (n := 5120) fun _ => (insM m c).X t.val := by
  funext y
  show _ = at3 (α := EReal) (l := 4) (m := 384) (n := 5120) (m ((c : Thread nD τ).loc main_arg0)) t.val (y 1).val (y 2).val
  refine Eq.trans ?_ (at3_eq (α := EReal) (l := 4) (m := 384) (n := 5120) _ (point_lt t) (y 1).isLt (y 2).isLt).symm
  blk_ext [iblk, V, idx t]
theorem blk1 (c : Dev nD) (t : Fin cfg0.N) : iblk m c 1 t = T3 (l := 1) (m := 384) (n := 40) fun _ => (insM m c).XS t.val := by
  funext y
  show _ = at3 (α := EReal) (l := 4) (m := 384) (n := 40) (m ((c : Thread nD τ).loc main_arg1)) t.val (y 1).val (y 2).val
  refine Eq.trans ?_ (at3_eq (α := EReal) (l := 4) (m := 384) (n := 40) _ (point_lt t) (y 1).isLt (y 2).isLt).symm
  blk_ext [iblk, V, idx t]
theorem blk2 (c : Dev nD) (t : Fin cfg0.N) : iblk m c 2 t = T2 (m := 576) (n := 5120) (insM m c).WK := by
  funext y
  show _ = at2 (α := EReal) (m := 5120) (l := 576) (m ((c : Thread nD τ).loc main_arg2)) (y 0).val (y 1).val
  refine Eq.trans ?_ (at2_eq (α := EReal) (l := 576) (m := 5120) _ (y 0).isLt (y 1).isLt).symm
  blk_ext [iblk, V, idx t]
theorem blk3 (c : Dev nD) (t : Fin cfg0.N) : iblk m c 3 t = T2 (m := 1536) (n := 5120) (insM m c).WQ := by
  funext y
  show _ = at2 (α := EReal) (m := 5120) (l := 1536) (m ((c : Thread nD τ).loc main_arg8)) (y 0).val (y 1).val
  refine Eq.trans ?_ (at2_eq (α := EReal) (l := 1536) (m := 5120) _ (y 0).isLt (y 1).isLt).symm
  blk_ext [iblk, V, idx t]
theorem blk4 (c : Dev nD) (t : Fin cfg0.N) : iblk m c 4 t = T2 (m := 5) (n := 40) (insM m c).WKS := by
  funext y
  show _ = at2 (α := EReal) (m := 40) (l := 5) (m ((c : Thread nD τ).loc main_arg3)) (y 0).val (y 1).val
  refine Eq.trans ?_ (at2_eq (α := EReal) (l := 5) (m := 40) _ (y 0).isLt (y 1).isLt).symm
  blk_ext [iblk, V, idx t]
theorem blk5 (c : Dev nD) (t : Fin cfg0.N) : iblk m c 5 t = T2 (m := 12) (n := 40) (insM m c).WQS := by
  funext y
  show _ = at2 (α := EReal) (m := 40) (l := 12) (m ((c : Thread nD τ).loc main_arg9)) (y 0).val (y 1).val
  refine Eq.trans ?_ (at2_eq (α := EReal) (l := 12) (m := 40) _ (y 0).isLt (y 1).isLt).symm
  blk_ext [iblk, V, idx t]
theorem blk9 (c : Dev nD) (t : Fin cfg0.N) : iblk m c 9 t = T3 (l := 1) (m := 384) (n := 512) fun _ => (insM m c).DC t.val := by
  funext y
  show _ = at3 (α := EReal) (l := 4) (m := 384) (n := 512) (m ((c : Thread nD τ).loc main_arg6)) t.val (y 1).val (y 2).val
  refine Eq.trans ?_ (at3_eq (α := EReal) (l := 4) (m := 384) (n := 512) _ (point_lt t) (y 1).isLt (y 2).isLt).symm
  blk_ext [iblk, V, idx t]
theorem blk10 (c : Dev nD) (t : Fin cfg0.N) : iblk m c 10 t = T3 (l := 1) (m := 384) (n := 64) fun _ => (insM m c).DKR t.val := by
  funext y
  show _ = at3 (α := EReal) (l := 4) (m := 384) (n := 64) (m ((c : Thread nD τ).loc main_arg7)) t.val (y 1).val (y 2).val
  refine Eq.trans ?_ (at3_eq (α := EReal) (l := 4) (m := 384) (n := 64) _ (point_lt t) (y 1).isLt (y 2).isLt).symm
  blk_ext [iblk, V, idx t]
theorem blk11 (c : Dev nD) (t : Fin cfg0.N) : iblk m c 11 t = T3 (l := 1) (m := 384) (n := 1536) fun _ => (insM m c).DCQ t.val := by
  funext y
  show _ = at3 (α := EReal) (l := 4) (m := 384) (n := 1536) (m ((c : Thread nD τ).loc main_arg11)) t.val (y 1).val (y 2).val
  refine Eq.trans ?_ (at3_eq (α := EReal) (l := 4) (m := 384) (n := 1536) _ (point_lt t) (y 1).isLt (y 2).isLt).symm
  blk_ext [iblk, V, idx t]
theorem blk6 (c : Dev nD) (t : Fin cfg0.N) : iblk m c 6 t = T2 (m := 1) (n := 512) fun _ => (insM m c).GNL := by
  funext y
  show _ = at1 (α := EReal) (l := 512) (m ((c : Thread nD τ).loc main_arg4)) (y 1).val
  refine Eq.trans ?_ (at1_eq (α := EReal) (l := 512) _ (y 1).isLt).symm
  blk_simp [iblk, idx t]
  entry_read
  pointwise
  blk_ext [idx t]
theorem blk7 (c : Dev nD) (t : Fin cfg0.N) : iblk m c 7 t = T2 (m := 1) (n := 1536) fun _ => (insM m c).GNQ := by
  funext y
  show _ = at1 (α := EReal) (l := 1536) (m ((c : Thread nD τ).loc main_arg10)) (y 1).val
  refine Eq.trans ?_ (at1_eq (α := EReal) (l := 1536) _ (y 1).isLt).symm
  blk_simp [iblk, idx t]
  entry_read
  pointwise
  blk_ext [idx t]
theorem blk8 (c : Dev nD) (t : Fin cfg0.N) : iblk m c 8 t = T3 (l := 1) (m := 3) (n := 128) fun _ i j => (insM m c).POS t.val (128 * i + j) := by
  funext y
  show _ = at2 (α := BitVec 32) (l := 4) (m := 384) (m ((c : Thread nD τ).loc main_arg5)) t.val (128 * (y 1).val + (y 2).val)
  rw [at2_eq _ (point_lt t) (show 128 * (y 1).val + (y 2).val < 384 by have h1 : (y 1).val < 3 := (y 1).isLt; have h2 : (y 2).val < 128 := (y 2).isLt; omega)]
  blk_simp [iblk, idx t]
  entry_read
  pointwise
  blk_ext [idx t]

/-- The blocks the body finds at point `t` are the arguments' blocks. -/
theorem blocksAt (c : Dev nD) (t : Fin cfg0.N) : BlocksAt (insM m c) t.val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) :=
  ⟨blk0 m c t, blk1 m c t, blk2 m c t, blk3 m c t, blk4 m c t, blk5 m c t, blk6 m c t, blk7 m c t, blk8 m c t, blk9 m c t, blk10 m c t, blk11 m c t⟩

end Cert.KernelIdeal.Hand

end
-- ==== Proof.IdealValue.lean ====
/- The program's run at its values: what every grid point leaves in the outputs' buffers and in the scratch. -/
module

public import proofs.«01_k».proof.Proof.IdealValueA
public import proofs.«01_k».proof.Proof.IdealValueB
public import proofs.«01_k».proof.Proof.IdealBlocks
public import proofs.«01_k».proof.Proof.IdealFrameGeom
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The scratch after point `k`: the dequantised weights and point `k`'s gradient, the rest at some contents. -/
def scratchAt (c : Dev nD) (k : ℕ) : sProp 𝕄 :=
  iprop(iprop(owns (c : Thread nD τ) scM0_0 fullShare (T2 (wt (insM m c))) ∗ (∃ d, owns (c : Thread nD τ) scM0_1 fullShare d) ∗ (∃ d, owns (c : Thread nD τ) scM0_2 fullShare d) ∗ owns (c : Thread nD τ) scM0_3 fullShare (T2 (gg (insM m c) k)) ∗ (∃ d, owns (c : Thread nD τ) scM0_4 fullShare d) ∗ (∃ d, owns (c : Thread nD τ) scM0_5 fullShare d)) ∗ (∃ r, prngReg c r))

/-- What is carried between points: anything at first, then the scratch as the last point left it. -/
def carried (c : Dev nD) (k : ℕ) : sProp 𝕄 := match k with
  | 0 => Pipeline.ΦA spec0 c
  | k + 1 => scratchAt m c k

/-- The carried scratch, its contents forgotten. -/
theorem scratchAt_forget (c : Dev nD) (k : ℕ) : scratchAt m c k ⊢ Pipeline.ΦA spec0 c := by
  rw [PhiA0_eq]
  unfold scratchAt
  iintro ⟨⟨HS0, HS1, HS2, HS3, HS4, HS5⟩, Hg⟩
  isplitl [HS0 HS1 HS2 HS3 HS4 HS5]
  · isplitl [HS0]; · iexists _; iexact HS0
    isplitl [HS1]; · iexact HS1
    isplitl [HS2]; · iexact HS2
    isplitl [HS3]; · iexists _; iexact HS3
    isplitl [HS4]; · iexact HS4
    iexact HS5
  iexact Hg

/-- The proof data: each input's buffer at its block, each output's at what the body computes of it. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (T3 fun _ => dxv (insM m c) t.val : Vec Ideal S1x384x5120 .bf16)
    | ⟨13, _⟩ => (T3 fun _ => glp (insM m c) t.val : Vec Ideal S1x3x512 .f32)
    | ⟨14, _⟩ => (T3 fun _ => gqp (insM m c) t.val : Vec Ideal S1x3x1536 .f32)
    | ⟨15, _⟩ => (T3 fun _ => kvc (insM m c) t.val : Vec Ideal S1x384x576 .fp8e5m2)
    | ⟨16, _⟩ => (T3 fun _ => kvs (insM m c) t.val : Vec Ideal S1x384x5 .f32)
    | ⟨17, _⟩ => (T3 fun _ => qc (insM m c) t.val : Vec Ideal S1x384x1536 .fp8e5m2)
    | ⟨18, _⟩ => (T3 fun _ => qs (insM m c) t.val : Vec Ideal S1x384x12 .f32)
    | ⟨_ + 19, h⟩ => absurd h (Nat.not_lt.2 (Nat.le_add_left _ _))
  Φ t := carried m c t.val
  q _ := fullShare
  owed _ := 0

theorem AV_eq (c : Dev nD) (w : Fin cfg0.W) : (datsV m 0 c).A w = V m c (Pipeline.arrRef spec0 w) := by
  dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = iblk m c 4 t := by dsimp only [datsV]
theorem afterV_5 (c : Dev nD) (t : Fin cfg0.N) : (datsV m 0 c).after 5 t = iblk m c 5 t := by dsimp only [datsV]
theorem afterV_6 (c : Dev nD) (t : Fin cfg0.N) : (datsV m 0 c).after 6 t = iblk m c 6 t := by dsimp only [datsV]
theorem afterV_7 (c : Dev nD) (t : Fin cfg0.N) : (datsV m 0 c).after 7 t = iblk m c 7 t := by dsimp only [datsV]
theorem afterV_8 (c : Dev nD) (t : Fin cfg0.N) : (datsV m 0 c).after 8 t = iblk m c 8 t := by dsimp only [datsV]
theorem afterV_9 (c : Dev nD) (t : Fin cfg0.N) : (datsV m 0 c).after 9 t = iblk m c 9 t := by dsimp only [datsV]
theorem afterV_10 (c : Dev nD) (t : Fin cfg0.N) : (datsV m 0 c).after 10 t = iblk m c 10 t := by dsimp only [datsV]
theorem afterV_11 (c : Dev nD) (t : Fin cfg0.N) : (datsV m 0 c).after 11 t = iblk m c 11 t := by dsimp only [datsV]
theorem afterV_12 (c : Dev nD) (t : Fin cfg0.N) : (datsV m 0 c).after 12 t = (T3 fun _ => dxv (insM m c) t.val : Vec Ideal S1x384x5120 .bf16) := by dsimp only [datsV]
theorem afterV_13 (c : Dev nD) (t : Fin cfg0.N) : (datsV m 0 c).after 13 t = (T3 fun _ => glp (insM m c) t.val : Vec Ideal S1x3x512 .f32) := by dsimp only [datsV]
theorem afterV_14 (c : Dev nD) (t : Fin cfg0.N) : (datsV m 0 c).after 14 t = (T3 fun _ => gqp (insM m c) t.val : Vec Ideal S1x3x1536 .f32) := by dsimp only [datsV]
theorem afterV_15 (c : Dev nD) (t : Fin cfg0.N) : (datsV m 0 c).after 15 t = (T3 fun _ => kvc (insM m c) t.val : Vec Ideal S1x384x576 .fp8e5m2) := by dsimp only [datsV]
theorem afterV_16 (c : Dev nD) (t : Fin cfg0.N) : (datsV m 0 c).after 16 t = (T3 fun _ => kvs (insM m c) t.val : Vec Ideal S1x384x5 .f32) := by dsimp only [datsV]
theorem afterV_17 (c : Dev nD) (t : Fin cfg0.N) : (datsV m 0 c).after 17 t = (T3 fun _ => qc (insM m c) t.val : Vec Ideal S1x384x1536 .fp8e5m2) := by dsimp only [datsV]
theorem afterV_18 (c : Dev nD) (t : Fin cfg0.N) : (datsV m 0 c).after 18 t = (T3 fun _ => qs (insM m c) t.val : Vec Ideal S1x384x12 .f32) := by dsimp only [datsV]

/-! Each input's staging buffer holds its block at every point. -/

theorem beforeV_0 (c : Dev nD) (t : Fin cfg0.N) (d) : (datsV m 0 c).before 0 t d = iblk m c 0 t :=
  before0_0_of m (datsV m 0 c) (AV_eq m c 0) (afterV_0 m c) t d
theorem beforeV_1 (c : Dev nD) (t : Fin cfg0.N) (d) : (datsV m 0 c).before 1 t d = iblk m c 1 t :=
  before0_1_of m (datsV m 0 c) (AV_eq m c 1) (afterV_1 m c) t d
theorem beforeV_2 (c : Dev nD) (t : Fin cfg0.N) (d) : (datsV m 0 c).before 2 t d = iblk m c 2 t :=
  before0_2_of m (datsV m 0 c) (AV_eq m c 2) (afterV_2 m c) t d
theorem beforeV_3 (c : Dev nD) (t : Fin cfg0.N) (d) : (datsV m 0 c).before 3 t d = iblk m c 3 t :=
  before0_3_of m (datsV m 0 c) (AV_eq m c 3) (afterV_3 m c) t d
theorem beforeV_4 (c : Dev nD) (t : Fin cfg0.N) (d) : (datsV m 0 c).before 4 t d = iblk m c 4 t :=
  before0_4_of m (datsV m 0 c) (AV_eq m c 4) (afterV_4 m c) t d
theorem beforeV_5 (c : Dev nD) (t : Fin cfg0.N) (d) : (datsV m 0 c).before 5 t d = iblk m c 5 t :=
  before0_5_of m (datsV m 0 c) (AV_eq m c 5) (afterV_5 m c) t d
theorem beforeV_6 (c : Dev nD) (t : Fin cfg0.N) (d) : (datsV m 0 c).before 6 t d = iblk m c 6 t :=
  before0_6_of m (datsV m 0 c) (AV_eq m c 6) (afterV_6 m c) t d
theorem beforeV_7 (c : Dev nD) (t : Fin cfg0.N) (d) : (datsV m 0 c).before 7 t d = iblk m c 7 t :=
  before0_7_of m (datsV m 0 c) (AV_eq m c 7) (afterV_7 m c) t d
theorem beforeV_8 (c : Dev nD) (t : Fin cfg0.N) (d) : (datsV m 0 c).before 8 t d = iblk m c 8 t :=
  before0_8_of m (datsV m 0 c) (AV_eq m c 8) (afterV_8 m c) t d
theorem beforeV_9 (c : Dev nD) (t : Fin cfg0.N) (d) : (datsV m 0 c).before 9 t d = iblk m c 9 t :=
  before0_9_of m (datsV m 0 c) (AV_eq m c 9) (afterV_9 m c) t d
theorem beforeV_10 (c : Dev nD) (t : Fin cfg0.N) (d) : (datsV m 0 c).before 10 t d = iblk m c 10 t :=
  before0_10_of m (datsV m 0 c) (AV_eq m c 10) (afterV_10 m c) t d
theorem beforeV_11 (c : Dev nD) (t : Fin cfg0.N) (d) : (datsV m 0 c).before 11 t d = iblk m c 11 t :=
  before0_11_of m (datsV m 0 c) (AV_eq m c 11) (afterV_11 m c) t d

/-- What the body is called with at point `t`, -/
def preV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d))
    ∗ (∃ d, owns (c : Thread nD τ) (ms0_8 t) fullShare ((datsV m 0 c).before 8 t d))
    ∗ (∃ d, owns (c : Thread nD τ) (ms0_9 t) fullShare ((datsV m 0 c).before 9 t d))
    ∗ (∃ d, owns (c : Thread nD τ) (ms0_10 t) fullShare ((datsV m 0 c).before 10 t d))
    ∗ (∃ d, owns (c : Thread nD τ) (ms0_11 t) fullShare ((datsV m 0 c).before 11 t d))
    ∗ (∃ d, owns (c : Thread nD τ) (ms0_12 t) fullShare ((datsV m 0 c).before 12 t d))
    ∗ (∃ d, owns (c : Thread nD τ) (ms0_13 t) fullShare ((datsV m 0 c).before 13 t d))
    ∗ (∃ d, owns (c : Thread nD τ) (ms0_14 t) fullShare ((datsV m 0 c).before 14 t d))
    ∗ (∃ d, owns (c : Thread nD τ) (ms0_15 t) fullShare ((datsV m 0 c).before 15 t d))
    ∗ (∃ d, owns (c : Thread nD τ) (ms0_16 t) fullShare ((datsV m 0 c).before 16 t d))
    ∗ (∃ d, owns (c : Thread nD τ) (ms0_17 t) fullShare ((datsV m 0 c).before 17 t d))
    ∗ (∃ d, owns (c : Thread nD τ) (ms0_18 t) fullShare ((datsV m 0 c).before 18 t d)))

/-- and what it returns. -/
def postV (c : Dev nD) (t : Fin cfg0.N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t)
    ∗ owns (c : Thread nD τ) (ms0_5 t) fullShare ((datsV m 0 c).after 5 t)
    ∗ owns (c : Thread nD τ) (ms0_6 t) fullShare ((datsV m 0 c).after 6 t)
    ∗ owns (c : Thread nD τ) (ms0_7 t) fullShare ((datsV m 0 c).after 7 t)
    ∗ owns (c : Thread nD τ) (ms0_8 t) fullShare ((datsV m 0 c).after 8 t)
    ∗ owns (c : Thread nD τ) (ms0_9 t) fullShare ((datsV m 0 c).after 9 t)
    ∗ owns (c : Thread nD τ) (ms0_10 t) fullShare ((datsV m 0 c).after 10 t)
    ∗ owns (c : Thread nD τ) (ms0_11 t) fullShare ((datsV m 0 c).after 11 t)
    ∗ owns (c : Thread nD τ) (ms0_12 t) fullShare ((datsV m 0 c).after 12 t)
    ∗ owns (c : Thread nD τ) (ms0_13 t) fullShare ((datsV m 0 c).after 13 t)
    ∗ owns (c : Thread nD τ) (ms0_14 t) fullShare ((datsV m 0 c).after 14 t)
    ∗ owns (c : Thread nD τ) (ms0_15 t) fullShare ((datsV m 0 c).after 15 t)
    ∗ owns (c : Thread nD τ) (ms0_16 t) fullShare ((datsV m 0 c).after 16 t)
    ∗ owns (c : Thread nD τ) (ms0_17 t) fullShare ((datsV m 0 c).after 17 t)
    ∗ owns (c : Thread nD τ) (ms0_18 t) fullShare ((datsV m 0 c).after 18 t))

set_option maxHeartbeats 19200000 in
/-- The body at the first point, from any scratch. -/
theorem sound_first (c : Dev nD) (t : Fin cfg0.N) (h0 : t.val % 4 = 0) :
    preV m c t ⊢ wp frame (wpE (defs₀ (F := Ideal)) Variants.none c none) Set.univ (bodyAt0 t) (fun _ => postV m c t) := by
  unfold preV postV bodyAt0
  simp only [beforeV_0, beforeV_1, beforeV_2, beforeV_3, beforeV_4, beforeV_5, beforeV_6, beforeV_7, beforeV_8, beforeV_9, beforeV_10, beforeV_11]
  rw [show (datsV m 0 c).owesAt () t.succ = (datsV m 0 c).owesAt () t.castSucc from rfl,
    afterV_0, afterV_1, afterV_2, afterV_3, afterV_4, afterV_5, afterV_6, afterV_7, afterV_8, afterV_9, afterV_10, afterV_11, afterV_12, afterV_13, afterV_14, afterV_15, afterV_16, afterV_17, afterV_18]
  rw [show (datsV m 0 c).Φ t.succ = scratchAt m c t.val from rfl]
  rw [show (datsV m 0 c).Φ t.castSucc = Pipeline.ΦA spec0 c from (by
    have hk : t.castSucc.val = 0 := by have := point_lt t; show t.val = 0; omega
    show carried m c t.castSucc.val = _
    rw [hk]; rfl), PhiA0_eq]
  unfold scratchAt
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (valueA c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (insM m c) t.val (blocksAt m c t) ((hcond0_0 t).mpr h0) Set.univ _)
  unfold held heldV
  isplitl [H0 H1 H2 H3 H4 H5 H6 H7 H8 H9 H10 H11 H12 H13 H14 H15 H16 H17 H18 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexact HS0
    isplitl [HS1]; · iexact HS1
    isplitl [HS2]; · iexact HS2
    isplitl [HS3]; · iexact HS3
    isplitl [HS4]; · iexact HS4
    iexact HS5
  iintro ⟨H0, H1, H2, H3, H4, H5, H6, H7, H8, H9, H10, H11, H12, H13, H14, H15, H16, H17, H18, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

set_option maxHeartbeats 19200000 in
/-- The body at a later point, from what the point before left. -/
theorem sound_later (c : Dev nD) (t : Fin cfg0.N) (h0 : ¬ t.val % 4 = 0) :
    preV m c t ⊢ wp frame (wpE (defs₀ (F := Ideal)) Variants.none c none) Set.univ (bodyAt0 t) (fun _ => postV m c t) := by
  obtain ⟨k, hk⟩ : ∃ k, t.castSucc.val = k + 1 := ⟨t.val - 1, by show t.val = _; omega⟩
  unfold preV postV bodyAt0
  simp only [beforeV_0, beforeV_1, beforeV_2, beforeV_3, beforeV_4, beforeV_5, beforeV_6, beforeV_7, beforeV_8, beforeV_9, beforeV_10, beforeV_11]
  rw [show (datsV m 0 c).owesAt () t.succ = (datsV m 0 c).owesAt () t.castSucc from rfl,
    afterV_0, afterV_1, afterV_2, afterV_3, afterV_4, afterV_5, afterV_6, afterV_7, afterV_8, afterV_9, afterV_10, afterV_11, afterV_12, afterV_13, afterV_14, afterV_15, afterV_16, afterV_17, afterV_18]
  rw [show (datsV m 0 c).Φ t.succ = scratchAt m c t.val from rfl]
  rw [show (datsV m 0 c).Φ t.castSucc = scratchAt m c k from (by
    show carried m c t.castSucc.val = _
    rw [hk]; rfl)]
  unfold scratchAt
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (valueB c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (insM m c) t.val k (blocksAt m c t) (fun h => h0 ((hcond0_0 t).mp h)) Set.univ _)
  unfold heldC heldV
  isplitl [H0 H1 H2 H3 H4 H5 H6 H7 H8 H9 H10 H11 H12 H13 H14 H15 H16 H17 H18 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexact HS0
    isplitl [HS1]; · iexact HS1
    isplitl [HS2]; · iexact HS2
    isplitl [HS3]; · iexact HS3
    isplitl [HS4]; · iexact HS4
    iexact HS5
  iintro ⟨H0, H1, H2, H3, H4, H5, H6, H7, H8, H9, H10, H11, H12, H13, H14, H15, H16, H17, H18, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem rowV (t : Fin cfg0.N) : defs₀ (F := Ideal) .tc cfg0.body (cfg0.bodyArgs t (cfg0.slots t)) = bodyAt0 t := by
  unfold defs₀; rw [Defs.onTc_tc]

/-- The body's obligation, at every point. -/
theorem obligationV (c : Dev nD) : BodyObligation (datsV m 0 c) (defs₀ (F := Ideal)) Variants.none () Set.univ := fun t => by
  rw [bigSep_W0, bigSep_W0, rowV]
  refine triple_restated (?_ : preV m c t ⊢ wp frame (wpE (defs₀ (F := Ideal)) Variants.none c none) Set.univ (bodyAt0 t) (fun _ => postV m c t)) rfl .rfl fun _ => .rfl
  by_cases h0 : t.val % 4 = 0
  · exact sound_first m c t h0
  · exact sound_later m c t h0

set_option backward.isDefEq.respectTransparency.types false in
/-- The run: every array ends at what the proof data say. -/
theorem runV : θ_run defs (onTc (τ := τ) (main (F := Ideal))) (s₀ m ρ) (Pipeline.FramePost cfgs (datsV m) 0 (V m)) :=
  Pipeline.θ_run_frame_track cfgs (datsV m) (0 : Fin 1) launch0 defs₀ Variants.none m ρ main
    (hbody := fun c => (obligationV m c).loose) (hshare := fun c => (datsV m 0 c).share_full fun _ => rfl)
    (howed := fun _ _ => rfl) (V := V m) (hmain := hmain m Variants.none) (hA := AV_eq m) (hin := fun _ => .rfl)
    (hout := fun c => scratchAt_forget m c 3)

end Cert.KernelIdeal.Hand

end
-- ==== Proof.IdealResults.lean ====
/- The result arrays after the run, in terms of the arguments. -/
module

public import proofs.«01_k».proof.Proof.IdealValue
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (ρ : Dev nD → PrngReg)

/-- A block of one plane, read in the array. -/
theorem T3_block {l l' p q p' q' : ℕ} (f : ℕ → ℕ → ℕ → EReal) (t : ℕ) (y : (⟨3, ![l', p', q']⟩ : Shape).Idx) (z : (⟨3, ![l, p, q]⟩ : Shape).Idx)
    (h0 : (z 0).val = t) (h1 : (z 1).val = (y 1).val) (h2 : (z 2).val = (y 2).val) : T3 (fun _ => f t) y = T3 f z := by
  unfold T3
  rw [h0, h1, h2]

/-! Every output array after the run: each point's block sits at the point's own place. -/

theorem final12 (c : Dev nD) : (datsV m 0 c).arrAt 12 (cfgs 0).N = (T3 (dxv (insM m c)) : Vec Ideal S4x384x5120 .bf16) := by
  refine (datsV m 0 c).arrAt_eq_of_covers 12 _ (by decide +kernel) fun t _ y => ?_
  blk_simp
  rw [afterV_12]
  have h0 : ((win0_12.blk t).view.emb y 0 : ℕ) = t.val := by
    have hy : (y 0).val < 1 := (y 0).isLt
    blk_simp [idx t]
  have h1 : ((win0_12.blk t).view.emb y 1 : ℕ) = (y 1).val := by blk_simp [idx t]
  have h2 : ((win0_12.blk t).view.emb y 2 : ℕ) = (y 2).val := by blk_simp [idx t]
  exact T3_block (dxv (insM m c)) t.val _ _ h0 h1 h2

theorem final13 (c : Dev nD) : (datsV m 0 c).arrAt 13 (cfgs 0).N = (T3 (glp (insM m c)) : Vec Ideal S4x3x512 .f32) := by
  refine (datsV m 0 c).arrAt_eq_of_covers 13 _ (by decide +kernel) fun t _ y => ?_
  blk_simp
  rw [afterV_13]
  have h0 : ((win0_13.blk t).view.emb y 0 : ℕ) = t.val := by
    have hy : (y 0).val < 1 := (y 0).isLt
    blk_simp [idx t]
  have h1 : ((win0_13.blk t).view.emb y 1 : ℕ) = (y 1).val := by blk_simp [idx t]
  have h2 : ((win0_13.blk t).view.emb y 2 : ℕ) = (y 2).val := by blk_simp [idx t]
  exact T3_block (glp (insM m c)) t.val _ _ h0 h1 h2

theorem final14 (c : Dev nD) : (datsV m 0 c).arrAt 14 (cfgs 0).N = (T3 (gqp (insM m c)) : Vec Ideal S4x3x1536 .f32) := by
  refine (datsV m 0 c).arrAt_eq_of_covers 14 _ (by decide +kernel) fun t _ y => ?_
  blk_simp
  rw [afterV_14]
  have h0 : ((win0_14.blk t).view.emb y 0 : ℕ) = t.val := by
    have hy : (y 0).val < 1 := (y 0).isLt
    blk_simp [idx t]
  have h1 : ((win0_14.blk t).view.emb y 1 : ℕ) = (y 1).val := by blk_simp [idx t]
  have h2 : ((win0_14.blk t).view.emb y 2 : ℕ) = (y 2).val := by blk_simp [idx t]
  exact T3_block (gqp (insM m c)) t.val _ _ h0 h1 h2

theorem final15 (c : Dev nD) : (datsV m 0 c).arrAt 15 (cfgs 0).N = (T3 (kvc (insM m c)) : Vec Ideal S4x384x576 .fp8e5m2) := by
  refine (datsV m 0 c).arrAt_eq_of_covers 15 _ (by decide +kernel) fun t _ y => ?_
  blk_simp
  rw [afterV_15]
  have h0 : ((win0_15.blk t).view.emb y 0 : ℕ) = t.val := by
    have hy : (y 0).val < 1 := (y 0).isLt
    blk_simp [idx t]
  have h1 : ((win0_15.blk t).view.emb y 1 : ℕ) = (y 1).val := by blk_simp [idx t]
  have h2 : ((win0_15.blk t).view.emb y 2 : ℕ) = (y 2).val := by blk_simp [idx t]
  exact T3_block (kvc (insM m c)) t.val _ _ h0 h1 h2

theorem final16 (c : Dev nD) : (datsV m 0 c).arrAt 16 (cfgs 0).N = (T3 (kvs (insM m c)) : Vec Ideal S4x384x5 .f32) := by
  refine (datsV m 0 c).arrAt_eq_of_covers 16 _ (by decide +kernel) fun t _ y => ?_
  blk_simp
  rw [afterV_16]
  have h0 : ((win0_16.blk t).view.emb y 0 : ℕ) = t.val := by
    have hy : (y 0).val < 1 := (y 0).isLt
    blk_simp [idx t]
  have h1 : ((win0_16.blk t).view.emb y 1 : ℕ) = (y 1).val := by blk_simp [idx t]
  have h2 : ((win0_16.blk t).view.emb y 2 : ℕ) = (y 2).val := by blk_simp [idx t]
  exact T3_block (kvs (insM m c)) t.val _ _ h0 h1 h2

theorem final17 (c : Dev nD) : (datsV m 0 c).arrAt 17 (cfgs 0).N = (T3 (qc (insM m c)) : Vec Ideal S4x384x1536 .fp8e5m2) := by
  refine (datsV m 0 c).arrAt_eq_of_covers 17 _ (by decide +kernel) fun t _ y => ?_
  blk_simp
  rw [afterV_17]
  have h0 : ((win0_17.blk t).view.emb y 0 : ℕ) = t.val := by
    have hy : (y 0).val < 1 := (y 0).isLt
    blk_simp [idx t]
  have h1 : ((win0_17.blk t).view.emb y 1 : ℕ) = (y 1).val := by blk_simp [idx t]
  have h2 : ((win0_17.blk t).view.emb y 2 : ℕ) = (y 2).val := by blk_simp [idx t]
  exact T3_block (qc (insM m c)) t.val _ _ h0 h1 h2

theorem final18 (c : Dev nD) : (datsV m 0 c).arrAt 18 (cfgs 0).N = (T3 (qs (insM m c)) : Vec Ideal S4x384x12 .f32) := by
  refine (datsV m 0 c).arrAt_eq_of_covers 18 _ (by decide +kernel) fun t _ y => ?_
  rw [afterV_18, cast_eq]
  generalize qs (insM m c) = f
  have h0 : ((win0_18.blk t).view.emb y 0 : ℕ) = t.val := by
    have hy : (y 0).val < 1 := (y 0).isLt
    blk_simp [idx t]
  have h1 : ((win0_18.blk t).view.emb y 1 : ℕ) = (y 1).val := by blk_simp [idx t]
  have h2 : ((win0_18.blk t).view.emb y 2 : ℕ) = (y 2).val := by blk_simp [idx t]
  exact T3_block f t.val _ _ h0 h1 h2

theorem post12 (r : PUnit × MemSt nD τ sig (Elt Ideal)) (h : Pipeline.FramePost cfgs (datsV m) 0 (V m) r) (c : Dev nD) :
    r.2.mem ((c.tc : Thread nD τ).loc main_v3_0) = (T3 (dxv (insM m c)) : Vec Ideal S4x384x5120 .bf16) :=
  ((h c).1 12).trans (final12 m c)
theorem post13 (r : PUnit × MemSt nD τ sig (Elt Ideal)) (h : Pipeline.FramePost cfgs (datsV m) 0 (V m) r) (c : Dev nD) :
    r.2.mem ((c.tc : Thread nD τ).loc main_v3_1) = (T3 (glp (insM m c)) : Vec Ideal S4x3x512 .f32) :=
  ((h c).1 13).trans (final13 m c)
theorem post14 (r : PUnit × MemSt nD τ sig (Elt Ideal)) (h : Pipeline.FramePost cfgs (datsV m) 0 (V m) r) (c : Dev nD) :
    r.2.mem ((c.tc : Thread nD τ).loc main_v3_2) = (T3 (gqp (insM m c)) : Vec Ideal S4x3x1536 .f32) :=
  ((h c).1 14).trans (final14 m c)
theorem post15 (r : PUnit × MemSt nD τ sig (Elt Ideal)) (h : Pipeline.FramePost cfgs (datsV m) 0 (V m) r) (c : Dev nD) :
    r.2.mem ((c.tc : Thread nD τ).loc main_v3_3) = (T3 (kvc (insM m c)) : Vec Ideal S4x384x576 .fp8e5m2) :=
  ((h c).1 15).trans (final15 m c)
theorem post16 (r : PUnit × MemSt nD τ sig (Elt Ideal)) (h : Pipeline.FramePost cfgs (datsV m) 0 (V m) r) (c : Dev nD) :
    r.2.mem ((c.tc : Thread nD τ).loc main_v3_4) = (T3 (kvs (insM m c)) : Vec Ideal S4x384x5 .f32) :=
  ((h c).1 16).trans (final16 m c)
theorem post17 (r : PUnit × MemSt nD τ sig (Elt Ideal)) (h : Pipeline.FramePost cfgs (datsV m) 0 (V m) r) (c : Dev nD) :
    r.2.mem ((c.tc : Thread nD τ).loc main_v3_5) = (T3 (qc (insM m c)) : Vec Ideal S4x384x1536 .fp8e5m2) :=
  ((h c).1 17).trans (final17 m c)
theorem post18 (r : PUnit × MemSt nD τ sig (Elt Ideal)) (h : Pipeline.FramePost cfgs (datsV m) 0 (V m) r) (c : Dev nD) :
    r.2.mem ((c.tc : Thread nD τ).loc main_v3_6) = (T3 (qs (insM m c)) : Vec Ideal S4x384x12 .f32) :=
  ((h c).1 18).trans (final18 m c)

/-- The run, read: the results are these functions of the arguments, -/
theorem run_results : θ_run defs (onTc (τ := τ) (main (F := Ideal))) ⟨m, fun _ => 0, ρ⟩ (fun r => ∀ c : Dev nD,
      r.2.mem ((c.tc : Thread nD τ).loc main_v3_0) = (T3 (dxv (insM m c)) : Vec Ideal S4x384x5120 .bf16)
      ∧ r.2.mem ((c.tc : Thread nD τ).loc main_v3_1) = (T3 (glp (insM m c)) : Vec Ideal S4x3x512 .f32)
      ∧ r.2.mem ((c.tc : Thread nD τ).loc main_v3_2) = (T3 (gqp (insM m c)) : Vec Ideal S4x3x1536 .f32)
      ∧ r.2.mem ((c.tc : Thread nD τ).loc main_v3_3) = (T3 (kvc (insM m c)) : Vec Ideal S4x384x576 .fp8e5m2)
      ∧ r.2.mem ((c.tc : Thread nD τ).loc main_v3_4) = (T3 (kvs (insM m c)) : Vec Ideal S4x384x5 .f32)
      ∧ r.2.mem ((c.tc : Thread nD τ).loc main_v3_5) = (T3 (qc (insM m c)) : Vec Ideal S4x384x1536 .fp8e5m2)
      ∧ r.2.mem ((c.tc : Thread nD τ).loc main_v3_6) = (T3 (qs (insM m c)) : Vec Ideal S4x384x12 .f32)) :=
  (θ_run defs _ _).mono (fun r h c => ⟨post12 m r h c, post13 m r h c, post14 m r h c, post15 m r h c, post16 m r h c, post17 m r h c, post18 m r h c⟩) (runV m ρ)

/-- and the arguments are unchanged. -/
theorem run_values : θ_run defs (onTc (τ := τ) (main (F := Ideal))) ⟨m, fun _ => 0, ρ⟩ (fun r => ∀ c : Dev nD,
      r.2.mem ((c.tc : Thread nD τ).loc main_v3_0) = (T3 (dxv (insM m c)) : Vec Ideal S4x384x5120 .bf16)
      ∧ r.2.mem ((c.tc : Thread nD τ).loc main_v3_1) = (T3 (glp (insM m c)) : Vec Ideal S4x3x512 .f32)
      ∧ r.2.mem ((c.tc : Thread nD τ).loc main_v3_2) = (T3 (gqp (insM m c)) : Vec Ideal S4x3x1536 .f32)
      ∧ r.2.mem ((c.tc : Thread nD τ).loc main_v3_3) = (T3 (kvc (insM m c)) : Vec Ideal S4x384x576 .fp8e5m2)
      ∧ r.2.mem ((c.tc : Thread nD τ).loc main_v3_4) = (T3 (kvs (insM m c)) : Vec Ideal S4x384x5 .f32)
      ∧ r.2.mem ((c.tc : Thread nD τ).loc main_v3_5) = (T3 (qc (insM m c)) : Vec Ideal S4x384x1536 .fp8e5m2)
      ∧ r.2.mem ((c.tc : Thread nD τ).loc main_v3_6) = (T3 (qs (insM m c)) : Vec Ideal S4x384x12 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨h0, h1, h2, h3, h4, h5, h6⟩ := h.1 c
    exact ⟨h0, h1, h2, h3, h4, h5, h6, h.2 c⟩) (θ_run_and (run_results m ρ) (frame_of m ρ (datsV m) (AV_eq m) (runV m ρ)))

end Cert.KernelIdeal.Hand

end
-- ==== Proof.RefLinear.lean ====
/- The reference's two forward projections. -/
module

public import proofs.«01_k».proof.Proof.Gen.ReferenceIdeal.Value
public import proofs.«01_k».proof.Proof.IdealSpec

@[expose] public section

set_option maxRecDepth 16384

noncomputable section

namespace Cert.ReferenceIdeal.Hand

open Idealize.ShloMosaic Idealize.ShloMosaic.TcCoe Cert.ReferenceIdeal Cert.ReferenceIdeal.Gen
open Cert.KernelIdeal.Hand (T2 T3 T3_ix Ins expo scaleWord_eq invWord_eq scaleOf codeOf level amax xw wt cc eps rstd mean normBack k512 k1536 rstdL rstdQ dL dQ dR freq freqWords angle levelL levelQ levelR kvc kvs qc qs gg dxv gpL gpQ glp gqp theta expWord countB)

/-! The dequantised weights and activations, at an element. -/

theorem pay5_at (v0 v4) (o : Fin 512) (d : Fin 5120) :
    k0_pay5 (F := Ideal) v0 v4 (ix2 o d) = v4 (ix2 o d) * v0 (ix2 ⟨o.val / 128, by omega⟩ ⟨d.val / 128, by omega⟩) := by
  pointwise [k0_pay5, k0_pay4]
theorem pay6_at (v0 v2) (o : Fin 64) (d : Fin 5120) :
    k0_pay6 (F := Ideal) v0 v2 (ix2 o d) = v2 (ix2 o d) * v0 (ix2 4 ⟨d.val / 128, by omega⟩) := by
  pointwise [k0_pay6, k0_pay4]
theorem pay7_at (v0 v2) (o : Fin 1536) (d : Fin 5120) :
    k0_pay7 (F := Ideal) v0 v2 (ix2 o d) = v2 (ix2 o d) * v0 (ix2 ⟨o.val / 128, by omega⟩ ⟨d.val / 128, by omega⟩) := by
  pointwise [k0_pay7]
theorem pay8_at (v27 v29) (b : Fin 4) (s : Fin 384) (d : Fin 5120) :
    k0_pay8 (F := Ideal) v27 v29 (ix3 b s d) = v27 (ix3 b s d) * v29 (ix3 b s ⟨d.val / 128, by omega⟩) := by
  pointwise [k0_pay8]
theorem pay9_at (v0 v4 v27 v29) (b : Fin 4) (s : Fin 384) (o : Fin 512) :
    k0_pay9 (F := Ideal) v0 v4 v27 v29 (ix3 b s o) = ∑ k : Fin 5120, k0_pay8 v27 v29 (ix3 b s k) * k0_pay5 v0 v4 (ix2 o k) := by
  pointwise [k0_pay9]
theorem pay10_at (v0 v2 v4 v18) (r : Fin 1536) (o : Fin 1536) :
    k0_pay10 (F := Ideal) v0 v2 v4 v18 (ix2 r o)
      = ∑ k : Fin 5120, k0_pay8 v4 v18 (ix3 ⟨r.val / 384, by omega⟩ ⟨r.val % 384, by omega⟩ k) * k0_pay7 v0 v2 (ix2 o k) := by
  pointwise [k0_pay10]

/-! The same, as the numbers the specification names. -/

section Spec
variable (I : Ins)

theorem pay5_wt (v0 v4) (h0 : ∀ (r : Fin 5) (q : Fin 40), v0 (ix2 r q) = I.WKS r q) (h4 : ∀ (o : Fin 512) (d : Fin 5120), v4 (ix2 o d) = I.WK o d)
    (o : Fin 512) (d : Fin 5120) : k0_pay5 (F := Ideal) v0 v4 (ix2 o d) = wt I o d := by
  rw [pay5_at, h4, h0, wt, if_pos o.isLt]
theorem pay6_wt (v0 v2) (h0 : ∀ (r : Fin 5) (q : Fin 40), v0 (ix2 r q) = I.WKS r q) (h2 : ∀ (o : Fin 64) (d : Fin 5120), v2 (ix2 o d) = I.WK (512 + o) d)
    (o : Fin 64) (d : Fin 5120) : k0_pay6 (F := Ideal) v0 v2 (ix2 o d) = wt I (2048 + o) d := by
  have ho := o.isLt
  rw [pay6_at, h2, h0, wt, if_neg (by omega), if_neg (by omega), if_pos (by omega), show 2048 + o.val - 1536 = 512 + o.val by omega]
  rfl
theorem pay7_wt (v0 v2) (h0 : ∀ (r : Fin 12) (q : Fin 40), v0 (ix2 r q) = I.WQS r q) (h2 : ∀ (o : Fin 1536) (d : Fin 5120), v2 (ix2 o d) = I.WQ o d)
    (o : Fin 1536) (d : Fin 5120) : k0_pay7 (F := Ideal) v0 v2 (ix2 o d) = wt I (512 + o) d := by
  have ho := o.isLt
  rw [pay7_at, h2, h0, wt, if_neg (by omega), if_pos (by omega), show 512 + o.val - 512 = o.val by omega]
theorem pay8_xw (v27 v29) (h27 : ∀ (b : Fin 4) (s : Fin 384) (d : Fin 5120), v27 (ix3 b s d) = I.X b s d)
    (h29 : ∀ (b : Fin 4) (s : Fin 384) (q : Fin 40), v29 (ix3 b s q) = I.XS b s q)
    (b : Fin 4) (s : Fin 384) (d : Fin 5120) : k0_pay8 (F := Ideal) v27 v29 (ix3 b s d) = xw I b s d := by
  rw [pay8_at, h27, h29, xw]

theorem pay9_cc (v0 v4 v27 v29) (h0 : ∀ (r : Fin 5) (q : Fin 40), v0 (ix2 r q) = I.WKS r q) (h4 : ∀ (o : Fin 512) (d : Fin 5120), v4 (ix2 o d) = I.WK o d)
    (h27 : ∀ (b : Fin 4) (s : Fin 384) (d : Fin 5120), v27 (ix3 b s d) = I.X b s d)
    (h29 : ∀ (b : Fin 4) (s : Fin 384) (q : Fin 40), v29 (ix3 b s q) = I.XS b s q)
    (b : Fin 4) (s : Fin 384) (o : Fin 512) : k0_pay9 (F := Ideal) v0 v4 v27 v29 (ix3 b s o) = cc I b s o := by
  rw [pay9_at, cc]
  refine Finset.sum_congr rfl fun k _ => ?_
  rw [pay8_xw I _ _ h27 h29, pay5_wt I _ _ h0 h4]

theorem pay10_cc (v0 v2 v4 v18) (h0 : ∀ (r : Fin 12) (q : Fin 40), v0 (ix2 r q) = I.WQS r q) (h2 : ∀ (o : Fin 1536) (d : Fin 5120), v2 (ix2 o d) = I.WQ o d)
    (h4 : ∀ (b : Fin 4) (s : Fin 384) (d : Fin 5120), v4 (ix3 b s d) = I.X b s d)
    (h18 : ∀ (b : Fin 4) (s : Fin 384) (q : Fin 40), v18 (ix3 b s q) = I.XS b s q)
    (r : Fin 1536) (o : Fin 1536) : k0_pay10 (F := Ideal) v0 v2 v4 v18 (ix2 r o) = cc I (r.val / 384) (r.val % 384) (512 + o) := by
  rw [pay10_at, cc]
  refine Finset.sum_congr rfl fun k _ => ?_
  rw [pay8_xw I _ _ h4 h18, pay7_wt I _ _ h0 h2]
end Spec

end Cert.ReferenceIdeal.Hand

end
-- ==== Proof.RefNorm.lean ====
/- The backward of the reference's two norms, and the gradients of their gains. -/
module

public import proofs.«01_k».proof.Proof.Gen.ReferenceIdeal.Value
public import proofs.«01_k».proof.Proof.IdealSpec

@[expose] public section

set_option maxRecDepth 16384

noncomputable section

namespace Cert.ReferenceIdeal.Hand

open Idealize.ShloMosaic Idealize.ShloMosaic.TcCoe Cert.ReferenceIdeal Cert.ReferenceIdeal.Gen
open Cert.KernelIdeal.Hand (T2 T3 T3_ix Ins expo scaleWord_eq invWord_eq scaleOf codeOf level amax xw wt cc eps rstd mean normBack k512 k1536 rstdL rstdQ dL dQ dR freq freqWords angle levelL levelQ levelR kvc kvs qc qs gg dxv gpL gpQ glp gqp theta expWord countB)

/-- A positive normal float's word, by its exponent field and fraction. -/
theorem word_real (x : BitVec 32) (e f : ℕ) (he : e ≠ 0 ∧ e ≠ 255) (h : (x.extractLsb' 31 1 == 1#1) = false ∧ (x.extractLsb' 23 8).toNat = e ∧ (x.extractLsb' 0 23).toNat = f) :
    Ideal.ofBits .f32 x = ((((2 ^ 23 + f : ℕ) : ℝ) * (2 : ℝ) ^ ((e : ℤ) - 127 - 23) : ℝ) : EReal) := by
  obtain ⟨h1, h2, h3⟩ := h
  show Ideal.ieee 8 23 x = _
  unfold Ideal.ieee
  simp only [Nat.reduceAdd, h1, h2, h3]
  have e255 : (2 ^ 8 - 1 : ℕ) = 255 := by norm_num
  simp only [e255]
  rw [if_neg he.2, if_neg he.1]
  congr 1
  norm_num

/-- Dividing by the number of columns is multiplying by its inverse. -/
theorem div512 (x : EReal) : Ideal.div x (Ideal.ofBits .f32 0x44000000#32) = x * k512 := by
  have h1 : Ideal.ofBits .f32 0x44000000#32 = ((512 : ℝ) : EReal) := by
    rw [word_real 0x44000000#32 136 0 (by decide) (by decide)]; norm_num
  have h2 : k512 = (((512 : ℝ)⁻¹ : ℝ) : EReal) := by
    unfold k512
    rw [word_real 989855744#32 118 0 (by decide) (by decide)]; norm_num
  rw [h1, h2, Ideal.div_coe (by norm_num : (512 : ℝ) ≠ 0)]
  norm_num
theorem div1536 (x : EReal) : Ideal.div x (Ideal.ofBits .f32 1153433600#32) = x * k1536 := by
  have h1 : Ideal.ofBits .f32 1153433600#32 = ((1536 : ℝ) : EReal) := by
    rw [word_real 1153433600#32 137 4194304 (by decide) (by decide)]; norm_num
  rw [h1, Ideal.div_coe (by norm_num : (1536 : ℝ) ≠ 0)]
  unfold k1536
  norm_num

/-! The latent norm, at an element. -/

theorem pay13_at (v39) (b : Fin 4) (s : Fin 384) (z : Fin 1) :
    k0_pay13 (F := Ideal) v39 (ix3 b s z) = Ideal.rsqrt (Ideal.div (∑ k : Fin 512, v39 (ix3 b s k) * v39 (ix3 b s k)) (Ideal.ofBits .f32 0x44000000#32) + Ideal.ofBits .f32 0x358637BD#32) := by
  pointwise [k0_pay13, k0_pay11]
theorem pay14_at (v39 v44) (b : Fin 4) (r : Fin 3) (o : Fin 512) :
    k0_pay14 (F := Ideal) v39 v44 (ix3 b r o)
      = ∑ x : Fin 128, v44 (ix3 b ⟨r.val * 128 + x.val, by omega⟩ o) * v39 (ix3 b ⟨r.val * 128 + x.val, by omega⟩ o) * k0_pay13 v39 (ix3 b ⟨r.val * 128 + x.val, by omega⟩ 0) := by
  pointwise [k0_pay14, k0_pay11, k0_pay12]
theorem pay15_at (v39 v44 v45) (b : Fin 4) (s : Fin 384) (o : Fin 512) :
    k0_pay15 (F := Ideal) v39 v44 v45 (ix3 b s o)
      = k0_pay13 v39 (ix3 b s 0) * (v44 (ix3 b s o) * v45 (ix1 o) - v39 (ix3 b s o) * (k0_pay13 v39 (ix3 b s 0) * k0_pay13 v39 (ix3 b s 0))
        * Ideal.div (∑ k : Fin 512, v44 (ix3 b s k) * v45 (ix1 k) * v39 (ix3 b s k)) (Ideal.ofBits .f32 0x44000000#32)) := by
  pointwise [k0_pay15, k0_pay11, k0_pay12]

/-! The query norm, at an element. -/

theorem pay16_at (v0) (b : Fin 4) (s : Fin 384) (o : Fin 1536) : k0_pay16 (F := Ideal) v0 (ix3 b s o) = v0 (ix2 ⟨b.val * 384 + s.val, by omega⟩ o) := by
  pointwise [k0_pay16]
theorem pay17_at (v0) (b : Fin 4) (s : Fin 384) (o : Fin 1536) : k0_pay17 (F := Ideal) v0 (ix3 b s o) = v0 (ix3 b s o) := by
  pointwise [k0_pay17]
theorem pay18_at (v0) (b : Fin 4) (s : Fin 384) (o : Fin 1536) : k0_pay18 (F := Ideal) v0 (ix3 b s o) = k0_pay16 v0 (ix3 b s o) * k0_pay16 v0 (ix3 b s o) := by
  pointwise [k0_pay18]
theorem pay19_at (v0) (b : Fin 4) (s : Fin 384) (z : Fin 1) :
    k0_pay19 (F := Ideal) v0 (ix3 b s z) = Ideal.rsqrt (Ideal.div (∑ x : Fin 1536, v0 (ix3 b s x)) (Ideal.ofBits .f32 1153433600#32) + Ideal.ofBits .f32 897988541#32) := by
  pointwise [k0_pay19]
theorem pay20_at (v0 v1 v2) (b : Fin 4) (r : Fin 3) (o : Fin 1536) :
    k0_pay20 (F := Ideal) v0 v1 v2 (ix3 b r o)
      = ∑ x : Fin 128, v1 (ix3 b ⟨r.val * 128 + x.val, by omega⟩ o) * v0 (ix3 b ⟨r.val * 128 + x.val, by omega⟩ o) * k0_pay19 v2 (ix3 b ⟨r.val * 128 + x.val, by omega⟩ 0) := by
  pointwise [k0_pay20]
theorem pay21_at (v0 v1 v2 v3) (b : Fin 4) (s : Fin 384) (o : Fin 1536) :
    k0_pay21 (F := Ideal) v0 v1 v2 v3 (ix3 b s o)
      = k0_pay19 v3 (ix3 b s 0) * (v2 (ix3 b s o) * v0 (ix1 o) - v1 (ix3 b s o) * (k0_pay19 v3 (ix3 b s 0) * k0_pay19 v3 (ix3 b s 0))
        * Ideal.div (∑ x : Fin 1536, v2 (ix3 b s x) * v0 (ix1 x) * v1 (ix3 b s x)) (Ideal.ofBits .f32 1153433600#32)) := by
  pointwise [k0_pay21]

/-! The same, as the numbers the specification names. -/

section Spec
variable (I : Ins)

section Latent
variable (v39 : Vec Ideal S4x384x512 .bf16) (h39 : ∀ (b : Fin 4) (s : Fin 384) (o : Fin 512), v39 (ix3 b s o) = cc I b s o)
include h39
theorem pay13_rstd (b : Fin 4) (s : Fin 384) (z : Fin 1) : k0_pay13 (F := Ideal) v39 (ix3 b s z) = rstdL I b s := by
  rw [pay13_at, div512, rstdL, rstd]
  simp only [h39]
  rfl
theorem pay14_glp (v44) (h44 : ∀ (b : Fin 4) (s : Fin 384) (o : Fin 512), v44 (ix3 b s o) = I.DC b s o)
    (b : Fin 4) (r : Fin 3) (o : Fin 512) : k0_pay14 (F := Ideal) v39 v44 (ix3 b r o) = glp I b r o := by
  rw [pay14_at, glp]
  refine Finset.sum_congr rfl fun x _ => ?_
  rw [pay13_rstd I v39 h39, h39, h44, gpL, Nat.mul_comm 128 r.val]
theorem pay15_dL (v44 v45) (h44 : ∀ (b : Fin 4) (s : Fin 384) (o : Fin 512), v44 (ix3 b s o) = I.DC b s o) (h45 : ∀ o : Fin 512, v45 (ix1 o) = I.GNL o)
    (b : Fin 4) (s : Fin 384) (o : Fin 512) : k0_pay15 (F := Ideal) v39 v44 v45 (ix3 b s o) = dL I b s o := by
  rw [pay15_at, div512, pay13_rstd I v39 h39, dL, normBack, mean]
  simp only [h39, h44, h45]
  rw [mul_assoc (cc I b s o)]
end Latent

section Query
variable (v0 : Vec Ideal S1536x1536 .bf16) (h0 : ∀ (r o : Fin 1536), v0 (ix2 r o) = cc I (r.val / 384) (r.val % 384) (512 + o))
include h0
theorem pay16_cc (b : Fin 4) (s : Fin 384) (o : Fin 1536) : k0_pay16 (F := Ideal) v0 (ix3 b s o) = cc I b s (512 + o) := by
  have hs := s.isLt
  rw [pay16_at, h0]
  show cc I ((b.val * 384 + s.val) / 384) ((b.val * 384 + s.val) % 384) (512 + o.val) = _
  rw [show (b.val * 384 + s.val) / 384 = b.val by omega, show (b.val * 384 + s.val) % 384 = s.val by omega]
theorem pay19_rstd (b : Fin 4) (s : Fin 384) (z : Fin 1) : k0_pay19 (F := Ideal) (k0_pay18 v0) (ix3 b s z) = rstdQ I b s := by
  rw [pay19_at, div1536, rstdQ, rstd]
  simp only [pay18_at, pay16_cc I v0 h0]
  rfl
theorem pay20_gqp (v11) (h11 : ∀ (b : Fin 4) (s : Fin 384) (o : Fin 1536), v11 (ix3 b s o) = I.DCQ b s o)
    (b : Fin 4) (r : Fin 3) (o : Fin 1536) : k0_pay20 (F := Ideal) (k0_pay16 v0) (k0_pay17 v11) (k0_pay18 v0) (ix3 b r o) = gqp I b r o := by
  rw [pay20_at, gqp]
  refine Finset.sum_congr rfl fun x _ => ?_
  rw [pay19_rstd I v0 h0, pay16_cc I v0 h0, pay17_at, h11, gpQ, Nat.mul_comm 128 r.val]
theorem pay21_dQ (v10 v11) (h10 : ∀ o : Fin 1536, v10 (ix1 o) = I.GNQ o) (h11 : ∀ (b : Fin 4) (s : Fin 384) (o : Fin 1536), v11 (ix3 b s o) = I.DCQ b s o)
    (b : Fin 4) (s : Fin 384) (o : Fin 1536) : k0_pay21 (F := Ideal) v10 (k0_pay16 v0) (k0_pay17 v11) (k0_pay18 v0) (ix3 b s o) = dQ I b s o := by
  rw [pay21_at, div1536, pay19_rstd I v0 h0, dQ, normBack, mean]
  simp only [pay17_at, pay16_cc I v0 h0, h10, h11]
  rw [mul_assoc (cc I b s (512 + o))]
end Query
end Spec

end Cert.ReferenceIdeal.Hand

end
-- ==== Proof.RefRotary.lean ====
/- The reference's rotation. -/
module

public import proofs.«01_k».proof.Proof.Gen.ReferenceIdeal.Value
public import proofs.«01_k».proof.Proof.IdealSpec

@[expose] public section

set_option maxRecDepth 16384

noncomputable section

namespace Cert.ReferenceIdeal.Hand

open Idealize.ShloMosaic Idealize.ShloMosaic.TcCoe Cert.ReferenceIdeal Cert.ReferenceIdeal.Gen
open Cert.KernelIdeal.Hand (T2 T3 T3_ix Ins expo scaleWord_eq invWord_eq scaleOf codeOf level amax xw wt cc eps rstd mean normBack k512 k1536 rstdL rstdQ dL dQ dR freq freqWords angle levelL levelQ levelR kvc kvs qc qs gg dxv gpL gpQ glp gqp theta expWord countB)

/-! ## The frequencies -/

def rfreqs : List (BitVec 32) → ℕ → FVec Ideal S1x1x32 .f32 → FVec Ideal S1x1x32 .f32
  | [], _, acc => acc
  | w :: L, j, acc => rfreqs L (j + 1) (select (cmpi .eq (iota .tc S1x1x32 32 [2] iota_S1x1x32_d2_w32) (broadcast S1x1x32 (BitVec.ofNat 32 j)))
      (broadcast S1x1x32 (FloatOps.ofBits .f32 w)) acc)

theorem rfreq_pick (j : ℕ) (hj : j < 32) (w : BitVec 32) (acc : FVec Ideal S1x1x32 .f32) (l : Fin 32) :
    select (cmpi .eq (iota .tc S1x1x32 32 [2] iota_S1x1x32_d2_w32) (broadcast S1x1x32 (BitVec.ofNat 32 j))) (broadcast S1x1x32 (FloatOps.ofBits .f32 w)) acc (ix3 0 0 l)
      = if l.val = j then Ideal.ofBits .f32 w else acc (ix3 0 0 l) := by
  have hc : (BitVec.ofNat 32 l.val == BitVec.ofNat 32 j) = decide (l.val = j) := by
    have := l.isLt
    rw [Bool.eq_iff_iff, beq_iff_eq, decide_eq_true_iff, ← BitVec.toNat_inj, BitVec.toNat_ofNat, BitVec.toNat_ofNat]
    omega
  have e : iota .tc S1x1x32 32 [2] iota_S1x1x32_d2_w32 (ix3 0 0 l) = BitVec.ofNat 32 l.val := by pointwise
  have e2 : select (cmpi .eq (iota .tc S1x1x32 32 [2] iota_S1x1x32_d2_w32) (broadcast S1x1x32 (BitVec.ofNat 32 j))) (broadcast S1x1x32 (FloatOps.ofBits .f32 w)) acc (ix3 0 0 l)
    = Scalar.select (IntOp.cmpi .eq (iota .tc S1x1x32 32 [2] iota_S1x1x32_d2_w32 (ix3 0 0 l)) (BitVec.ofNat 32 j)) (Ideal.ofBits .f32 w) (acc (ix3 0 0 l)) := rfl
  rw [e2, e]
  simp only [Scalar.select, IntOp.cmpi]
  by_cases h : l.val = j <;> simp [h, hc]

theorem rfreqs_apply (l : Fin 32) : ∀ (L : List (BitVec 32)) (j : ℕ) (acc : FVec Ideal S1x1x32 .f32) (_ : j + L.length ≤ 32),
    (l.val < j → rfreqs L j acc (ix3 0 0 l) = acc (ix3 0 0 l)) ∧ (j ≤ l.val → l.val < j + L.length → rfreqs L j acc (ix3 0 0 l) = Ideal.ofBits .f32 (L.getD (l.val - j) 0#32)) := by
  intro L
  induction L with
  | nil => intro j acc _; exact ⟨fun _ => rfl, fun h h' => absurd h' (by rw [List.length_nil]; omega)⟩
  | cons w L ih =>
    intro j acc hj
    rw [List.length_cons] at hj ⊢
    obtain ⟨h1, h2⟩ := ih (j + 1) (select (cmpi .eq (iota .tc S1x1x32 32 [2] iota_S1x1x32_d2_w32) (broadcast S1x1x32 (BitVec.ofNat 32 j)))
      (broadcast S1x1x32 (FloatOps.ofBits .f32 w)) acc) (by omega)
    refine ⟨fun hl => (h1 (by omega)).trans ?_, fun h h' => ?_⟩
    · rw [rfreq_pick j (by omega), if_neg (by omega)]
    · rcases Nat.lt_or_ge j l.val with hh | hh
      · refine (h2 hh (by omega)).trans ?_
        rw [show l.val - j = (l.val - (j + 1)) + 1 by omega, List.getD_cons_succ]
      · refine (h1 (by omega)).trans ?_
        rw [rfreq_pick j (by omega), if_pos (by omega), show l.val - j = 0 by omega]; rfl

theorem pay25_chain : k0_pay25 (F := Ideal) (iota .tc S1x1x32 32 [2] iota_S1x1x32_d2_w32) (k0_pay24 (iota .tc S1x1x32 32 [2] iota_S1x1x32_d2_w32) (k0_pay23 (iota .tc S1x1x32 32 [2] iota_S1x1x32_d2_w32) k0_pay22))
    = rfreqs freqWords 0 (broadcast S1x1x32 (FloatOps.ofBits .f32 0#32)) := id rfl

theorem rfreqs_freq (acc) (l : Fin 32) : rfreqs freqWords 0 acc (ix3 0 0 l) = freq l.val := by
  have := l.isLt
  refine ((rfreqs_apply l freqWords 0 acc (by decide)).2 (Nat.zero_le _) (by rw [show freqWords.length = 32 from rfl]; omega)).trans ?_
  rfl

/-! ## The rotation -/

theorem pay26_at (v112 v113 v243) (b : Fin 4) (s : Fin 384) (o : Fin 64) (A : EReal)
    (hA : ((((v113 (ix2 b s)).toInt : ℝ)) : EReal) * v243 (ix3 0 0 ⟨o.val / 2, by omega⟩) = A) :
    k0_pay26 (F := Ideal) v112 v113 v243 (ix3 b s o) =
      if h : (o : ℕ) % 2 < 1 then
        v112 (ix3 b s ⟨o.val / 2 * 2, by omega⟩) * Ideal.cos (A)
          + v112 (ix3 b s ⟨o.val / 2 * 2 + 1, by omega⟩) * Ideal.sin (A)
      else (0 - v112 (ix3 b s ⟨o.val / 2 * 2, by omega⟩)) * Ideal.sin (A)
          + v112 (ix3 b s ⟨o.val / 2 * 2 + 1, by omega⟩) * Ideal.cos (A) := by
  subst hA
  pointwise [k0_pay26]
  rfl

theorem neg_swap (x y : EReal) : (0 - x) * y = x * (0 - y) := by
  rw [zero_sub, zero_sub, EReal.neg_mul, mul_comm x (-y), EReal.neg_mul, mul_comm y x]

theorem pay26_dR (I : Ins) (v112 v113 v243) (h112 : ∀ (b : Fin 4) (s : Fin 384) (o : Fin 64), v112 (ix3 b s o) = I.DKR b s o)
    (h113 : ∀ (b : Fin 4) (s : Fin 384), v113 (ix2 b s) = I.POS b s) (h243 : ∀ l : Fin 32, v243 (ix3 0 0 l) = freq l.val)
    (b : Fin 4) (s : Fin 384) (o : Fin 64) : k0_pay26 (F := Ideal) v112 v113 v243 (ix3 b s o) = dR I b s o := by
  have ho := o.isLt
  have ha : ((((v113 (ix2 b s)).toInt : ℝ)) : EReal) * v243 (ix3 0 0 ⟨o.val / 2, by omega⟩) = angle I b s o := by
    rw [h113, h243]; rfl
  rw [pay26_at _ _ _ _ _ _ _ ha, dR]
  by_cases h : o.val % 2 = 0
  · rw [dif_pos (by omega), if_pos h, h112, h112]
    show I.DKR b s (o.val / 2 * 2) * _ + I.DKR b s (o.val / 2 * 2 + 1) * _ = _
    rw [show o.val / 2 * 2 = o.val by omega]
  · rw [dif_neg (by omega), if_neg h, h112, h112, neg_swap, add_comm]
    show I.DKR b s (o.val / 2 * 2 + 1) * _ + I.DKR b s (o.val / 2 * 2) * _ = _
    rw [show o.val / 2 * 2 + 1 = o.val by omega, show o.val / 2 * 2 = o.val - 1 by omega]

end Cert.ReferenceIdeal.Hand

end
-- ==== Proof.RefParts.lean ====
/- The reference's intermediate arrays, as the numbers the specification names. -/
module

public import proofs.«01_k».proof.Proof.RefLinear
public import proofs.«01_k».proof.Proof.RefNorm
public import proofs.«01_k».proof.Proof.RefRotary
public import proofs.«01_k».proof.Proof.IdealInputs

@[expose] public section

set_option maxRecDepth 16384

noncomputable section

namespace Cert.ReferenceIdeal.Hand

open Idealize.ShloMosaic Idealize.ShloMosaic.TcCoe Cert.ReferenceIdeal Cert.ReferenceIdeal.Gen
open Cert.KernelIdeal.Hand (T2 T3 T3_ix Ins expo scaleWord_eq invWord_eq scaleOf codeOf level amax xw wt cc eps rstd mean normBack k512 k1536 rstdL rstdQ dL dQ dR freq freqWords angle levelL levelQ levelR kvc kvs qc qs gg dxv gpL gpQ glp gqp insOf at1_eq at2_eq at3_eq theta expWord countB)

/-! Loads. -/

theorem rows_low (a2 : Vec Ideal S576x5120 .fp8e4m3) (o : Fin 512) (d : Fin 5120) : View.ld a2 r0_2 (ix2 o d) = a2 (ix2 ⟨o.val, by omega⟩ d) := by
  pointwise
theorem rows_high (a2 : Vec Ideal S576x5120 .fp8e4m3) (o : Fin 64) (d : Fin 5120) : View.ld a2 r0_3 (ix2 o d) = a2 (ix2 ⟨512 + o.val, by omega⟩ d) := by
  pointwise

/-! The arguments, by the numbers of their coordinates. -/

section Args
variable (a0 : Vec Ideal S4x384x5120 .fp8e4m3) (a1 : Vec Ideal S4x384x40 .f32) (a2 : Vec Ideal S576x5120 .fp8e4m3) (a3 : Vec Ideal S5x40 .f32) (a4 : Vec Ideal S512 .f32) (a5 : Vec Ideal S4x384 .i32) (a6 : Vec Ideal S4x384x512 .bf16) (a7 : Vec Ideal S4x384x64 .bf16) (a8 : Vec Ideal S1536x5120 .fp8e4m3) (a9 : Vec Ideal S12x40 .f32) (a10 : Vec Ideal S1536 .f32) (a11 : Vec Ideal S4x384x1536 .bf16)
theorem arg0_at (b : Fin 4) (s : Fin 384) (d : Fin 5120) : a0 (ix3 b s d) = (insOf a0 a1 a2 a3 a4 a5 a6 a7 a8 a9 a10 a11).X b s d := (at3_eq _ b.isLt s.isLt d.isLt).symm
theorem arg1_at (b : Fin 4) (s : Fin 384) (d : Fin 40) : a1 (ix3 b s d) = (insOf a0 a1 a2 a3 a4 a5 a6 a7 a8 a9 a10 a11).XS b s d := (at3_eq _ b.isLt s.isLt d.isLt).symm
theorem arg2_at (b : Fin 576) (s : Fin 5120) : a2 (ix2 b s) = (insOf a0 a1 a2 a3 a4 a5 a6 a7 a8 a9 a10 a11).WK b s := (at2_eq _ b.isLt s.isLt).symm
theorem arg3_at (b : Fin 5) (s : Fin 40) : a3 (ix2 b s) = (insOf a0 a1 a2 a3 a4 a5 a6 a7 a8 a9 a10 a11).WKS b s := (at2_eq _ b.isLt s.isLt).symm
theorem arg4_at (b : Fin 512) : a4 (ix1 b) = (insOf a0 a1 a2 a3 a4 a5 a6 a7 a8 a9 a10 a11).GNL b := (at1_eq _ b.isLt).symm
theorem arg5_at (b : Fin 4) (s : Fin 384) : a5 (ix2 b s) = (insOf a0 a1 a2 a3 a4 a5 a6 a7 a8 a9 a10 a11).POS b s := (at2_eq _ b.isLt s.isLt).symm
theorem arg6_at (b : Fin 4) (s : Fin 384) (d : Fin 512) : a6 (ix3 b s d) = (insOf a0 a1 a2 a3 a4 a5 a6 a7 a8 a9 a10 a11).DC b s d := (at3_eq _ b.isLt s.isLt d.isLt).symm
theorem arg7_at (b : Fin 4) (s : Fin 384) (d : Fin 64) : a7 (ix3 b s d) = (insOf a0 a1 a2 a3 a4 a5 a6 a7 a8 a9 a10 a11).DKR b s d := (at3_eq _ b.isLt s.isLt d.isLt).symm
theorem arg8_at (b : Fin 1536) (s : Fin 5120) : a8 (ix2 b s) = (insOf a0 a1 a2 a3 a4 a5 a6 a7 a8 a9 a10 a11).WQ b s := (at2_eq _ b.isLt s.isLt).symm
theorem arg9_at (b : Fin 12) (s : Fin 40) : a9 (ix2 b s) = (insOf a0 a1 a2 a3 a4 a5 a6 a7 a8 a9 a10 a11).WQS b s := (at2_eq _ b.isLt s.isLt).symm
theorem arg10_at (b : Fin 1536) : a10 (ix1 b) = (insOf a0 a1 a2 a3 a4 a5 a6 a7 a8 a9 a10 a11).GNQ b := (at1_eq _ b.isLt).symm
theorem arg11_at (b : Fin 4) (s : Fin 384) (d : Fin 1536) : a11 (ix3 b s d) = (insOf a0 a1 a2 a3 a4 a5 a6 a7 a8 a9 a10 a11).DCQ b s d := (at3_eq _ b.isLt s.isLt d.isLt).symm

theorem low_at (o : Fin 512) (d : Fin 5120) : View.ld a2 r0_2 (ix2 o d) = (insOf a0 a1 a2 a3 a4 a5 a6 a7 a8 a9 a10 a11).WK o d := (rows_low a2 o d).trans (arg2_at a0 a1 a2 a3 a4 a5 a6 a7 a8 a9 a10 a11 _ _)
theorem high_at (o : Fin 64) (d : Fin 5120) : View.ld a2 r0_3 (ix2 o d) = (insOf a0 a1 a2 a3 a4 a5 a6 a7 a8 a9 a10 a11).WK (512 + o) d := (rows_high a2 o d).trans (arg2_at a0 a1 a2 a3 a4 a5 a6 a7 a8 a9 a10 a11 _ _)

/-! The projections, the norms' backward and the rotation. -/

theorem pay46_cc (b : Fin 4) (s : Fin 384) (o : Fin 512) : k0_pay46 a0 a1 a2 a3 a4 a5 a6 a7 a8 a9 a10 a11 (ix3 b s o) = cc (insOf a0 a1 a2 a3 a4 a5 a6 a7 a8 a9 a10 a11) b s o := by
  unfold k0_pay46
  rw [View.ld_unit_zero (S := S5x40) Value.hz3 _ a3, View.ld_unit_zero (S := S4x384x5120) Value.hz0 _ a0, View.ld_unit_zero (S := S4x384x40) Value.hz1 _ a1]
  exact pay9_cc (insOf a0 a1 a2 a3 a4 a5 a6 a7 a8 a9 a10 a11) _ _ _ _ (arg3_at a0 a1 a2 a3 a4 a5 a6 a7 a8 a9 a10 a11) (low_at a0 a1 a2 a3 a4 a5 a6 a7 a8 a9 a10 a11) (arg0_at a0 a1 a2 a3 a4 a5 a6 a7 a8 a9 a10 a11) (arg1_at a0 a1 a2 a3 a4 a5 a6 a7 a8 a9 a10 a11) b s o
theorem pay47_cc (r o : Fin 1536) : k0_pay47 a0 a1 a2 a3 a4 a5 a6 a7 a8 a9 a10 a11 (ix2 r o) = cc (insOf a0 a1 a2 a3 a4 a5 a6 a7 a8 a9 a10 a11) (r.val / 384) (r.val % 384) (512 + o) := by
  unfold k0_pay47
  rw [View.ld_unit_zero (S := S12x40) Value.hz9 _ a9, View.ld_unit_zero (S := S1536x5120) Value.hz8 _ a8, View.ld_unit_zero (S := S4x384x5120) Value.hz0 _ a0, View.ld_unit_zero (S := S4x384x40) Value.hz1 _ a1]
  exact pay10_cc (insOf a0 a1 a2 a3 a4 a5 a6 a7 a8 a9 a10 a11) _ _ _ _ (arg9_at a0 a1 a2 a3 a4 a5 a6 a7 a8 a9 a10 a11) (arg8_at a0 a1 a2 a3 a4 a5 a6 a7 a8 a9 a10 a11) (arg0_at a0 a1 a2 a3 a4 a5 a6 a7 a8 a9 a10 a11) (arg1_at a0 a1 a2 a3 a4 a5 a6 a7 a8 a9 a10 a11) r o
theorem pay48_dL (b : Fin 4) (s : Fin 384) (o : Fin 512) : k0_pay48 a0 a1 a2 a3 a4 a5 a6 a7 a8 a9 a10 a11 (ix3 b s o) = dL (insOf a0 a1 a2 a3 a4 a5 a6 a7 a8 a9 a10 a11) b s o := by
  unfold k0_pay48
  rw [View.ld_unit_zero (S := S4x384x512) Value.hz6 _ a6, View.ld_unit_zero (S := S512) Value.hz4 _ a4]
  exact pay15_dL (insOf a0 a1 a2 a3 a4 a5 a6 a7 a8 a9 a10 a11) _ (pay46_cc a0 a1 a2 a3 a4 a5 a6 a7 a8 a9 a10 a11) _ _ (arg6_at a0 a1 a2 a3 a4 a5 a6 a7 a8 a9 a10 a11) (arg4_at a0 a1 a2 a3 a4 a5 a6 a7 a8 a9 a10 a11) b s o
theorem pay53_dQ (b : Fin 4) (s : Fin 384) (o : Fin 1536) : k0_pay53 a0 a1 a2 a3 a4 a5 a6 a7 a8 a9 a10 a11 (ix3 b s o) = dQ (insOf a0 a1 a2 a3 a4 a5 a6 a7 a8 a9 a10 a11) b s o := by
  unfold k0_pay53 k0_pay49 k0_pay50 k0_pay51
  rw [View.ld_unit_zero (S := S1536) Value.hz10 _ a10, View.ld_unit_zero (S := S4x384x1536) Value.hz11 _ a11]
  exact pay21_dQ (insOf a0 a1 a2 a3 a4 a5 a6 a7 a8 a9 a10 a11) _ (pay47_cc a0 a1 a2 a3 a4 a5 a6 a7 a8 a9 a10 a11) _ _ (arg10_at a0 a1 a2 a3 a4 a5 a6 a7 a8 a9 a10 a11) (arg11_at a0 a1 a2 a3 a4 a5 a6 a7 a8 a9 a10 a11) b s o
theorem pay54_dR (b : Fin 4) (s : Fin 384) (o : Fin 64) : k0_pay54 a0 a1 a2 a3 a4 a5 a6 a7 a8 a9 a10 a11 (ix3 b s o) = dR (insOf a0 a1 a2 a3 a4 a5 a6 a7 a8 a9 a10 a11) b s o := by
  unfold k0_pay54 k0_pay52
  rw [View.ld_unit_zero (S := S4x384x64) Value.hz7 _ a7, View.ld_unit_zero (S := S4x384) Value.hz5 _ a5, pay25_chain]
  exact pay26_dR (insOf a0 a1 a2 a3 a4 a5 a6 a7 a8 a9 a10 a11) _ _ _ (arg7_at a0 a1 a2 a3 a4 a5 a6 a7 a8 a9 a10 a11) (arg5_at a0 a1 a2 a3 a4 a5 a6 a7 a8 a9 a10 a11) (rfreqs_freq _) b s o
end Args

end Cert.ReferenceIdeal.Hand

end
-- ==== Proof.RefCount.lean ====
/- The reference's scales: the exponent of each block, found by counting the powers of two not above its level. -/
module

public import proofs.«01_k».proof.Proof.Gen.ReferenceIdeal.Value
public import proofs.«01_k».proof.Proof.IdealSpec

@[expose] public section

set_option maxRecDepth 16384

noncomputable section

namespace Cert.ReferenceIdeal.Hand

open Idealize.ShloMosaic Idealize.ShloMosaic.TcCoe Cert.ReferenceIdeal Cert.ReferenceIdeal.Gen
open Cert.KernelIdeal.Hand (T2 T3 T3_ix Ins expo scaleWord_eq invWord_eq scaleOf codeOf level amax xw wt cc eps rstd mean normBack k512 k1536 rstdL rstdQ dL dQ dR freq freqWords angle levelL levelQ levelR kvc kvs qc qs gg dxv gpL gpQ glp gqp theta expWord countB)

theorem iota_word : ∀ k : Fin 255, IntOp.shli ArithUnit.vector (IntOp.addi (BitVec.ofNat 32 k.val) 1#32) 23#32 = expWord (k.val + 1) := by
  decide +kernel

/-- The 255 positive powers of two (the last is infinity). -/
def thresholds : FVec Ideal S1x1x1x255 .f32 :=
  bitcastToFloat .f32 (shli (addi (iota .tc S1x1x1x255 32 [3] iota_S1x1x1x255_d3_w32) (broadcast S1x1x1x255 1#32)) (broadcast S1x1x1x255 23#32))

theorem thresholds_at (k : Fin 255) : thresholds (ix4 0 0 0 k) = theta (k.val + 1) := by
  have e : (shli (addi (iota .tc S1x1x1x255 32 [3] iota_S1x1x1x255_d3_w32) (broadcast S1x1x1x255 1#32)) (broadcast S1x1x1x255 23#32)) (ix4 0 0 0 k)
      = IntOp.shli ArithUnit.vector (IntOp.addi (BitVec.ofNat 32 k.val) 1#32) 23#32 := by pointwise
  rw [theta, ← iota_word k, ← e]
  rfl

theorem ole_at {S : Shape} (x y : FVec Ideal S .f32) (i : S.Idx) : (extui 32 (cmpf .ole x y) natLt_1_32) i = if x i ≤ y i then 1#32 else 0#32 := by
  show BitVec.setWidth 32 (BitVec.ofBool (decide (x i ≤ y i))) = _
  by_cases h : x i ≤ y i
  · rw [if_pos h, decide_eq_true h]; rfl
  · rw [if_neg h, decide_eq_false h]; rfl

theorem mulf_at {S : Shape} (x y : FVec Ideal S .f32) (i : S.Idx) : mulf x y i = x i * y i := rfl
theorem step_at {S : Shape} (i : S.Idx) : broadcast S (Scalar.ofBits (F := Ideal) .f32 0x37924925#32) i = Ideal.ofBits .f32 932333861#32 := rfl
theorem absf_at {S : Shape} (x : FVec Ideal S .f32) (i : S.Idx) : absf x i = max (x i) (-x i) := rfl

theorem count_fold (a : EReal) (f : Fin 255 → BitVec 32) (hf : ∀ k, f k = if theta (k.val + 1) ≤ a then 1#32 else 0#32) :
    Finset.univ.fold IntOp.addi 0#32 f = BitVec.ofNat 32 (countB a) := by
  rw [show f = _ from funext hf, countB, Finset.card_eq_sum_ones, Finset.sum_filter]
  generalize (Finset.univ : Finset (Fin 255)) = S
  induction S using Finset.cons_induction with
  | empty => rfl
  | cons x S hx ih =>
    rw [Finset.fold_cons, Finset.sum_cons, ih, BitVec.ofNat_add]
    show _ + _ = _ + _
    congr 1
    split <;> rfl

theorem expo_count (a : EReal) :
    Scalar.select (IntOp.cmpi .eq (BitVec.ofNat 32 (countB a)) 0#32) 0#32 (IntOp.subi (BitVec.ofNat 32 (countB a)) 126#32) = expo a := by
  unfold expo
  by_cases h : BitVec.ofNat 32 (countB a) = 0#32
  · rw [h]; rfl
  · rw [if_neg h]
    simp only [Scalar.select, IntOp.cmpi, beq_eq_false_iff_ne.mpr h, IntOp.subi]
    rfl

/-- From a count to an exponent, at an element. -/
theorem select_at {S : Shape} (w : IVec S 32) (i : S.Idx) (a : EReal) (h : w i = BitVec.ofNat 32 (countB a)) :
    select (cmpi .eq w (broadcast S 0#32)) (broadcast S 0#32) (subi w (broadcast S 126#32)) i = expo a := by
  rw [← expo_count, ← h]
  rfl

/-! 4 blocks of 128 columns a row -/

/-- The sum of 255 words, -/
def rsum4 (v : IVec S4x384x4x255 32) : IVec S4x384x4 32 := multiReductionI .add [3] S4x384x4 v 0#32 reduces_S4x384x4x255_S4x384x4 rfl
/-- and the largest of 128 numbers. -/
def rmax4 (v : FVec Ideal S4x384x4x128 .f32) : FVec Ideal S4x384x4 .f32 := multiReduction .maximumf [3] S4x384x4 v 0xFF800000#32 reduces_S4x384x4x128_S4x384x4 (.inl rfl) rfl

theorem rsum4_at (v) (b : Fin 4) (s : Fin 384) (g : Fin 4) : rsum4 v (ix3 b s g) = Finset.univ.fold IntOp.addi 0#32 (fun k : Fin 255 => v (ix4 b s g k)) := by
  pointwise [rsum4]
theorem rmax4_at (v) (b : Fin 4) (s : Fin 384) (g : Fin 4) :
    rmax4 v (ix3 b s g) = Finset.univ.fold max (Ideal.ofBits .f32 0xFF800000#32) fun k : Fin 128 => v (ix4 b s g k) := by
  pointwise [rmax4]
theorem spread4 (y : FVec Ideal S4x384x4 .f32) (b : Fin 4) (s : Fin 384) (g : Fin 4) (k : Fin 255) :
    (broadcastTo S4x384x4x255 (shapeCast S4x384x4x1 y shapeCasts_S4x384x4_S4x384x4x1) broadcasts_S4x384x4x1_S4x384x4x255) (ix4 b s g k) = y (ix3 b s g) := by
  pointwise
theorem words4 (b : Fin 4) (s : Fin 384) (g : Fin 4) (k : Fin 255) :
    (broadcastTo S4x384x4x255 thresholds broadcasts_S1x1x1x255_S4x384x4x255) (ix4 b s g k) = theta (k.val + 1) := by
  rw [← thresholds_at k]
  pointwise

/-- The largest magnitude of each block, scaled, -/
def rlevel4 (v : FVec Ideal S4x384x4x128 .f32) : FVec Ideal S4x384x4 .f32 :=
  mulf (rmax4 (absf v)) (broadcast S4x384x4 (Scalar.ofBits .f32 0x37924925#32))
/-- and how many powers of two are not above it. -/
def rcount4 (y : FVec Ideal S4x384x4 .f32) : IVec S4x384x4 32 :=
  rsum4 (extui 32 (cmpf .ole (broadcastTo S4x384x4x255 thresholds broadcasts_S1x1x1x255_S4x384x4x255)
    (broadcastTo S4x384x4x255 (shapeCast S4x384x4x1 y shapeCasts_S4x384x4_S4x384x4x1) broadcasts_S4x384x4x1_S4x384x4x255)) natLt_1_32)

theorem rlevel4_at (v : FVec Ideal S4x384x4x128 .f32) (D : ℕ → EReal) (b : Fin 4) (s : Fin 384) (g : Fin 4) (hD : ∀ k : Fin 128, v (ix4 b s g k) = D k) :
    rlevel4 v (ix3 b s g) = level 128 D := by
  have e2 : (fun k : Fin 128 => absf v (ix4 b s g k)) = fun k : Fin 128 => max (D k) (-D k) := funext fun k => by rw [absf_at, hD k]
  rw [rlevel4, mulf_at, rmax4_at, e2, level, amax, step_at]

theorem rcount4_at (y : FVec Ideal S4x384x4 .f32) (b : Fin 4) (s : Fin 384) (g : Fin 4) :
    rcount4 y (ix3 b s g) = BitVec.ofNat 32 (countB (y (ix3 b s g))) := by
  unfold rcount4
  rw [rsum4_at]
  refine count_fold _ _ fun k => ?_
  rw [ole_at, words4, spread4]

theorem pay28_form (v) : k0_pay28 (F := Ideal) v = select (cmpi .eq (rcount4 (rlevel4 (k0_pay27 v))) (broadcast S4x384x4 0#32)) (broadcast S4x384x4 0#32)
    (subi (rcount4 (rlevel4 (k0_pay27 v))) (broadcast S4x384x4 126#32)) := id rfl

theorem pay27_at (v) (b : Fin 4) (s : Fin 384) (g : Fin 4) (k : Fin 128) : k0_pay27 (F := Ideal) v (ix4 b s g k) = v (ix3 b s ⟨g.val * 128 + k.val, by omega⟩) := by
  pointwise [k0_pay27]

/-- Each block's exponent. -/
theorem pay28_expo (v) (D : ℕ → ℕ → ℕ → EReal) (hv : ∀ (b : Fin 4) (s : Fin 384) (o : Fin 512), v (ix3 b s o) = D b s o) (b : Fin 4) (s : Fin 384) (g : Fin 4) :
    k0_pay28 (F := Ideal) v (ix3 b s g) = expo (level 128 fun k => D b s (128 * g + k)) := by
  have e := select_at (rcount4 (rlevel4 (k0_pay27 v))) (ix3 b s g) _ (rcount4_at _ b s g)
  rw [pay28_form, e, rlevel4_at (k0_pay27 v) (fun k => D b s (128 * g + k)) b s g fun k => ?_]
  have hg := g.isLt
  have hk := k.isLt
  rw [pay27_at]
  exact (hv b s _).trans (congrArg (D b s) (by show g.val * 128 + k.val = 128 * g.val + k.val; omega))

/-! 1 blocks of 64 columns a row -/

/-- The sum of 255 words, -/
def rsum1 (v : IVec S4x384x1x255 32) : IVec S4x384x1 32 := multiReductionI .add [3] S4x384x1 v 0#32 reduces_S4x384x1x255_S4x384x1 rfl
/-- and the largest of 64 numbers. -/
def rmax1 (v : FVec Ideal S4x384x1x64 .f32) : FVec Ideal S4x384x1 .f32 := multiReduction .maximumf [3] S4x384x1 v 0xFF800000#32 reduces_S4x384x1x64_S4x384x1 (.inl rfl) rfl

theorem rsum1_at (v) (b : Fin 4) (s : Fin 384) (g : Fin 1) : rsum1 v (ix3 b s g) = Finset.univ.fold IntOp.addi 0#32 (fun k : Fin 255 => v (ix4 b s g k)) := by
  obtain rfl : g = 0 := Subsingleton.elim _ _
  pointwise [rsum1]
theorem rmax1_at (v) (b : Fin 4) (s : Fin 384) (g : Fin 1) :
    rmax1 v (ix3 b s g) = Finset.univ.fold max (Ideal.ofBits .f32 0xFF800000#32) fun k : Fin 64 => v (ix4 b s g k) := by
  obtain rfl : g = 0 := Subsingleton.elim _ _
  pointwise [rmax1]
theorem spread1 (y : FVec Ideal S4x384x1 .f32) (b : Fin 4) (s : Fin 384) (g : Fin 1) (k : Fin 255) :
    (broadcastTo S4x384x1x255 (shapeCast S4x384x1x1 y shapeCasts_S4x384x1_S4x384x1x1) broadcasts_S4x384x1x1_S4x384x1x255) (ix4 b s g k) = y (ix3 b s g) := by
  obtain rfl : g = 0 := Subsingleton.elim _ _
  pointwise
theorem words1 (b : Fin 4) (s : Fin 384) (g : Fin 1) (k : Fin 255) :
    (broadcastTo S4x384x1x255 thresholds broadcasts_S1x1x1x255_S4x384x1x255) (ix4 b s g k) = theta (k.val + 1) := by
  rw [← thresholds_at k]
  pointwise

/-- The largest magnitude of each block, scaled, -/
def rlevel1 (v : FVec Ideal S4x384x1x64 .f32) : FVec Ideal S4x384x1 .f32 :=
  mulf (rmax1 (absf v)) (broadcast S4x384x1 (Scalar.ofBits .f32 0x37924925#32))
/-- and how many powers of two are not above it. -/
def rcount1 (y : FVec Ideal S4x384x1 .f32) : IVec S4x384x1 32 :=
  rsum1 (extui 32 (cmpf .ole (broadcastTo S4x384x1x255 thresholds broadcasts_S1x1x1x255_S4x384x1x255)
    (broadcastTo S4x384x1x255 (shapeCast S4x384x1x1 y shapeCasts_S4x384x1_S4x384x1x1) broadcasts_S4x384x1x1_S4x384x1x255)) natLt_1_32)

theorem rlevel1_at (v : FVec Ideal S4x384x1x64 .f32) (D : ℕ → EReal) (b : Fin 4) (s : Fin 384) (g : Fin 1) (hD : ∀ k : Fin 64, v (ix4 b s g k) = D k) :
    rlevel1 v (ix3 b s g) = level 64 D := by
  have e2 : (fun k : Fin 64 => absf v (ix4 b s g k)) = fun k : Fin 64 => max (D k) (-D k) := funext fun k => by rw [absf_at, hD k]
  rw [rlevel1, mulf_at, rmax1_at, e2, level, amax, step_at]

theorem rcount1_at (y : FVec Ideal S4x384x1 .f32) (b : Fin 4) (s : Fin 384) (g : Fin 1) :
    rcount1 y (ix3 b s g) = BitVec.ofNat 32 (countB (y (ix3 b s g))) := by
  unfold rcount1
  rw [rsum1_at]
  refine count_fold _ _ fun k => ?_
  rw [ole_at, words1, spread1]

theorem pay33_form (v) : k0_pay33 (F := Ideal) v = select (cmpi .eq (rcount1 (rlevel1 (k0_pay32 v))) (broadcast S4x384x1 0#32)) (broadcast S4x384x1 0#32)
    (subi (rcount1 (rlevel1 (k0_pay32 v))) (broadcast S4x384x1 126#32)) := id rfl

theorem pay32_at (v) (b : Fin 4) (s : Fin 384) (g : Fin 1) (k : Fin 64) : k0_pay32 (F := Ideal) v (ix4 b s g k) = v (ix3 b s ⟨k.val, by omega⟩) := by
  obtain rfl : g = 0 := Subsingleton.elim _ _
  pointwise [k0_pay32]

/-- Each block's exponent. -/
theorem pay33_expo (v) (D : ℕ → ℕ → ℕ → EReal) (hv : ∀ (b : Fin 4) (s : Fin 384) (o : Fin 64), v (ix3 b s o) = D b s o) (b : Fin 4) (s : Fin 384) (g : Fin 1) :
    k0_pay33 (F := Ideal) v (ix3 b s g) = expo (level 64 fun k => D b s (64 * g + k)) := by
  have e := select_at (rcount1 (rlevel1 (k0_pay32 v))) (ix3 b s g) _ (rcount1_at _ b s g)
  rw [pay33_form, e, rlevel1_at (k0_pay32 v) (fun k => D b s (64 * g + k)) b s g fun k => ?_]
  have hg := g.isLt
  have hk := k.isLt
  rw [pay32_at]
  exact (hv b s _).trans (congrArg (D b s) (by show k.val = 64 * g.val + k.val; omega))

/-! 12 blocks of 128 columns a row -/

/-- The sum of 255 words, -/
def rsum12 (v : IVec S4x384x12x255 32) : IVec S4x384x12 32 := multiReductionI .add [3] S4x384x12 v 0#32 reduces_S4x384x12x255_S4x384x12 rfl
/-- and the largest of 128 numbers. -/
def rmax12 (v : FVec Ideal S4x384x12x128 .f32) : FVec Ideal S4x384x12 .f32 := multiReduction .maximumf [3] S4x384x12 v 0xFF800000#32 reduces_S4x384x12x128_S4x384x12 (.inl rfl) rfl

theorem rsum12_at (v) (b : Fin 4) (s : Fin 384) (g : Fin 12) : rsum12 v (ix3 b s g) = Finset.univ.fold IntOp.addi 0#32 (fun k : Fin 255 => v (ix4 b s g k)) := by
  pointwise [rsum12]
theorem rmax12_at (v) (b : Fin 4) (s : Fin 384) (g : Fin 12) :
    rmax12 v (ix3 b s g) = Finset.univ.fold max (Ideal.ofBits .f32 0xFF800000#32) fun k : Fin 128 => v (ix4 b s g k) := by
  pointwise [rmax12]
theorem spread12 (y : FVec Ideal S4x384x12 .f32) (b : Fin 4) (s : Fin 384) (g : Fin 12) (k : Fin 255) :
    (broadcastTo S4x384x12x255 (shapeCast S4x384x12x1 y shapeCasts_S4x384x12_S4x384x12x1) broadcasts_S4x384x12x1_S4x384x12x255) (ix4 b s g k) = y (ix3 b s g) := by
  pointwise
theorem words12 (b : Fin 4) (s : Fin 384) (g : Fin 12) (k : Fin 255) :
    (broadcastTo S4x384x12x255 thresholds broadcasts_S1x1x1x255_S4x384x12x255) (ix4 b s g k) = theta (k.val + 1) := by
  rw [← thresholds_at k]
  pointwise

/-- The largest magnitude of each block, scaled, -/
def rlevel12 (v : FVec Ideal S4x384x12x128 .f32) : FVec Ideal S4x384x12 .f32 :=
  mulf (rmax12 (absf v)) (broadcast S4x384x12 (Scalar.ofBits .f32 0x37924925#32))
/-- and how many powers of two are not above it. -/
def rcount12 (y : FVec Ideal S4x384x12 .f32) : IVec S4x384x12 32 :=
  rsum12 (extui 32 (cmpf .ole (broadcastTo S4x384x12x255 thresholds broadcasts_S1x1x1x255_S4x384x12x255)
    (broadcastTo S4x384x12x255 (shapeCast S4x384x12x1 y shapeCasts_S4x384x12_S4x384x12x1) broadcasts_S4x384x12x1_S4x384x12x255)) natLt_1_32)

theorem rlevel12_at (v : FVec Ideal S4x384x12x128 .f32) (D : ℕ → EReal) (b : Fin 4) (s : Fin 384) (g : Fin 12) (hD : ∀ k : Fin 128, v (ix4 b s g k) = D k) :
    rlevel12 v (ix3 b s g) = level 128 D := by
  have e2 : (fun k : Fin 128 => absf v (ix4 b s g k)) = fun k : Fin 128 => max (D k) (-D k) := funext fun k => by rw [absf_at, hD k]
  rw [rlevel12, mulf_at, rmax12_at, e2, level, amax, step_at]

theorem rcount12_at (y : FVec Ideal S4x384x12 .f32) (b : Fin 4) (s : Fin 384) (g : Fin 12) :
    rcount12 y (ix3 b s g) = BitVec.ofNat 32 (countB (y (ix3 b s g))) := by
  unfold rcount12
  rw [rsum12_at]
  refine count_fold _ _ fun k => ?_
  rw [ole_at, words12, spread12]

theorem pay39_form (v) : k0_pay39 (F := Ideal) v = select (cmpi .eq (rcount12 (rlevel12 (k0_pay38 v))) (broadcast S4x384x12 0#32)) (broadcast S4x384x12 0#32)
    (subi (rcount12 (rlevel12 (k0_pay38 v))) (broadcast S4x384x12 126#32)) := id rfl

theorem pay38_at (v) (b : Fin 4) (s : Fin 384) (g : Fin 12) (k : Fin 128) : k0_pay38 (F := Ideal) v (ix4 b s g k) = v (ix3 b s ⟨g.val * 128 + k.val, by omega⟩) := by
  pointwise [k0_pay38]

/-- Each block's exponent. -/
theorem pay39_expo (v) (D : ℕ → ℕ → ℕ → EReal) (hv : ∀ (b : Fin 4) (s : Fin 384) (o : Fin 1536), v (ix3 b s o) = D b s o) (b : Fin 4) (s : Fin 384) (g : Fin 12) :
    k0_pay39 (F := Ideal) v (ix3 b s g) = expo (level 128 fun k => D b s (128 * g + k)) := by
  have e := select_at (rcount12 (rlevel12 (k0_pay38 v))) (ix3 b s g) _ (rcount12_at _ b s g)
  rw [pay39_form, e, rlevel12_at (k0_pay38 v) (fun k => D b s (128 * g + k)) b s g fun k => ?_]
  have hg := g.isLt
  have hk := k.isLt
  rw [pay38_at]
  exact (hv b s _).trans (congrArg (D b s) (by show g.val * 128 + k.val = 128 * g.val + k.val; omega))

end Cert.ReferenceIdeal.Hand

end
-- ==== Proof.RefCodes.lean ====
/- The reference's codes and scales, at an element. -/
module

public import proofs.«01_k».proof.Proof.RefCount

@[expose] public section

set_option maxRecDepth 16384

noncomputable section

namespace Cert.ReferenceIdeal.Hand

open Idealize.ShloMosaic Idealize.ShloMosaic.TcCoe Cert.ReferenceIdeal Cert.ReferenceIdeal.Gen
open Cert.KernelIdeal.Hand (T2 T3 T3_ix Ins expo scaleWord_eq invWord_eq scaleOf codeOf level amax xw wt cc eps rstd mean normBack k512 k1536 rstdL rstdQ dL dQ dR freq freqWords angle levelL levelQ levelR kvc kvs qc qs gg dxv gpL gpQ glp gqp theta expWord countB)

open Cert.KernelIdeal.Hand (scaleWord invWord)

/-! The words of the scale and of its inverse, from an exponent. -/

theorem shli_eq (x : BitVec 32) : IntOp.shli ArithUnit.vector x 23#32 = x <<< 23 := by
  rfl
theorem word_scale (a : EReal) : IntOp.shli ArithUnit.vector (IntOp.addi (expo a) 127#32) 23#32 = scaleWord a := by
  rw [scaleWord_eq, shli_eq]; rfl
theorem word_inv (a : EReal) : IntOp.shli ArithUnit.vector (IntOp.addi (IntOp.subi 0#32 (expo a)) 127#32) 23#32 = invWord a := by
  rw [invWord_eq, shli_eq]; rfl

/-! The payloads at an element. -/

theorem pay29_at (v) (b : Fin 4) (s : Fin 384) (g : Fin 4) : k0_pay29 (F := Ideal) v (ix3 b s g) = IntOp.subi 0#32 (k0_pay28 v (ix3 b s g)) := by
  pointwise [k0_pay29]
theorem pay34_at (v) (b : Fin 4) (s : Fin 384) (g : Fin 1) : k0_pay34 (F := Ideal) v (ix3 b s g) = IntOp.subi 0#32 (k0_pay33 v (ix3 b s g)) := by
  obtain rfl : g = 0 := Subsingleton.elim _ _
  pointwise [k0_pay34]
theorem pay40_at (v) (b : Fin 4) (s : Fin 384) (g : Fin 12) : k0_pay40 (F := Ideal) v (ix3 b s g) = IntOp.addi (IntOp.subi 0#32 (k0_pay39 v (ix3 b s g))) 127#32 := by
  pointwise [k0_pay40]
theorem pay30_at (v w) (b : Fin 4) (s : Fin 384) (g : Fin 4) (l : Fin 128) :
    k0_pay30 (F := Ideal) v w (ix4 b s g l) = min (Ideal.ofBits .f32 1197473792#32) (max (Ideal.ofBits .f32 3344957440#32)
      (v (ix4 b s g l) * Ideal.ofBits .f32 (IntOp.shli ArithUnit.vector (IntOp.addi (w (ix3 b s g)) 127#32) 23#32))) := by
  pointwise [k0_pay30]
theorem pay36_at (v w) (b : Fin 4) (s : Fin 384) (g : Fin 1) (l : Fin 64) :
    k0_pay36 (F := Ideal) v w k0_pay35 (ix4 b s g l) = min (Ideal.ofBits .f32 1197473792#32) (max (Ideal.ofBits .f32 3344957440#32)
      (v (ix4 b s g l) * Ideal.ofBits .f32 (IntOp.shli ArithUnit.vector (IntOp.addi (w (ix3 b s g)) 127#32) 23#32))) := by
  obtain rfl : g = 0 := Subsingleton.elim _ _
  pointwise [k0_pay36, k0_pay35]
theorem pay41_at (v w) (b : Fin 4) (s : Fin 384) (g : Fin 12) (l : Fin 128) :
    k0_pay41 (F := Ideal) v w 23#32 (ix4 b s g l) = min (Ideal.ofBits .f32 1197473792#32) (max (Ideal.ofBits .f32 3344957440#32)
      (v (ix4 b s g l) * Ideal.ofBits .f32 (IntOp.shli ArithUnit.vector (w (ix3 b s g)) 23#32))) := by
  pointwise [k0_pay41]
theorem pay31_at (w) (b : Fin 4) (s : Fin 384) (g : Fin 4) :
    k0_pay31 (F := Ideal) w (ix3 b s g) = Ideal.ofBits .f32 (IntOp.shli ArithUnit.vector (IntOp.addi (w (ix3 b s g)) 127#32) 23#32) := by
  pointwise [k0_pay31]
theorem pay37_at (w) (b : Fin 4) (s : Fin 384) (g : Fin 1) :
    k0_pay37 (F := Ideal) w (ix3 b s g) = Ideal.ofBits .f32 (IntOp.shli ArithUnit.vector (IntOp.addi (w (ix3 b s g)) 127#32) 23#32) := by
  obtain rfl : g = 0 := Subsingleton.elim _ _
  pointwise [k0_pay37]
theorem pay42_at (w) (b : Fin 4) (s : Fin 384) (g : Fin 12) :
    k0_pay42 (F := Ideal) w (ix3 b s g) = Ideal.ofBits .f32 (IntOp.shli ArithUnit.vector (IntOp.addi (w (ix3 b s g)) 127#32) 23#32) := by
  pointwise [k0_pay42]

/-! The same, as the numbers the specification names. -/

section Spec
variable (D : ℕ → ℕ → ℕ → EReal) (b : Fin 4) (s : Fin 384)

theorem code30 (v : FVec Ideal S4x384x512 .f32) (hv : ∀ (b : Fin 4) (s : Fin 384) (o : Fin 512), v (ix3 b s o) = D b s o) (g : Fin 4) (l : Fin 128) :
    k0_pay30 (F := Ideal) (k0_pay27 v) (k0_pay29 v) (ix4 b s g l) = codeOf (level 128 fun k => D b s (128 * g + k)) (D b s (g.val * 128 + l.val)) := by
  rw [pay30_at, pay27_at, hv, pay29_at, pay28_expo v D hv, word_inv, codeOf]
theorem code36 (v : FVec Ideal S4x384x64 .f32) (hv : ∀ (b : Fin 4) (s : Fin 384) (o : Fin 64), v (ix3 b s o) = D b s o) (g : Fin 1) (l : Fin 64) :
    k0_pay36 (F := Ideal) (k0_pay32 v) (k0_pay34 v) k0_pay35 (ix4 b s g l) = codeOf (level 64 (D b s)) (D b s l) := by
  rw [pay36_at, pay32_at, hv, pay34_at, pay33_expo v D hv, word_inv, codeOf]
  simp only [Fin.val_eq_zero, Nat.mul_zero, Nat.zero_add]
theorem code41 (v : FVec Ideal S4x384x1536 .f32) (hv : ∀ (b : Fin 4) (s : Fin 384) (o : Fin 1536), v (ix3 b s o) = D b s o) (g : Fin 12) (l : Fin 128) :
    k0_pay41 (F := Ideal) (k0_pay38 v) (k0_pay40 v) 23#32 (ix4 b s g l) = codeOf (level 128 fun k => D b s (128 * g + k)) (D b s (g.val * 128 + l.val)) := by
  rw [pay41_at, pay38_at, hv, pay40_at, pay39_expo v D hv, word_inv, codeOf]
theorem scale31 (v : FVec Ideal S4x384x512 .f32) (hv : ∀ (b : Fin 4) (s : Fin 384) (o : Fin 512), v (ix3 b s o) = D b s o) (g : Fin 4) :
    k0_pay31 (F := Ideal) (k0_pay28 v) (ix3 b s g) = scaleOf (level 128 fun k => D b s (128 * g + k)) := by
  rw [pay31_at, pay28_expo v D hv, word_scale, scaleOf]
theorem scale37 (v : FVec Ideal S4x384x64 .f32) (hv : ∀ (b : Fin 4) (s : Fin 384) (o : Fin 64), v (ix3 b s o) = D b s o) (g : Fin 1) :
    k0_pay37 (F := Ideal) (k0_pay33 v) (ix3 b s g) = scaleOf (level 64 (D b s)) := by
  rw [pay37_at, pay33_expo v D hv, word_scale, scaleOf]
  simp only [Fin.val_eq_zero, Nat.mul_zero, Nat.zero_add]
theorem scale42 (v : FVec Ideal S4x384x1536 .f32) (hv : ∀ (b : Fin 4) (s : Fin 384) (o : Fin 1536), v (ix3 b s o) = D b s o) (g : Fin 12) :
    k0_pay42 (F := Ideal) (k0_pay39 v) (ix3 b s g) = scaleOf (level 128 fun k => D b s (128 * g + k)) := by
  rw [pay42_at, pay39_expo v D hv, word_scale, scaleOf]
end Spec

end Cert.ReferenceIdeal.Hand

end
-- ==== Proof.RefGradient.lean ====
/- The reference's input gradient, and its codes and scales side by side. -/
module

public import proofs.«01_k».proof.Proof.Gen.ReferenceIdeal.Value
public import proofs.«01_k».proof.Proof.IdealSpec

@[expose] public section

set_option maxRecDepth 16384

noncomputable section

namespace Cert.ReferenceIdeal.Hand

open Idealize.ShloMosaic Idealize.ShloMosaic.TcCoe Cert.ReferenceIdeal Cert.ReferenceIdeal.Gen
open Cert.KernelIdeal.Hand (T2 T3 T3_ix Ins expo scaleWord_eq invWord_eq scaleOf codeOf level amax xw wt cc eps rstd mean normBack k512 k1536 rstdL rstdQ dL dQ dR freq freqWords angle levelL levelQ levelR kvc kvs qc qs gg dxv gpL gpQ glp gqp theta expWord countB)

/-! The payloads at an element. -/

theorem pay43_at (v24 v25 v26 v306 v311 v349 v354 v355 v377 v381) (b : Fin 4) (s : Fin 384) (o : Fin 5120) :
    k0_pay43 (F := Ideal) v24 v25 v26 v306 v311 v349 v354 v355 v377 v381 23#32 (ix3 b s o)
      = ∑ x : Fin 512, v306 (ix4 b s ⟨x.val / 128, by omega⟩ ⟨x.val % 128, by omega⟩) * v311 (ix3 b s ⟨x.val / 128, by omega⟩) * v24 (ix2 x o)
        + ∑ x : Fin 64, v349 (ix4 b s 0 x) * v354 (ix3 b s 0) * v25 (ix2 x o)
        + ∑ x : Fin 1536, (k0_pay41 (F := Ideal) v355 v381 23#32 (ix4 b s ⟨x.val / 128, by omega⟩ ⟨x.val % 128, by omega⟩) : EReal) * (k0_pay42 (F := Ideal) v377 (ix3 b s ⟨x.val / 128, by omega⟩) : EReal) * v26 (ix2 x o) := by
  pointwise [k0_pay43]
theorem pay1_at (v w) (b : Fin 4) (s : Fin 384) (o : Fin 576) :
    k0_pay1 (F := Ideal) v w (ix3 b s o) = if h : (o : ℕ) < 512 then v (ix3 b s ⟨o.val, h⟩) else w (ix3 b s ⟨o.val - 512, by omega⟩) := by
  pointwise [k0_pay1]
theorem pay44_at (v) (b : Fin 4) (s : Fin 384) (o : Fin 512) : k0_pay44 (F := Ideal) v (ix3 b s o) = v (ix4 b s ⟨o.val / 128, by omega⟩ ⟨o.val % 128, by omega⟩) := by
  pointwise [k0_pay44]
theorem pay45_at (v) (b : Fin 4) (s : Fin 384) (o : Fin 64) : k0_pay45 (F := Ideal) v (ix3 b s o) = v (ix4 b s 0 o) := by
  pointwise [k0_pay45]
theorem pay2_at (v w) (b : Fin 4) (s : Fin 384) (g : Fin 5) :
    k0_pay2 (F := Ideal) v w (ix3 b s g) = if h : (g : ℕ) < 4 then v (ix3 b s ⟨g.val, h⟩) else w (ix3 b s ⟨g.val - 4, by omega⟩) := by
  pointwise [k0_pay2]
theorem pay3_at (v) (b : Fin 4) (s : Fin 384) (o : Fin 1536) : k0_pay3 (F := Ideal) v (ix3 b s o) = v (ix4 b s ⟨o.val / 128, by omega⟩ ⟨o.val % 128, by omega⟩) := by
  pointwise [k0_pay3]

/-- A sum over the kernel's 2304 rows, the last 192 of which are zero, in the reference's order. -/
theorem sum_parts (f : ℕ → EReal) (h : ∀ x : Fin 192, f (2112 + x) = 0) :
    ∑ k : Fin 2304, f k = ∑ x : Fin 512, f x + ∑ x : Fin 64, f (2048 + x) + ∑ x : Fin 1536, f (512 + x) := by
  have e := Finset.sum_range (n := 2304) f
  have e1 := Finset.sum_range (n := 512) f
  have e2 := Finset.sum_range (n := 64) fun x => f (2048 + x)
  have e3 := Finset.sum_range (n := 1536) fun x => f (512 + x)
  have e4 := Finset.sum_range (n := 192) fun x => f (2112 + x)
  rw [← e, ← e1, ← e2, ← e3]
  rw [show 2304 = 512 + 1536 + 64 + 192 from rfl, Finset.sum_range_add, Finset.sum_range_add, Finset.sum_range_add]
  rw [show 512 + 1536 + 64 = 2112 from rfl, show 512 + 1536 = 2048 from rfl, e4, Finset.sum_eq_zero fun x _ => h x, add_zero, add_right_comm]

theorem pay43_dxv (I : Ins) (v24 v25 v26 v306 v311 v349 v354 v355 v377 v381)
    (h24 : ∀ (x : Fin 512) (d : Fin 5120), v24 (ix2 x d) = wt I x d) (h25 : ∀ (x : Fin 64) (d : Fin 5120), v25 (ix2 x d) = wt I (2048 + x) d)
    (h26 : ∀ (x : Fin 1536) (d : Fin 5120), v26 (ix2 x d) = wt I (512 + x) d) (b : Fin 4) (s : Fin 384)
    (hL : ∀ (g : Fin 4) (l : Fin 128), v306 (ix4 b s g l) = codeOf (levelL I b s g) (dL I b s (g.val * 128 + l.val)))
    (hLs : ∀ g : Fin 4, v311 (ix3 b s g) = scaleOf (levelL I b s g))
    (hR : ∀ l : Fin 64, v349 (ix4 b s 0 l) = codeOf (levelR I b s) (dR I b s l)) (hRs : v354 (ix3 b s 0) = scaleOf (levelR I b s))
    (hQ : ∀ (g : Fin 12) (l : Fin 128), k0_pay41 (F := Ideal) v355 v381 23#32 (ix4 b s g l) = codeOf (levelQ I b s g) (dQ I b s (g.val * 128 + l.val)))
    (hQs : ∀ g : Fin 12, k0_pay42 (F := Ideal) v377 (ix3 b s g) = scaleOf (levelQ I b s g)) (d : Fin 5120) :
    k0_pay43 (F := Ideal) v24 v25 v26 v306 v311 v349 v354 v355 v377 v381 23#32 (ix3 b s d) = dxv I b s d := by
  rw [pay43_at, dxv, sum_parts (fun k => gg I b s k * wt I k d)]
  · congr 1
    · congr 1
      · refine Finset.sum_congr rfl fun x _ => ?_
        have hx := x.isLt
        rw [h24, hL, hLs, gg, if_pos hx, kvc, if_pos hx, kvs, if_pos (by omega)]
        rw [show x.val / 128 * 128 + x.val % 128 = x.val by omega]
      · refine Finset.sum_congr rfl fun x _ => ?_
        have hx := x.isLt
        rw [h25, hR, hRs, gg, if_neg (by omega), if_neg (by omega), if_pos (by omega), show 2048 + x.val - 1536 = 512 + x.val by omega, kvc, if_neg (by omega), kvs, if_neg (by omega),
          show 512 + x.val - 512 = x.val by omega]
    · refine Finset.sum_congr rfl fun x _ => ?_
      have hx := x.isLt
      rw [h26, hQ, hQs, gg, if_neg (by omega), if_pos (by omega), show 512 + x.val - 512 = x.val by omega, qc, qs]
      rw [show x.val / 128 * 128 + x.val % 128 = x.val by omega]
  · intro x
    have hx := x.isLt
    show gg I b s (2112 + x) * wt I (2112 + x) d = 0
    rw [gg, if_neg (by omega), if_neg (by omega), if_neg (by omega), zero_mul]

end Cert.ReferenceIdeal.Hand

end
-- ==== Proof.RefResults.lean ====
/- The reference's seven results, as the numbers the specification names. -/
module

public import proofs.«01_k».proof.Proof.RefParts
public import proofs.«01_k».proof.Proof.RefCodes
public import proofs.«01_k».proof.Proof.RefGradient

@[expose] public section

set_option maxRecDepth 16384

noncomputable section

namespace Cert.ReferenceIdeal.Hand

open Idealize.ShloMosaic Idealize.ShloMosaic.TcCoe Cert.ReferenceIdeal Cert.ReferenceIdeal.Gen
open Cert.KernelIdeal.Hand (T2 T3 T3_ix Ins expo scaleWord_eq invWord_eq scaleOf codeOf level amax xw wt cc eps rstd mean normBack k512 k1536 rstdL rstdQ dL dQ dR freq freqWords angle levelL levelQ levelR kvc kvs qc qs gg dxv gpL gpQ glp gqp insOf at1_eq at2_eq at3_eq theta expWord countB)

variable (a0 : Vec Ideal S4x384x5120 .fp8e4m3) (a1 : Vec Ideal S4x384x40 .f32) (a2 : Vec Ideal S576x5120 .fp8e4m3) (a3 : Vec Ideal S5x40 .f32) (a4 : Vec Ideal S512 .f32) (a5 : Vec Ideal S4x384 .i32) (a6 : Vec Ideal S4x384x512 .bf16) (a7 : Vec Ideal S4x384x64 .bf16) (a8 : Vec Ideal S1536x5120 .fp8e4m3) (a9 : Vec Ideal S12x40 .f32) (a10 : Vec Ideal S1536 .f32) (a11 : Vec Ideal S4x384x1536 .bf16)

/-! Codes and scales, block by block. -/

theorem pay55_code (b : Fin 4) (s : Fin 384) (g : Fin 4) (l : Fin 128) : k0_pay55 a0 a1 a2 a3 a4 a5 a6 a7 a8 a9 a10 a11 (ix4 b s g l) = codeOf (levelL (insOf a0 a1 a2 a3 a4 a5 a6 a7 a8 a9 a10 a11) b s g) (dL (insOf a0 a1 a2 a3 a4 a5 a6 a7 a8 a9 a10 a11) b s (g.val * 128 + l.val)) := by
  rw [k0_pay55, levelL]
  exact code30 (dL (insOf a0 a1 a2 a3 a4 a5 a6 a7 a8 a9 a10 a11)) b s _ (pay48_dL a0 a1 a2 a3 a4 a5 a6 a7 a8 a9 a10 a11) g l
theorem pay56_scale (b : Fin 4) (s : Fin 384) (g : Fin 4) : k0_pay56 a0 a1 a2 a3 a4 a5 a6 a7 a8 a9 a10 a11 (ix3 b s g) = scaleOf (levelL (insOf a0 a1 a2 a3 a4 a5 a6 a7 a8 a9 a10 a11) b s g) := by
  rw [k0_pay56, levelL]
  exact scale31 (dL (insOf a0 a1 a2 a3 a4 a5 a6 a7 a8 a9 a10 a11)) b s _ (pay48_dL a0 a1 a2 a3 a4 a5 a6 a7 a8 a9 a10 a11) g
theorem pay57_code (b : Fin 4) (s : Fin 384) (g : Fin 1) (l : Fin 64) : k0_pay57 a0 a1 a2 a3 a4 a5 a6 a7 a8 a9 a10 a11 (ix4 b s g l) = codeOf (levelR (insOf a0 a1 a2 a3 a4 a5 a6 a7 a8 a9 a10 a11) b s) (dR (insOf a0 a1 a2 a3 a4 a5 a6 a7 a8 a9 a10 a11) b s l) := by
  rw [k0_pay57, levelR]
  exact code36 (dR (insOf a0 a1 a2 a3 a4 a5 a6 a7 a8 a9 a10 a11)) b s _ (pay54_dR a0 a1 a2 a3 a4 a5 a6 a7 a8 a9 a10 a11) g l
theorem pay58_scale (b : Fin 4) (s : Fin 384) (g : Fin 1) : k0_pay58 a0 a1 a2 a3 a4 a5 a6 a7 a8 a9 a10 a11 (ix3 b s g) = scaleOf (levelR (insOf a0 a1 a2 a3 a4 a5 a6 a7 a8 a9 a10 a11) b s) := by
  rw [k0_pay58, levelR]
  exact scale37 (dR (insOf a0 a1 a2 a3 a4 a5 a6 a7 a8 a9 a10 a11)) b s _ (pay54_dR a0 a1 a2 a3 a4 a5 a6 a7 a8 a9 a10 a11) g
theorem query_code (b : Fin 4) (s : Fin 384) (g : Fin 12) (l : Fin 128) :
    k0_pay41 (F := Ideal) (k0_pay59 a0 a1 a2 a3 a4 a5 a6 a7 a8 a9 a10 a11) (k0_pay61 a0 a1 a2 a3 a4 a5 a6 a7 a8 a9 a10 a11) 23#32 (ix4 b s g l) = codeOf (levelQ (insOf a0 a1 a2 a3 a4 a5 a6 a7 a8 a9 a10 a11) b s g) (dQ (insOf a0 a1 a2 a3 a4 a5 a6 a7 a8 a9 a10 a11) b s (g.val * 128 + l.val)) := by
  rw [k0_pay59, k0_pay61, levelQ]
  exact code41 (dQ (insOf a0 a1 a2 a3 a4 a5 a6 a7 a8 a9 a10 a11)) b s _ (pay53_dQ a0 a1 a2 a3 a4 a5 a6 a7 a8 a9 a10 a11) g l
theorem query_scale (b : Fin 4) (s : Fin 384) (g : Fin 12) : k0_pay42 (F := Ideal) (k0_pay60 a0 a1 a2 a3 a4 a5 a6 a7 a8 a9 a10 a11) (ix3 b s g) = scaleOf (levelQ (insOf a0 a1 a2 a3 a4 a5 a6 a7 a8 a9 a10 a11) b s g) := by
  rw [k0_pay60, levelQ]
  exact scale42 (dQ (insOf a0 a1 a2 a3 a4 a5 a6 a7 a8 a9 a10 a11)) b s _ (pay53_dQ a0 a1 a2 a3 a4 a5 a6 a7 a8 a9 a10 a11) g

/-! The seven results. -/

theorem result12_at (b : Fin 4) (s : Fin 384) (d : Fin 5120) : Value.G12 a0 a1 a2 a3 a4 a5 a6 a7 a8 a9 a10 a11 (ix3 b s d) = dxv (insOf a0 a1 a2 a3 a4 a5 a6 a7 a8 a9 a10 a11) b s d :=
  pay43_dxv (insOf a0 a1 a2 a3 a4 a5 a6 a7 a8 a9 a10 a11) _ _ _ _ _ _ _ _ _ _ (pay5_wt (insOf a0 a1 a2 a3 a4 a5 a6 a7 a8 a9 a10 a11) _ _ (arg3_at a0 a1 a2 a3 a4 a5 a6 a7 a8 a9 a10 a11) (low_at a0 a1 a2 a3 a4 a5 a6 a7 a8 a9 a10 a11)) (pay6_wt (insOf a0 a1 a2 a3 a4 a5 a6 a7 a8 a9 a10 a11) _ _ (arg3_at a0 a1 a2 a3 a4 a5 a6 a7 a8 a9 a10 a11) (high_at a0 a1 a2 a3 a4 a5 a6 a7 a8 a9 a10 a11))
    (pay7_wt (insOf a0 a1 a2 a3 a4 a5 a6 a7 a8 a9 a10 a11) _ _ (arg9_at a0 a1 a2 a3 a4 a5 a6 a7 a8 a9 a10 a11) (arg8_at a0 a1 a2 a3 a4 a5 a6 a7 a8 a9 a10 a11)) b s (pay55_code a0 a1 a2 a3 a4 a5 a6 a7 a8 a9 a10 a11 b s) (pay56_scale a0 a1 a2 a3 a4 a5 a6 a7 a8 a9 a10 a11 b s) (pay57_code a0 a1 a2 a3 a4 a5 a6 a7 a8 a9 a10 a11 b s 0) (pay58_scale a0 a1 a2 a3 a4 a5 a6 a7 a8 a9 a10 a11 b s 0)
    (query_code a0 a1 a2 a3 a4 a5 a6 a7 a8 a9 a10 a11 b s) (query_scale a0 a1 a2 a3 a4 a5 a6 a7 a8 a9 a10 a11 b s) d
theorem result13_at (b : Fin 4) (r : Fin 3) (o : Fin 512) : Value.G13 a0 a1 a2 a3 a4 a5 a6 a7 a8 a9 a10 a11 (ix3 b r o) = glp (insOf a0 a1 a2 a3 a4 a5 a6 a7 a8 a9 a10 a11) b r o :=
  pay14_glp (insOf a0 a1 a2 a3 a4 a5 a6 a7 a8 a9 a10 a11) _ (pay46_cc a0 a1 a2 a3 a4 a5 a6 a7 a8 a9 a10 a11) _ (arg6_at a0 a1 a2 a3 a4 a5 a6 a7 a8 a9 a10 a11) b r o
theorem result14_at (b : Fin 4) (r : Fin 3) (o : Fin 1536) : Value.G14 a0 a1 a2 a3 a4 a5 a6 a7 a8 a9 a10 a11 (ix3 b r o) = gqp (insOf a0 a1 a2 a3 a4 a5 a6 a7 a8 a9 a10 a11) b r o := by
  rw [Value.G14, k0_pay49, k0_pay50, k0_pay51, View.ld_unit_zero (S := S4x384x1536) Value.hz11 _ a11]
  exact pay20_gqp (insOf a0 a1 a2 a3 a4 a5 a6 a7 a8 a9 a10 a11) _ (pay47_cc a0 a1 a2 a3 a4 a5 a6 a7 a8 a9 a10 a11) _ (arg11_at a0 a1 a2 a3 a4 a5 a6 a7 a8 a9 a10 a11) b r o
theorem result15_at (b : Fin 4) (s : Fin 384) (o : Fin 576) : Value.G15 a0 a1 a2 a3 a4 a5 a6 a7 a8 a9 a10 a11 (ix3 b s o) = kvc (insOf a0 a1 a2 a3 a4 a5 a6 a7 a8 a9 a10 a11) b s o := by
  have ho := o.isLt
  rw [Value.G15, pay1_at, kvc]
  by_cases h : o.val < 512
  · rw [dif_pos h, if_pos h, pay44_at, pay55_code]
    rw [show o.val / 128 * 128 + o.val % 128 = o.val by omega]
  · rw [dif_neg h, if_neg h, pay45_at, pay57_code]
theorem result16_at (b : Fin 4) (s : Fin 384) (g : Fin 5) : Value.G16 a0 a1 a2 a3 a4 a5 a6 a7 a8 a9 a10 a11 (ix3 b s g) = kvs (insOf a0 a1 a2 a3 a4 a5 a6 a7 a8 a9 a10 a11) b s g := by
  rw [Value.G16, pay2_at, kvs]
  by_cases h : g.val < 4
  · rw [dif_pos h, if_pos h, pay56_scale]
  · rw [dif_neg h, if_neg h, pay58_scale]
theorem result17_at (b : Fin 4) (s : Fin 384) (o : Fin 1536) : Value.G17 a0 a1 a2 a3 a4 a5 a6 a7 a8 a9 a10 a11 (ix3 b s o) = qc (insOf a0 a1 a2 a3 a4 a5 a6 a7 a8 a9 a10 a11) b s o := by
  have ho := o.isLt
  rw [Value.G17, pay3_at, query_code, qc]
  rw [show o.val / 128 * 128 + o.val % 128 = o.val by omega]
theorem result18_at (b : Fin 4) (s : Fin 384) (g : Fin 12) : Value.G18 a0 a1 a2 a3 a4 a5 a6 a7 a8 a9 a10 a11 (ix3 b s g) = qs (insOf a0 a1 a2 a3 a4 a5 a6 a7 a8 a9 a10 a11) b s g := by
  rw [Value.G18, query_scale, qs]

/-- An array is a function of the numbers of its coordinates when each element is. -/
theorem eq_T3 {l m n : ℕ} (v : (⟨3, ![l, m, n]⟩ : Shape).Idx → EReal) (f : ℕ → ℕ → ℕ → EReal) (h : ∀ (a : Fin l) (b : Fin m) (c : Fin n), v (ix3 a b c) = f a b c) : v = T3 f := by
  funext y
  exact (congrArg v (eq_ix3 y)).trans (h (y 0) (y 1) (y 2))

theorem result12 : Value.G12 a0 a1 a2 a3 a4 a5 a6 a7 a8 a9 a10 a11 = (T3 (dxv (insOf a0 a1 a2 a3 a4 a5 a6 a7 a8 a9 a10 a11)) : Vec Ideal S4x384x5120 .bf16) := eq_T3 _ (dxv (insOf a0 a1 a2 a3 a4 a5 a6 a7 a8 a9 a10 a11)) (result12_at a0 a1 a2 a3 a4 a5 a6 a7 a8 a9 a10 a11)
theorem result13 : Value.G13 a0 a1 a2 a3 a4 a5 a6 a7 a8 a9 a10 a11 = (T3 (glp (insOf a0 a1 a2 a3 a4 a5 a6 a7 a8 a9 a10 a11)) : Vec Ideal S4x3x512 .f32) := eq_T3 _ (glp (insOf a0 a1 a2 a3 a4 a5 a6 a7 a8 a9 a10 a11)) (result13_at a0 a1 a2 a3 a4 a5 a6 a7 a8 a9 a10 a11)
theorem result14 : Value.G14 a0 a1 a2 a3 a4 a5 a6 a7 a8 a9 a10 a11 = (T3 (gqp (insOf a0 a1 a2 a3 a4 a5 a6 a7 a8 a9 a10 a11)) : Vec Ideal S4x3x1536 .f32) := eq_T3 _ (gqp (insOf a0 a1 a2 a3 a4 a5 a6 a7 a8 a9 a10 a11)) (result14_at a0 a1 a2 a3 a4 a5 a6 a7 a8 a9 a10 a11)
theorem result15 : Value.G15 a0 a1 a2 a3 a4 a5 a6 a7 a8 a9 a10 a11 = (T3 (kvc (insOf a0 a1 a2 a3 a4 a5 a6 a7 a8 a9 a10 a11)) : Vec Ideal S4x384x576 .fp8e5m2) := eq_T3 _ (kvc (insOf a0 a1 a2 a3 a4 a5 a6 a7 a8 a9 a10 a11)) (result15_at a0 a1 a2 a3 a4 a5 a6 a7 a8 a9 a10 a11)
theorem result16 : Value.G16 a0 a1 a2 a3 a4 a5 a6 a7 a8 a9 a10 a11 = (T3 (kvs (insOf a0 a1 a2 a3 a4 a5 a6 a7 a8 a9 a10 a11)) : Vec Ideal S4x384x5 .f32) := eq_T3 _ (kvs (insOf a0 a1 a2 a3 a4 a5 a6 a7 a8 a9 a10 a11)) (result16_at a0 a1 a2 a3 a4 a5 a6 a7 a8 a9 a10 a11)
theorem result17 : Value.G17 a0 a1 a2 a3 a4 a5 a6 a7 a8 a9 a10 a11 = (T3 (qc (insOf a0 a1 a2 a3 a4 a5 a6 a7 a8 a9 a10 a11)) : Vec Ideal S4x384x1536 .fp8e5m2) := eq_T3 _ (qc (insOf a0 a1 a2 a3 a4 a5 a6 a7 a8 a9 a10 a11)) (result17_at a0 a1 a2 a3 a4 a5 a6 a7 a8 a9 a10 a11)
theorem result18 : Value.G18 a0 a1 a2 a3 a4 a5 a6 a7 a8 a9 a10 a11 = (T3 (qs (insOf a0 a1 a2 a3 a4 a5 a6 a7 a8 a9 a10 a11)) : Vec Ideal S4x384x12 .f32) := eq_T3 _ (qs (insOf a0 a1 a2 a3 a4 a5 a6 a7 a8 a9 a10 a11)) (result18_at a0 a1 a2 a3 a4 a5 a6 a7 a8 a9 a10 a11)

end Cert.ReferenceIdeal.Hand

end
-- ==== Proof.RefRun.lean ====
/- The reference's run, read as the specification. -/
module

public import proofs.«01_k».proof.Proof.RefResults

@[expose] public section

set_option maxRecDepth 16384

noncomputable section

namespace Cert.ReferenceIdeal.Hand

open Idealize.ShloMosaic Idealize.ShloMosaic.TcCoe Cert.ReferenceIdeal Cert.ReferenceIdeal.Gen
open Cert.KernelIdeal.Hand (T2 T3 T3_ix Ins expo scaleWord_eq invWord_eq scaleOf codeOf level amax xw wt cc eps rstd mean normBack k512 k1536 rstdL rstdQ dL dQ dR freq freqWords angle levelL levelQ levelR kvc kvs qc qs gg dxv gpL gpQ glp gqp insOf at1_eq at2_eq at3_eq theta expWord countB)

open Idealize.SL.Sem

variable (m : (ℓ : Loc nD τ sig) → Buf (Elt Ideal) ℓ) (ρ : Dev nD → PrngReg)

/-- The arguments of a run. -/
def insR (c : Dev nD) : Ins := insOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The reference leaves the specification's arrays in its results, and its arguments as they were. -/
theorem run_values : θ_run defs (onTc (τ := τ) (main (F := Ideal))) ⟨m, fun _ => 0, ρ⟩ (fun r => ∀ c : Dev nD,
      r.2.mem ((c : Thread nD τ).loc main_v0_0) = (T3 (dxv (insR m c)) : Vec Ideal S4x384x5120 .bf16)
      ∧ r.2.mem ((c : Thread nD τ).loc main_v0_1) = (T3 (glp (insR m c)) : Vec Ideal S4x3x512 .f32)
      ∧ r.2.mem ((c : Thread nD τ).loc main_v0_2) = (T3 (gqp (insR m c)) : Vec Ideal S4x3x1536 .f32)
      ∧ r.2.mem ((c : Thread nD τ).loc main_v0_3) = (T3 (kvc (insR m c)) : Vec Ideal S4x384x576 .fp8e5m2)
      ∧ r.2.mem ((c : Thread nD τ).loc main_v0_4) = (T3 (kvs (insR m c)) : Vec Ideal S4x384x5 .f32)
      ∧ r.2.mem ((c : Thread nD τ).loc main_v0_5) = (T3 (qc (insR m c)) : Vec Ideal S4x384x1536 .fp8e5m2)
      ∧ r.2.mem ((c : Thread nD τ).loc main_v0_6) = (T3 (qs (insR m c)) : Vec Ideal S4x384x12 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun r h c => by
    obtain ⟨h0, h1, h2, h3, h4, h5, h6, h7⟩ := h c
    exact ⟨h0.trans (result12 _ _ _ _ _ _ _ _ _ _ _ _), h1.trans (result13 _ _ _ _ _ _ _ _ _ _ _ _), h2.trans (result14 _ _ _ _ _ _ _ _ _ _ _ _), h3.trans (result15 _ _ _ _ _ _ _ _ _ _ _ _), h4.trans (result16 _ _ _ _ _ _ _ _ _ _ _ _), h5.trans (result17 _ _ _ _ _ _ _ _ _ _ _ _), h6.trans (result18 _ _ _ _ _ _ _ _ _ _ _ _), h7⟩) (Value.run m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Frame
public import proofs.«01_k».proof.Proof.IdealFrame
public import proofs.«01_k».proof.Proof.IdealResults
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- One function of equal arguments. -/
theorem same {α β : Type} (f : α → β) {x : β} {a b : α} (h : x = f a) (e : a = b) : x = f b := e ▸ h

open Cert.KernelIdeal.Hand (T3 Ins insM dxv glp gqp kvc kvs qc qs) in
/-- The kernel and the reference, over exact arithmetic, end with the same seven arrays. -/
theorem algebraic : Cert.algebraic_KernelIdeal_ReferenceIdeal (hKernelIdeal := Cert.KernelIdeal.Gen.facts) (hReferenceIdeal := Cert.ReferenceIdeal.Gen.facts) := by
  intro m g m' g' _ h
  have e : ∀ c : Dev Cert.KernelIdeal.nD, Cert.ReferenceIdeal.Hand.insR m' c = insM m c := fun c => by
    obtain ⟨h0, h1, h2, h3, h4, h5, h6, h7, h8, h9, h10, h11⟩ := h c
    unfold Cert.ReferenceIdeal.Hand.insR insM
    rw [h0, h1, h2, h3, h4, h5, h6, h7, h8, h9, h10, h11]
  refine ⟨fun c => T3 (dxv (insM m c)), fun c => T3 (glp (insM m c)), fun c => T3 (gqp (insM m c)), fun c => T3 (kvc (insM m c)), fun c => T3 (kvs (insM m c)), fun c => T3 (qc (insM m c)), fun c => T3 (qs (insM m c)), Cert.KernelIdeal.Hand.run_values m g, ?_⟩
  refine (θ_run _ _ _).mono (fun r hr c => ?_) (Cert.ReferenceIdeal.Hand.run_values m' g')
  obtain ⟨r0, r1, r2, r3, r4, r5, r6, ra⟩ := hr c
  exact ⟨same (fun I : Ins => T3 (dxv I)) r0 (e c), same (fun I : Ins => T3 (glp I)) r1 (e c), same (fun I : Ins => T3 (gqp I)) r2 (e c), same (fun I : Ins => T3 (kvc I)) r3 (e c), same (fun I : Ins => T3 (kvs I)) r4 (e c), same (fun I : Ins => T3 (qc I)) r5 (e c), same (fun I : Ins => T3 (qs I)) r6 (e c), ra⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  IdealRules.named_const.statement Cert.KernelIdeal.κ "inv_q" .f32 0x3A2AAAAB#32 _ rfl, algebraic⟩

end Cert.Proof

end
